-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S32 : Shape := ⟨1, ![32]⟩
abbrev S_ : Shape := ⟨0, ![]⟩
abbrev S1 : Shape := ⟨1, ![1]⟩
abbrev S3 : Shape := ⟨1, ![3]⟩
abbrev S64x2048 : Shape := ⟨2, ![64, 2048]⟩
abbrev S2048x2048 : Shape := ⟨2, ![2048, 2048]⟩
abbrev S16x64x2048 : Shape := ⟨3, ![16, 64, 2048]⟩
abbrev S15x64x2048 : Shape := ⟨3, ![15, 64, 2048]⟩
abbrev S30 : Shape := ⟨1, ![30]⟩
abbrev S512x1024 : Shape := ⟨2, ![512, 1024]⟩
abbrev S512x2048 : Shape := ⟨2, ![512, 2048]⟩
abbrev S1x64x1024 : Shape := ⟨3, ![1, 64, 1024]⟩
abbrev S64x1024 : Shape := ⟨2, ![64, 1024]⟩

abbrev nBuf : Space → Nat
  | .hbm => 76
  | .vmem => 6
  | .smem => 2
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i1⟩
  | .hbm, ⟨32, _⟩ => ⟨S_, .i1⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i1⟩
  | .hbm, ⟨60, _⟩ => ⟨S_, .i1⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S1, .i32⟩
  | .hbm, ⟨73, _⟩ => ⟨S1, .i32⟩
  | .hbm, ⟨74, _⟩ => ⟨S3, .i32⟩
  | .hbm, ⟨75, _⟩ => ⟨S64x2048, .f32⟩
  | .local _ .vmem, ⟨0, _⟩ => ⟨S2048x1024, .bf16⟩
  | .local _ .vmem, ⟨1, _⟩ => ⟨S1024x2048, .bf16⟩
  | .local _ .vmem, ⟨2, _⟩ => ⟨S64x2048, .f32⟩
  | .local _ .vmem, ⟨3, _⟩ => ⟨S2048x2048, .bf16⟩
  | .local _ .vmem, ⟨4, _⟩ => ⟨S16x64x2048, .bf16⟩
  | .local _ .vmem, ⟨5, _⟩ => ⟨S15x64x2048, .bf16⟩
  | .local _ .smem, ⟨0, _⟩ => ⟨S32, .i32⟩
  | .local _ .smem, ⟨1, _⟩ => ⟨S3, .i32⟩
  | _, _ => ⟨S2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 129 → Bool
  | ⟨i, _⟩ => dmaSemScopedAt i

abbrev sig : RefSig :=
  (ofTc nBuf bufTy 1 129 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_v18 : Ref sig .tc := ⟨.hbm, 46, rfl⟩
abbrev main_c_11 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_c_1 : Ref sig .tc := ⟨.hbm, 54, rfl⟩
abbrev main_call1_v4 : Ref sig .tc := ⟨.hbm, 55, rfl⟩
abbrev main_call1_c_2 : Ref sig .tc := ⟨.hbm, 56, rfl⟩
abbrev main_call1_v5 : Ref sig .tc := ⟨.hbm, 57, rfl⟩
abbrev main_call1_c_3 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_c_13 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (v5 : BitVec 32) : Nat :=
  let c0_i32 : BitVec 32 := 0#32
  let c1_i32_1 : BitVec 32 := 1#32
  let v7 : BitVec 32 := Scalar.muli v5 c1_i32_1
  let v8 : BitVec 32 := Scalar.addi c0_i32 v7
  v8.toNat

def k0_dev2 (v4 : BitVec 32) : Nat :=
  let c0_i32_4 : BitVec 32 := 0#32
  let c1_i32_3 : BitVec 32 := 1#32
  let v9 : BitVec 32 := Scalar.muli v4 c1_i32_3
  let v10 : BitVec 32 := Scalar.addi c0_i32_4 v9
  v10.toNat

def k0_off1 (v3 : BitVec 32) : Fin 1 → Nat :=
  let c16_i32 : BitVec 32 := 16#32
  let v47 : BitVec 32 := Scalar.addi v3 c16_i32
  let c0_i32_29 : BitVec 32 := 0#32
  let v48 : BitVec 32 := Scalar.subi v47 c0_i32_29
  let c32_i32_30 : BitVec 32 := 32#32
  let v49 : BitVec 32 := Scalar.remsi v48 c32_i32_30
  let v50 : Index := Scalar.indexCast v49
  ![v50.toNat]

def k0_off2 (v3 : BitVec 32) : Fin 1 → Nat :=
  let c32_i32_31 : BitVec 32 := 32#32
  let v52 : BitVec 32 := Scalar.addi v3 c32_i32_31
  let c15_i32 : BitVec 32 := 15#32
  let v53 : BitVec 32 := Scalar.subi v52 c15_i32
  let c0_i32_32 : BitVec 32 := 0#32
  let v54 : BitVec 32 := Scalar.addi v53 c0_i32_32
  let c32_i32_33 : BitVec 32 := 32#32
  let v55 : BitVec 32 := Scalar.remsi v54 c32_i32_33
  let v56 : Index := Scalar.indexCast v55
  ![v56.toNat]
def k0_off3 (v51 : BitVec 32) : Fin 2 → Nat :=
  let c64_i32 : BitVec 32 := 64#32
  let v58 : BitVec 32 := Scalar.muli v51 c64_i32
  let c0_i32_41 : BitVec 32 := 0#32
  ![v58.toNat, 0]

def k0_dev3 (v4 : BitVec 32) : Nat :=
  let c0_i32_38 : BitVec 32 := 0#32
  let c1_i32_37 : BitVec 32 := 1#32
  let v59 : BitVec 32 := Scalar.muli v4 c1_i32_37
  let v60 : BitVec 32 := Scalar.addi c0_i32_38 v59
  v60.toNat
def k0_off4 (v57 : BitVec 32) : Fin 2 → Nat :=
  let c64_i32_42 : BitVec 32 := 64#32
  let v68 : BitVec 32 := Scalar.muli v57 c64_i32_42
  let c0_i32_50 : BitVec 32 := 0#32
  ![v68.toNat, 0]

def k0_dev4 (v5 : BitVec 32) : Nat :=
  let c0_i32_47 : BitVec 32 := 0#32
  let c1_i32_46 : BitVec 32 := 1#32
  let v69 : BitVec 32 := Scalar.muli v5 c1_i32_46
  let v70 : BitVec 32 := Scalar.addi c0_i32_47 v69
  v70.toNat
def k0_off5 (v51 : BitVec 32) : Fin 2 → Nat :=
  let c64_i32_51 : BitVec 32 := 64#32
  let v78 : BitVec 32 := Scalar.muli v51 c64_i32_51
  let c1024_i32_58 : BitVec 32 := 1024#32
  ![v78.toNat, 1024]
def k0_dev5 (v4 : BitVec 32) : Nat :=
  let c0_i32_56 : BitVec 32 := 0#32
  let c1_i32_55 : BitVec 32 := 1#32
  let v79 : BitVec 32 := Scalar.muli v4 c1_i32_55
  let v80 : BitVec 32 := Scalar.addi c0_i32_56 v79
  v80.toNat
def k0_off6 (v57 : BitVec 32) : Fin 2 → Nat :=
  let c64_i32_59 : BitVec 32 := 64#32
  let v88 : BitVec 32 := Scalar.muli v57 c64_i32_59
  let c1024_i32_67 : BitVec 32 := 1024#32
  ![v88.toNat, 1024]
def k0_dev6 (v5 : BitVec 32) : Nat :=
  let c0_i32_64 : BitVec 32 := 0#32
  let c1_i32_63 : BitVec 32 := 1#32
  let v89 : BitVec 32 := Scalar.muli v5 c1_i32_63
  let v90 : BitVec 32 := Scalar.addi c0_i32_64 v89
  v90.toNat
def k0_off7 (v3 : BitVec 32) : Fin 1 → Nat :=
  let c16_i32_68 : BitVec 32 := 16#32
  let v98 : BitVec 32 := Scalar.addi v3 c16_i32_68
  let c1_i32_69 : BitVec 32 := 1#32
  let v99 : BitVec 32 := Scalar.subi v98 c1_i32_69
  let c32_i32_70 : BitVec 32 := 32#32
  let v100 : BitVec 32 := Scalar.remsi v99 c32_i32_70
  let v101 : Index := Scalar.indexCast v100
  ![v101.toNat]
def k0_off8 (v3 : BitVec 32) : Fin 1 → Nat :=
  let c32_i32_71 : BitVec 32 := 32#32
  let v103 : BitVec 32 := Scalar.addi v3 c32_i32_71
  let c15_i32_72 : BitVec 32 := 15#32
  let v104 : BitVec 32 := Scalar.subi v103 c15_i32_72
  let c1_i32_73 : BitVec 32 := 1#32
  let v105 : BitVec 32 := Scalar.addi v104 c1_i32_73
  let c32_i32_74 : BitVec 32 := 32#32
  let v106 : BitVec 32 := Scalar.remsi v105 c32_i32_74
  let v107 : Index := Scalar.indexCast v106
  ![v107.toNat]
def k0_off9 (v51 : BitVec 32) : Fin 2 → Nat :=
  let c64_i32 : BitVec 32 := 64#32
  let v58 : BitVec 32 := Scalar.muli v51 c64_i32
  let c0_i32_82 : BitVec 32 := 0#32
  ![v58.toNat, 0]
def k0_off10 (v102 : BitVec 32) : Fin 2 → Nat :=
  let c64_i32_83 : BitVec 32 := 64#32
  let v116 : BitVec 32 := Scalar.muli v102 c64_i32_83
  let v117 : Index := Scalar.indexCast v116
  let c0_84 : Index := 0#32
  ![v117.toNat, 0]

def k0_dev7 (v4 : BitVec 32) : Nat :=
  let c0_i32_96 : BitVec 32 := 0#32
  let c1_i32_95 : BitVec 32 := 1#32
  let v128 : BitVec 32 := Scalar.muli v4 c1_i32_95
  let v129 : BitVec 32 := Scalar.addi c0_i32_96 v128
  v129.toNat
def k0_off11 (v57 : BitVec 32) : Fin 2 → Nat :=
  let c64_i32_42 : BitVec 32 := 64#32
  let v68 : BitVec 32 := Scalar.muli v57 c64_i32_42
  let c0_i32_108 : BitVec 32 := 0#32
  ![v68.toNat, 0]
def k0_off12 (v108 : BitVec 32) : Fin 2 → Nat :=
  let c64_i32_109 : BitVec 32 := 64#32
  let v145 : BitVec 32 := Scalar.muli v108 c64_i32_109
  let v146 : Index := Scalar.indexCast v145
  let c0_110 : Index := 0#32
  ![v146.toNat, 0]

def k0_dev8 (v5 : BitVec 32) : Nat :=
  let c0_i32_122 : BitVec 32 := 0#32
  let c1_i32_121 : BitVec 32 := 1#32
  let v157 : BitVec 32 := Scalar.muli v5 c1_i32_121
  let v158 : BitVec 32 := Scalar.addi c0_i32_122 v157
  v158.toNat
def k0_off13 (v51 : BitVec 32) : Fin 2 → Nat :=
  let c64_i32_51 : BitVec 32 := 64#32
  let v78 : BitVec 32 := Scalar.muli v51 c64_i32_51
  let c1024_i32_134 : BitVec 32 := 1024#32
  ![v78.toNat, 1024]
def k0_off14 (v102 : BitVec 32) : Fin 2 → Nat :=
  let c64_i32_135 : BitVec 32 := 64#32
  let v174 : BitVec 32 := Scalar.muli v102 c64_i32_135
  let v175 : Index := Scalar.indexCast v174
  let c1024_136 : Index := 1024#32
  ![v175.toNat, 1024]

def k0_chk6 (v102 : BitVec 32) : Prop :=
  (∀ a, (k0_off10 v102) a + S64x1024.size a ≤ S2048x2048.size a) ∧
  (∀ a, (k0_off14 v102) a + S64x1024.size a ≤ S2048x2048.size a)
theorem k0_off10_inb : ∀ (v102 : BitVec 32) (k0_hw6 : k0_chk6 v102), ∀ a, (k0_off10 v102) a + S64x1024.size a ≤ S2048x2048.size a := fun v102 k0_hw6 => k0_hw6.1
theorem k0_off14_inb : ∀ (v102 : BitVec 32) (k0_hw6 : k0_chk6 v102), ∀ a, (k0_off14 v102) a + S64x1024.size a ≤ S2048x2048.size a := fun v102 k0_hw6 => k0_hw6.2

def k0_dev9 (v4 : BitVec 32) : Nat :=
  let c0_i32_147 : BitVec 32 := 0#32
  let c1_i32_146 : BitVec 32 := 1#32
  let v186 : BitVec 32 := Scalar.muli v4 c1_i32_146
  let v187 : BitVec 32 := Scalar.addi c0_i32_147 v186
  v187.toNat
def k0_off15 (v57 : BitVec 32) : Fin 2 → Nat :=
  let c64_i32_59 : BitVec 32 := 64#32
  let v88 : BitVec 32 := Scalar.muli v57 c64_i32_59
  let c1024_i32_159 : BitVec 32 := 1024#32
  ![v88.toNat, 1024]
def k0_off16 (v108 : BitVec 32) : Fin 2 → Nat :=
  let c64_i32_160 : BitVec 32 := 64#32
  let v203 : BitVec 32 := Scalar.muli v108 c64_i32_160
  let v204 : Index := Scalar.indexCast v203
  let c1024_161 : Index := 1024#32
  ![v204.toNat, 1024]

def k0_chk7 (v108 : BitVec 32) : Prop :=
  (∀ a, (k0_off12 v108) a + S64x1024.size a ≤ S2048x2048.size a) ∧
  (∀ a, (k0_off16 v108) a + S64x1024.size a ≤ S2048x2048.size a)
theorem k0_off12_inb : ∀ (v108 : BitVec 32) (k0_hw7 : k0_chk7 v108), ∀ a, (k0_off12 v108) a + S64x1024.size a ≤ S2048x2048.size a := fun v108 k0_hw7 => k0_hw7.1
theorem k0_off16_inb : ∀ (v108 : BitVec 32) (k0_hw7 : k0_chk7 v108), ∀ a, (k0_off16 v108) a + S64x1024.size a ≤ S2048x2048.size a := fun v108 k0_hw7 => k0_hw7.2

def k0_dev10 (v5 : BitVec 32) : Nat :=
  let c0_i32_173 : BitVec 32 := 0#32
  let c1_i32_172 : BitVec 32 := 1#32
  let v215 : BitVec 32 := Scalar.muli v5 c1_i32_172
  let v216 : BitVec 32 := Scalar.addi c0_i32_173 v215
  v216.toNat
def k0_off17 (v3 : BitVec 32) : Fin 1 → Nat :=
  let c16_i32_178 : BitVec 32 := 16#32
  let v225 : BitVec 32 := Scalar.addi v3 c16_i32_178
  let c2_i32_179 : BitVec 32 := 2#32
  let v226 : BitVec 32 := Scalar.subi v225 c2_i32_179
  let c32_i32_180 : BitVec 32 := 32#32
  let v227 : BitVec 32 := Scalar.remsi v226 c32_i32_180
  let v228 : Index := Scalar.indexCast v227
  ![v228.toNat]
def k0_off18 (v3 : BitVec 32) : Fin 1 → Nat :=
  let c32_i32_181 : BitVec 32 := 32#32
  let v230 : BitVec 32 := Scalar.addi v3 c32_i32_181
  let c15_i32_182 : BitVec 32 := 15#32
  let v231 : BitVec 32 := Scalar.subi v230 c15_i32_182
  let c2_i32_183 : BitVec 32 := 2#32
  let v232 : BitVec 32 := Scalar.addi v231 c2_i32_183
  let c32_i32_184 : BitVec 32 := 32#32
  let v233 : BitVec 32 := Scalar.remsi v232 c32_i32_184
  let v234 : Index := Scalar.indexCast v233
  ![v234.toNat]
def k0_off19 (v229 : BitVec 32) : Fin 2 → Nat :=
  let c64_i32_195 : BitVec 32 := 64#32
  let v244 : BitVec 32 := Scalar.muli v229 c64_i32_195
  let v245 : Index := Scalar.indexCast v244
  let c0_196 : Index := 0#32
  ![v245.toNat, 0]

def k0_dev11 (v4 : BitVec 32) : Nat :=
  let c0_i32_207 : BitVec 32 := 0#32
  let c1_i32_206 : BitVec 32 := 1#32
  let v256 : BitVec 32 := Scalar.muli v4 c1_i32_206
  let v257 : BitVec 32 := Scalar.addi c0_i32_207 v256
  v257.toNat
def k0_off20 (v235 : BitVec 32) : Fin 2 → Nat :=
  let c64_i32_222 : BitVec 32 := 64#32
  let v274 : BitVec 32 := Scalar.muli v235 c64_i32_222
  let v275 : Index := Scalar.indexCast v274
  let c0_223 : Index := 0#32
  ![v275.toNat, 0]

def k0_dev12 (v5 : BitVec 32) : Nat :=
  let c0_i32_235 : BitVec 32 := 0#32
  let c1_i32_234 : BitVec 32 := 1#32
  let v286 : BitVec 32 := Scalar.muli v5 c1_i32_234
  let v287 : BitVec 32 := Scalar.addi c0_i32_235 v286
  v287.toNat
def k0_off21 (v229 : BitVec 32) : Fin 2 → Nat :=
  let c64_i32_250 : BitVec 32 := 64#32
  let v304 : BitVec 32 := Scalar.muli v229 c64_i32_250
  let v305 : Index := Scalar.indexCast v304
  let c1024_251 : Index := 1024#32
  ![v305.toNat, 1024]

def k0_chk8 (v229 : BitVec 32) : Prop :=
  (∀ a, (k0_off19 v229) a + S64x1024.size a ≤ S2048x2048.size a) ∧
  (∀ a, (k0_off21 v229) a + S64x1024.size a ≤ S2048x2048.size a)
theorem k0_off19_inb : ∀ (v229 : BitVec 32) (k0_hw8 : k0_chk8 v229), ∀ a, (k0_off19 v229) a + S64x1024.size a ≤ S2048x2048.size a := fun v229 k0_hw8 => k0_hw8.1
theorem k0_off21_inb : ∀ (v229 : BitVec 32) (k0_hw8 : k0_chk8 v229), ∀ a, (k0_off21 v229) a + S64x1024.size a ≤ S2048x2048.size a := fun v229 k0_hw8 => k0_hw8.2

def k0_dev13 (v4 : BitVec 32) : Nat :=
  let c0_i32_262 : BitVec 32 := 0#32
  let c1_i32_261 : BitVec 32 := 1#32
  let v316 : BitVec 32 := Scalar.muli v4 c1_i32_261
  let v317 : BitVec 32 := Scalar.addi c0_i32_262 v316
  v317.toNat
def k0_off22 (v235 : BitVec 32) : Fin 2 → Nat :=
  let c64_i32_277 : BitVec 32 := 64#32
  let v334 : BitVec 32 := Scalar.muli v235 c64_i32_277
  let v335 : Index := Scalar.indexCast v334
  let c1024_278 : Index := 1024#32
  ![v335.toNat, 1024]

def k0_chk9 (v235 : BitVec 32) : Prop :=
  (∀ a, (k0_off20 v235) a + S64x1024.size a ≤ S2048x2048.size a) ∧
  (∀ a, (k0_off22 v235) a + S64x1024.size a ≤ S2048x2048.size a)
theorem k0_off20_inb : ∀ (v235 : BitVec 32) (k0_hw9 : k0_chk9 v235), ∀ a, (k0_off20 v235) a + S64x1024.size a ≤ S2048x2048.size a := fun v235 k0_hw9 => k0_hw9.1
theorem k0_off22_inb : ∀ (v235 : BitVec 32) (k0_hw9 : k0_chk9 v235), ∀ a, (k0_off22 v235) a + S64x1024.size a ≤ S2048x2048.size a := fun v235 k0_hw9 => k0_hw9.2

def k0_dev14 (v5 : BitVec 32) : Nat :=
  let c0_i32_290 : BitVec 32 := 0#32
  let c1_i32_289 : BitVec 32 := 1#32
  let v346 : BitVec 32 := Scalar.muli v5 c1_i32_289
  let v347 : BitVec 32 := Scalar.addi c0_i32_290 v346
  v347.toNat
def k0_off23 (v3 : BitVec 32) : Fin 1 → Nat :=
  let c16_i32_295 : BitVec 32 := 16#32
  let v356 : BitVec 32 := Scalar.addi v3 c16_i32_295
  let c3_i32_296 : BitVec 32 := 3#32
  let v357 : BitVec 32 := Scalar.subi v356 c3_i32_296
  let c32_i32_297 : BitVec 32 := 32#32
  let v358 : BitVec 32 := Scalar.remsi v357 c32_i32_297
  let v359 : Index := Scalar.indexCast v358
  ![v359.toNat]
def k0_off24 (v3 : BitVec 32) : Fin 1 → Nat :=
  let c32_i32_298 : BitVec 32 := 32#32
  let v361 : BitVec 32 := Scalar.addi v3 c32_i32_298
  let c15_i32_299 : BitVec 32 := 15#32
  let v362 : BitVec 32 := Scalar.subi v361 c15_i32_299
  let c3_i32_300 : BitVec 32 := 3#32
  let v363 : BitVec 32 := Scalar.addi v362 c3_i32_300
  let c32_i32_301 : BitVec 32 := 32#32
  let v364 : BitVec 32 := Scalar.remsi v363 c32_i32_301
  let v365 : Index := Scalar.indexCast v364
  ![v365.toNat]
def k0_off25 (v360 : BitVec 32) : Fin 2 → Nat :=
  let c64_i32_312 : BitVec 32 := 64#32
  let v375 : BitVec 32 := Scalar.muli v360 c64_i32_312
  let v376 : Index := Scalar.indexCast v375
  let c0_313 : Index := 0#32
  ![v376.toNat, 0]

def k0_dev15 (v4 : BitVec 32) : Nat :=
  let c0_i32_324 : BitVec 32 := 0#32
  let c1_i32_323 : BitVec 32 := 1#32
  let v387 : BitVec 32 := Scalar.muli v4 c1_i32_323
  let v388 : BitVec 32 := Scalar.addi c0_i32_324 v387
  v388.toNat
def k0_off26 (v366 : BitVec 32) : Fin 2 → Nat :=
  let c64_i32_339 : BitVec 32 := 64#32
  let v405 : BitVec 32 := Scalar.muli v366 c64_i32_339
  let v406 : Index := Scalar.indexCast v405
  let c0_340 : Index := 0#32
  ![v406.toNat, 0]

def k0_dev16 (v5 : BitVec 32) : Nat :=
  let c0_i32_352 : BitVec 32 := 0#32
  let c1_i32_351 : BitVec 32 := 1#32
  let v417 : BitVec 32 := Scalar.muli v5 c1_i32_351
  let v418 : BitVec 32 := Scalar.addi c0_i32_352 v417
  v418.toNat
def k0_off27 (v360 : BitVec 32) : Fin 2 → Nat :=
  let c64_i32_367 : BitVec 32 := 64#32
  let v435 : BitVec 32 := Scalar.muli v360 c64_i32_367
  let v436 : Index := Scalar.indexCast v435
  let c1024_368 : Index := 1024#32
  ![v436.toNat, 1024]

def k0_chk10 (v360 : BitVec 32) : Prop :=
  (∀ a, (k0_off25 v360) a + S64x1024.size a ≤ S2048x2048.size a) ∧
  (∀ a, (k0_off27 v360) a + S64x1024.size a ≤ S2048x2048.size a)
theorem k0_off25_inb : ∀ (v360 : BitVec 32) (k0_hw10 : k0_chk10 v360), ∀ a, (k0_off25 v360) a + S64x1024.size a ≤ S2048x2048.size a := fun v360 k0_hw10 => k0_hw10.1
theorem k0_off27_inb : ∀ (v360 : BitVec 32) (k0_hw10 : k0_chk10 v360), ∀ a, (k0_off27 v360) a + S64x1024.size a ≤ S2048x2048.size a := fun v360 k0_hw10 => k0_hw10.2

def k0_dev17 (v4 : BitVec 32) : Nat :=
  let c0_i32_379 : BitVec 32 := 0#32
  let c1_i32_378 : BitVec 32 := 1#32
  let v447 : BitVec 32 := Scalar.muli v4 c1_i32_378
  let v448 : BitVec 32 := Scalar.addi c0_i32_379 v447
  v448.toNat
def k0_off28 (v366 : BitVec 32) : Fin 2 → Nat :=
  let c64_i32_394 : BitVec 32 := 64#32
  let v465 : BitVec 32 := Scalar.muli v366 c64_i32_394
  let v466 : Index := Scalar.indexCast v465
  let c1024_395 : Index := 1024#32
  ![v466.toNat, 1024]

def k0_chk11 (v366 : BitVec 32) : Prop :=
  (∀ a, (k0_off26 v366) a + S64x1024.size a ≤ S2048x2048.size a) ∧
  (∀ a, (k0_off28 v366) a + S64x1024.size a ≤ S2048x2048.size a)
theorem k0_off26_inb : ∀ (v366 : BitVec 32) (k0_hw11 : k0_chk11 v366), ∀ a, (k0_off26 v366) a + S64x1024.size a ≤ S2048x2048.size a := fun v366 k0_hw11 => k0_hw11.1
theorem k0_off28_inb : ∀ (v366 : BitVec 32) (k0_hw11 : k0_chk11 v366), ∀ a, (k0_off28 v366) a + S64x1024.size a ≤ S2048x2048.size a := fun v366 k0_hw11 => k0_hw11.2

def k0_dev18 (v5 : BitVec 32) : Nat :=
  let c0_i32_407 : BitVec 32 := 0#32
  let c1_i32_406 : BitVec 32 := 1#32
  let v477 : BitVec 32 := Scalar.muli v5 c1_i32_406
  let v478 : BitVec 32 := Scalar.addi c0_i32_407 v477
  v478.toNat
def k0_off29 (v3 : BitVec 32) : Fin 1 → Nat :=
  let c16_i32_412 : BitVec 32 := 16#32
  let v487 : BitVec 32 := Scalar.addi v3 c16_i32_412
  let c4_i32_413 : BitVec 32 := 4#32
  let v488 : BitVec 32 := Scalar.subi v487 c4_i32_413
  let c32_i32_414 : BitVec 32 := 32#32
  let v489 : BitVec 32 := Scalar.remsi v488 c32_i32_414
  let v490 : Index := Scalar.indexCast v489
  ![v490.toNat]
def k0_off30 (v3 : BitVec 32) : Fin 1 → Nat :=
  let c32_i32_415 : BitVec 32 := 32#32
  let v492 : BitVec 32 := Scalar.addi v3 c32_i32_415
  let c15_i32_416 : BitVec 32 := 15#32
  let v493 : BitVec 32 := Scalar.subi v492 c15_i32_416
  let c4_i32_417 : BitVec 32 := 4#32
  let v494 : BitVec 32 := Scalar.addi v493 c4_i32_417
  let c32_i32_418 : BitVec 32 := 32#32
  let v495 : BitVec 32 := Scalar.remsi v494 c32_i32_418
  let v496 : Index := Scalar.indexCast v495
  ![v496.toNat]
def k0_off31 (v491 : BitVec 32) : Fin 2 → Nat :=
  let c64_i32_429 : BitVec 32 := 64#32
  let v506 : BitVec 32 := Scalar.muli v491 c64_i32_429
  let v507 : Index := Scalar.indexCast v506
  let c0_430 : Index := 0#32
  ![v507.toNat, 0]

def k0_dev19 (v4 : BitVec 32) : Nat :=
  let c0_i32_440 : BitVec 32 := 0#32
  let c1_i32_439 : BitVec 32 := 1#32
  let v518 : BitVec 32 := Scalar.muli v4 c1_i32_439
  let v519 : BitVec 32 := Scalar.addi c0_i32_440 v518
  v519.toNat
def k0_off32 (v497 : BitVec 32) : Fin 2 → Nat :=
  let c64_i32_455 : BitVec 32 := 64#32
  let v536 : BitVec 32 := Scalar.muli v497 c64_i32_455
  let v537 : Index := Scalar.indexCast v536
  let c0_456 : Index := 0#32
  ![v537.toNat, 0]

def k0_dev20 (v5 : BitVec 32) : Nat :=
  let c0_i32_468 : BitVec 32 := 0#32
  let c1_i32_467 : BitVec 32 := 1#32
  let v548 : BitVec 32 := Scalar.muli v5 c1_i32_467
  let v549 : BitVec 32 := Scalar.addi c0_i32_468 v548
  v549.toNat
def k0_off33 (v491 : BitVec 32) : Fin 2 → Nat :=
  let c64_i32_483 : BitVec 32 := 64#32
  let v566 : BitVec 32 := Scalar.muli v491 c64_i32_483
  let v567 : Index := Scalar.indexCast v566
  let c1024_484 : Index := 1024#32
  ![v567.toNat, 1024]

def k0_chk12 (v491 : BitVec 32) : Prop :=
  (∀ a, (k0_off31 v491) a + S64x1024.size a ≤ S2048x2048.size a) ∧
  (∀ a, (k0_off33 v491) a + S64x1024.size a ≤ S2048x2048.size a)
theorem k0_off31_inb : ∀ (v491 : BitVec 32) (k0_hw12 : k0_chk12 v491), ∀ a, (k0_off31 v491) a + S64x1024.size a ≤ S2048x2048.size a := fun v491 k0_hw12 => k0_hw12.1
theorem k0_off33_inb : ∀ (v491 : BitVec 32) (k0_hw12 : k0_chk12 v491), ∀ a, (k0_off33 v491) a + S64x1024.size a ≤ S2048x2048.size a := fun v491 k0_hw12 => k0_hw12.2

def k0_dev21 (v4 : BitVec 32) : Nat :=
  let c0_i32_495 : BitVec 32 := 0#32
  let c1_i32_494 : BitVec 32 := 1#32
  let v578 : BitVec 32 := Scalar.muli v4 c1_i32_494
  let v579 : BitVec 32 := Scalar.addi c0_i32_495 v578
  v579.toNat
def k0_off34 (v497 : BitVec 32) : Fin 2 → Nat :=
  let c64_i32_510 : BitVec 32 := 64#32
  let v596 : BitVec 32 := Scalar.muli v497 c64_i32_510
  let v597 : Index := Scalar.indexCast v596
  let c1024_511 : Index := 1024#32
  ![v597.toNat, 1024]

def k0_chk13 (v497 : BitVec 32) : Prop :=
  (∀ a, (k0_off32 v497) a + S64x1024.size a ≤ S2048x2048.size a) ∧
  (∀ a, (k0_off34 v497) a + S64x1024.size a ≤ S2048x2048.size a)
theorem k0_off32_inb : ∀ (v497 : BitVec 32) (k0_hw13 : k0_chk13 v497), ∀ a, (k0_off32 v497) a + S64x1024.size a ≤ S2048x2048.size a := fun v497 k0_hw13 => k0_hw13.1
theorem k0_off34_inb : ∀ (v497 : BitVec 32) (k0_hw13 : k0_chk13 v497), ∀ a, (k0_off34 v497) a + S64x1024.size a ≤ S2048x2048.size a := fun v497 k0_hw13 => k0_hw13.2

def k0_dev22 (v5 : BitVec 32) : Nat :=
  let c0_i32_523 : BitVec 32 := 0#32
  let c1_i32_522 : BitVec 32 := 1#32
  let v608 : BitVec 32 := Scalar.muli v5 c1_i32_522
  let v609 : BitVec 32 := Scalar.addi c0_i32_523 v608
  v609.toNat
def k0_off35 (v3 : BitVec 32) : Fin 1 → Nat :=
  let c16_i32_528 : BitVec 32 := 16#32
  let v618 : BitVec 32 := Scalar.addi v3 c16_i32_528
  let c5_i32_529 : BitVec 32 := 5#32
  let v619 : BitVec 32 := Scalar.subi v618 c5_i32_529
  let c32_i32_530 : BitVec 32 := 32#32
  let v620 : BitVec 32 := Scalar.remsi v619 c32_i32_530
  let v621 : Index := Scalar.indexCast v620
  ![v621.toNat]
def k0_off36 (v3 : BitVec 32) : Fin 1 → Nat :=
  let c32_i32_531 : BitVec 32 := 32#32
  let v623 : BitVec 32 := Scalar.addi v3 c32_i32_531
  let c15_i32_532 : BitVec 32 := 15#32
  let v624 : BitVec 32 := Scalar.subi v623 c15_i32_532
  let c5_i32_533 : BitVec 32 := 5#32
  let v625 : BitVec 32 := Scalar.addi v624 c5_i32_533
  let c32_i32_534 : BitVec 32 := 32#32
  let v626 : BitVec 32 := Scalar.remsi v625 c32_i32_534
  let v627 : Index := Scalar.indexCast v626
  ![v627.toNat]
def k0_off37 (v622 : BitVec 32) : Fin 2 → Nat :=
  let c64_i32_545 : BitVec 32 := 64#32
  let v637 : BitVec 32 := Scalar.muli v622 c64_i32_545
  let v638 : Index := Scalar.indexCast v637
  let c0_546 : Index := 0#32
  ![v638.toNat, 0]

def k0_dev23 (v4 : BitVec 32) : Nat :=
  let c0_i32_556 : BitVec 32 := 0#32
  let c1_i32_555 : BitVec 32 := 1#32
  let v649 : BitVec 32 := Scalar.muli v4 c1_i32_555
  let v650 : BitVec 32 := Scalar.addi c0_i32_556 v649
  v650.toNat
def k0_off38 (v628 : BitVec 32) : Fin 2 → Nat :=
  let c64_i32_571 : BitVec 32 := 64#32
  let v667 : BitVec 32 := Scalar.muli v628 c64_i32_571
  let v668 : Index := Scalar.indexCast v667
  let c0_572 : Index := 0#32
  ![v668.toNat, 0]

def k0_dev24 (v5 : BitVec 32) : Nat :=
  let c0_i32_584 : BitVec 32 := 0#32
  let c1_i32_583 : BitVec 32 := 1#32
  let v679 : BitVec 32 := Scalar.muli v5 c1_i32_583
  let v680 : BitVec 32 := Scalar.addi c0_i32_584 v679
  v680.toNat
def k0_off39 (v622 : BitVec 32) : Fin 2 → Nat :=
  let c64_i32_599 : BitVec 32 := 64#32
  let v697 : BitVec 32 := Scalar.muli v622 c64_i32_599
  let v698 : Index := Scalar.indexCast v697
  let c1024_600 : Index := 1024#32
  ![v698.toNat, 1024]

def k0_chk14 (v622 : BitVec 32) : Prop :=
  (∀ a, (k0_off37 v622) a + S64x1024.size a ≤ S2048x2048.size a) ∧
  (∀ a, (k0_off39 v622) a + S64x1024.size a ≤ S2048x2048.size a)
theorem k0_off37_inb : ∀ (v622 : BitVec 32) (k0_hw14 : k0_chk14 v622), ∀ a, (k0_off37 v622) a + S64x1024.size a ≤ S2048x2048.size a := fun v622 k0_hw14 => k0_hw14.1
theorem k0_off39_inb : ∀ (v622 : BitVec 32) (k0_hw14 : k0_chk14 v622), ∀ a, (k0_off39 v622) a + S64x1024.size a ≤ S2048x2048.size a := fun v622 k0_hw14 => k0_hw14.2

def k0_dev25 (v4 : BitVec 32) : Nat :=
  let c0_i32_611 : BitVec 32 := 0#32
  let c1_i32_610 : BitVec 32 := 1#32
  let v709 : BitVec 32 := Scalar.muli v4 c1_i32_610
  let v710 : BitVec 32 := Scalar.addi c0_i32_611 v709
  v710.toNat
def k0_off40 (v628 : BitVec 32) : Fin 2 → Nat :=
  let c64_i32_626 : BitVec 32 := 64#32
  let v727 : BitVec 32 := Scalar.muli v628 c64_i32_626
  let v728 : Index := Scalar.indexCast v727
  let c1024_627 : Index := 1024#32
  ![v728.toNat, 1024]

def k0_chk15 (v628 : BitVec 32) : Prop :=
  (∀ a, (k0_off38 v628) a + S64x1024.size a ≤ S2048x2048.size a) ∧
  (∀ a, (k0_off40 v628) a + S64x1024.size a ≤ S2048x2048.size a)
theorem k0_off38_inb : ∀ (v628 : BitVec 32) (k0_hw15 : k0_chk15 v628), ∀ a, (k0_off38 v628) a + S64x1024.size a ≤ S2048x2048.size a := fun v628 k0_hw15 => k0_hw15.1
theorem k0_off40_inb : ∀ (v628 : BitVec 32) (k0_hw15 : k0_chk15 v628), ∀ a, (k0_off40 v628) a + S64x1024.size a ≤ S2048x2048.size a := fun v628 k0_hw15 => k0_hw15.2

def k0_dev26 (v5 : BitVec 32) : Nat :=
  let c0_i32_639 : BitVec 32 := 0#32
  let c1_i32_638 : BitVec 32 := 1#32
  let v739 : BitVec 32 := Scalar.muli v5 c1_i32_638
  let v740 : BitVec 32 := Scalar.addi c0_i32_639 v739
  v740.toNat
def k0_off41 (v3 : BitVec 32) : Fin 1 → Nat :=
  let c16_i32_644 : BitVec 32 := 16#32
  let v749 : BitVec 32 := Scalar.addi v3 c16_i32_644
  let c6_i32_645 : BitVec 32 := 6#32
  let v750 : BitVec 32 := Scalar.subi v749 c6_i32_645
  let c32_i32_646 : BitVec 32 := 32#32
  let v751 : BitVec 32 := Scalar.remsi v750 c32_i32_646
  let v752 : Index := Scalar.indexCast v751
  ![v752.toNat]
def k0_off42 (v3 : BitVec 32) : Fin 1 → Nat :=
  let c32_i32_647 : BitVec 32 := 32#32
  let v754 : BitVec 32 := Scalar.addi v3 c32_i32_647
  let c15_i32_648 : BitVec 32 := 15#32
  let v755 : BitVec 32 := Scalar.subi v754 c15_i32_648
  let c6_i32_649 : BitVec 32 := 6#32
  let v756 : BitVec 32 := Scalar.addi v755 c6_i32_649
  let c32_i32_650 : BitVec 32 := 32#32
  let v757 : BitVec 32 := Scalar.remsi v756 c32_i32_650
  let v758 : Index := Scalar.indexCast v757
  ![v758.toNat]
def k0_off43 (v753 : BitVec 32) : Fin 2 → Nat :=
  let c64_i32_661 : BitVec 32 := 64#32
  let v768 : BitVec 32 := Scalar.muli v753 c64_i32_661
  let v769 : Index := Scalar.indexCast v768
  let c0_662 : Index := 0#32
  ![v769.toNat, 0]

def k0_dev27 (v4 : BitVec 32) : Nat :=
  let c0_i32_672 : BitVec 32 := 0#32
  let c1_i32_671 : BitVec 32 := 1#32
  let v780 : BitVec 32 := Scalar.muli v4 c1_i32_671
  let v781 : BitVec 32 := Scalar.addi c0_i32_672 v780
  v781.toNat
def k0_off44 (v759 : BitVec 32) : Fin 2 → Nat :=
  let c64_i32_687 : BitVec 32 := 64#32
  let v798 : BitVec 32 := Scalar.muli v759 c64_i32_687
  let v799 : Index := Scalar.indexCast v798
  let c0_688 : Index := 0#32
  ![v799.toNat, 0]

def k0_dev28 (v5 : BitVec 32) : Nat :=
  let c0_i32_700 : BitVec 32 := 0#32
  let c1_i32_699 : BitVec 32 := 1#32
  let v810 : BitVec 32 := Scalar.muli v5 c1_i32_699
  let v811 : BitVec 32 := Scalar.addi c0_i32_700 v810
  v811.toNat
def k0_off45 (v753 : BitVec 32) : Fin 2 → Nat :=
  let c64_i32_715 : BitVec 32 := 64#32
  let v828 : BitVec 32 := Scalar.muli v753 c64_i32_715
  let v829 : Index := Scalar.indexCast v828
  let c1024_716 : Index := 1024#32
  ![v829.toNat, 1024]

def k0_chk16 (v753 : BitVec 32) : Prop :=
  (∀ a, (k0_off43 v753) a + S64x1024.size a ≤ S2048x2048.size a) ∧
  (∀ a, (k0_off45 v753) a + S64x1024.size a ≤ S2048x2048.size a)
theorem k0_off43_inb : ∀ (v753 : BitVec 32) (k0_hw16 : k0_chk16 v753), ∀ a, (k0_off43 v753) a + S64x1024.size a ≤ S2048x2048.size a := fun v753 k0_hw16 => k0_hw16.1
theorem k0_off45_inb : ∀ (v753 : BitVec 32) (k0_hw16 : k0_chk16 v753), ∀ a, (k0_off45 v753) a + S64x1024.size a ≤ S2048x2048.size a := fun v753 k0_hw16 => k0_hw16.2

def k0_dev29 (v4 : BitVec 32) : Nat :=
  let c0_i32_727 : BitVec 32 := 0#32
  let c1_i32_726 : BitVec 32 := 1#32
  let v840 : BitVec 32 := Scalar.muli v4 c1_i32_726
  let v841 : BitVec 32 := Scalar.addi c0_i32_727 v840
  v841.toNat
def k0_off46 (v759 : BitVec 32) : Fin 2 → Nat :=
  let c64_i32_742 : BitVec 32 := 64#32
  let v858 : BitVec 32 := Scalar.muli v759 c64_i32_742
  let v859 : Index := Scalar.indexCast v858
  let c1024_743 : Index := 1024#32
  ![v859.toNat, 1024]

def k0_chk17 (v759 : BitVec 32) : Prop :=
  (∀ a, (k0_off44 v759) a + S64x1024.size a ≤ S2048x2048.size a) ∧
  (∀ a, (k0_off46 v759) a + S64x1024.size a ≤ S2048x2048.size a)
theorem k0_off44_inb : ∀ (v759 : BitVec 32) (k0_hw17 : k0_chk17 v759), ∀ a, (k0_off44 v759) a + S64x1024.size a ≤ S2048x2048.size a := fun v759 k0_hw17 => k0_hw17.1
theorem k0_off46_inb : ∀ (v759 : BitVec 32) (k0_hw17 : k0_chk17 v759), ∀ a, (k0_off46 v759) a + S64x1024.size a ≤ S2048x2048.size a := fun v759 k0_hw17 => k0_hw17.2

def k0_dev30 (v5 : BitVec 32) : Nat :=
  let c0_i32_755 : BitVec 32 := 0#32
  let c1_i32_754 : BitVec 32 := 1#32
  let v870 : BitVec 32 := Scalar.muli v5 c1_i32_754
  let v871 : BitVec 32 := Scalar.addi c0_i32_755 v870
  v871.toNat
def k0_off47 (v3 : BitVec 32) : Fin 1 → Nat :=
  let c16_i32_760 : BitVec 32 := 16#32
  let v880 : BitVec 32 := Scalar.addi v3 c16_i32_760
  let c7_i32_761 : BitVec 32 := 7#32
  let v881 : BitVec 32 := Scalar.subi v880 c7_i32_761
  let c32_i32_762 : BitVec 32 := 32#32
  let v882 : BitVec 32 := Scalar.remsi v881 c32_i32_762
  let v883 : Index := Scalar.indexCast v882
  ![v883.toNat]
def k0_off48 (v3 : BitVec 32) : Fin 1 → Nat :=
  let c32_i32_763 : BitVec 32 := 32#32
  let v885 : BitVec 32 := Scalar.addi v3 c32_i32_763
  let c15_i32_764 : BitVec 32 := 15#32
  let v886 : BitVec 32 := Scalar.subi v885 c15_i32_764
  let c7_i32_765 : BitVec 32 := 7#32
  let v887 : BitVec 32 := Scalar.addi v886 c7_i32_765
  let c32_i32_766 : BitVec 32 := 32#32
  let v888 : BitVec 32 := Scalar.remsi v887 c32_i32_766
  let v889 : Index := Scalar.indexCast v888
  ![v889.toNat]
def k0_off49 (v884 : BitVec 32) : Fin 2 → Nat :=
  let c64_i32_777 : BitVec 32 := 64#32
  let v899 : BitVec 32 := Scalar.muli v884 c64_i32_777
  let v900 : Index := Scalar.indexCast v899
  let c0_778 : Index := 0#32
  ![v900.toNat, 0]

def k0_dev31 (v4 : BitVec 32) : Nat :=
  let c0_i32_788 : BitVec 32 := 0#32
  let c1_i32_787 : BitVec 32 := 1#32
  let v911 : BitVec 32 := Scalar.muli v4 c1_i32_787
  let v912 : BitVec 32 := Scalar.addi c0_i32_788 v911
  v912.toNat
def k0_off50 (v890 : BitVec 32) : Fin 2 → Nat :=
  let c64_i32_803 : BitVec 32 := 64#32
  let v929 : BitVec 32 := Scalar.muli v890 c64_i32_803
  let v930 : Index := Scalar.indexCast v929
  let c0_804 : Index := 0#32
  ![v930.toNat, 0]

def k0_dev32 (v5 : BitVec 32) : Nat :=
  let c0_i32_816 : BitVec 32 := 0#32
  let c1_i32_815 : BitVec 32 := 1#32
  let v941 : BitVec 32 := Scalar.muli v5 c1_i32_815
  let v942 : BitVec 32 := Scalar.addi c0_i32_816 v941
  v942.toNat
def k0_off51 (v884 : BitVec 32) : Fin 2 → Nat :=
  let c64_i32_831 : BitVec 32 := 64#32
  let v959 : BitVec 32 := Scalar.muli v884 c64_i32_831
  let v960 : Index := Scalar.indexCast v959
  let c1024_832 : Index := 1024#32
  ![v960.toNat, 1024]

def k0_chk18 (v884 : BitVec 32) : Prop :=
  (∀ a, (k0_off49 v884) a + S64x1024.size a ≤ S2048x2048.size a) ∧
  (∀ a, (k0_off51 v884) a + S64x1024.size a ≤ S2048x2048.size a)
theorem k0_off49_inb : ∀ (v884 : BitVec 32) (k0_hw18 : k0_chk18 v884), ∀ a, (k0_off49 v884) a + S64x1024.size a ≤ S2048x2048.size a := fun v884 k0_hw18 => k0_hw18.1
theorem k0_off51_inb : ∀ (v884 : BitVec 32) (k0_hw18 : k0_chk18 v884), ∀ a, (k0_off51 v884) a + S64x1024.size a ≤ S2048x2048.size a := fun v884 k0_hw18 => k0_hw18.2

def k0_dev33 (v4 : BitVec 32) : Nat :=
  let c0_i32_844 : BitVec 32 := 0#32
  let c1_i32_843 : BitVec 32 := 1#32
  let v971 : BitVec 32 := Scalar.muli v4 c1_i32_843
  let v972 : BitVec 32 := Scalar.addi c0_i32_844 v971
  v972.toNat
def k0_off52 (v890 : BitVec 32) : Fin 2 → Nat :=
  let c64_i32_859 : BitVec 32 := 64#32
  let v989 : BitVec 32 := Scalar.muli v890 c64_i32_859
  let v990 : Index := Scalar.indexCast v989
  let c1024_860 : Index := 1024#32
  ![v990.toNat, 1024]

def k0_chk19 (v890 : BitVec 32) : Prop :=
  (∀ a, (k0_off50 v890) a + S64x1024.size a ≤ S2048x2048.size a) ∧
  (∀ a, (k0_off52 v890) a + S64x1024.size a ≤ S2048x2048.size a)
theorem k0_off50_inb : ∀ (v890 : BitVec 32) (k0_hw19 : k0_chk19 v890), ∀ a, (k0_off50 v890) a + S64x1024.size a ≤ S2048x2048.size a := fun v890 k0_hw19 => k0_hw19.1
theorem k0_off52_inb : ∀ (v890 : BitVec 32) (k0_hw19 : k0_chk19 v890), ∀ a, (k0_off52 v890) a + S64x1024.size a ≤ S2048x2048.size a := fun v890 k0_hw19 => k0_hw19.2

def k0_dev34 (v5 : BitVec 32) : Nat :=
  let c0_i32_872 : BitVec 32 := 0#32
  let c1_i32_871 : BitVec 32 := 1#32
  let v1001 : BitVec 32 := Scalar.muli v5 c1_i32_871
  let v1002 : BitVec 32 := Scalar.addi c0_i32_872 v1001
  v1002.toNat
def k0_off53 (v3 : BitVec 32) : Fin 1 → Nat :=
  let c16_i32_877 : BitVec 32 := 16#32
  let v1011 : BitVec 32 := Scalar.addi v3 c16_i32_877
  let c8_i32_878 : BitVec 32 := 8#32
  let v1012 : BitVec 32 := Scalar.subi v1011 c8_i32_878
  let c32_i32_879 : BitVec 32 := 32#32
  let v1013 : BitVec 32 := Scalar.remsi v1012 c32_i32_879
  let v1014 : Index := Scalar.indexCast v1013
  ![v1014.toNat]
def k0_off54 (v3 : BitVec 32) : Fin 1 → Nat :=
  let c32_i32_880 : BitVec 32 := 32#32
  let v1016 : BitVec 32 := Scalar.addi v3 c32_i32_880
  let c15_i32_881 : BitVec 32 := 15#32
  let v1017 : BitVec 32 := Scalar.subi v1016 c15_i32_881
  let c8_i32_882 : BitVec 32 := 8#32
  let v1018 : BitVec 32 := Scalar.addi v1017 c8_i32_882
  let c32_i32_883 : BitVec 32 := 32#32
  let v1019 : BitVec 32 := Scalar.remsi v1018 c32_i32_883
  let v1020 : Index := Scalar.indexCast v1019
  ![v1020.toNat]
def k0_off55 (v1015 : BitVec 32) : Fin 2 → Nat :=
  let c64_i32_894 : BitVec 32 := 64#32
  let v1030 : BitVec 32 := Scalar.muli v1015 c64_i32_894
  let v1031 : Index := Scalar.indexCast v1030
  let c0_895 : Index := 0#32
  ![v1031.toNat, 0]

def k0_dev35 (v4 : BitVec 32) : Nat :=
  let c0_i32_906 : BitVec 32 := 0#32
  let c1_i32_905 : BitVec 32 := 1#32
  let v1042 : BitVec 32 := Scalar.muli v4 c1_i32_905
  let v1043 : BitVec 32 := Scalar.addi c0_i32_906 v1042
  v1043.toNat
def k0_off56 (v1021 : BitVec 32) : Fin 2 → Nat :=
  let c64_i32_921 : BitVec 32 := 64#32
  let v1060 : BitVec 32 := Scalar.muli v1021 c64_i32_921
  let v1061 : Index := Scalar.indexCast v1060
  let c0_922 : Index := 0#32
  ![v1061.toNat, 0]

def k0_dev36 (v5 : BitVec 32) : Nat :=
  let c0_i32_934 : BitVec 32 := 0#32
  let c1_i32_933 : BitVec 32 := 1#32
  let v1072 : BitVec 32 := Scalar.muli v5 c1_i32_933
  let v1073 : BitVec 32 := Scalar.addi c0_i32_934 v1072
  v1073.toNat
def k0_off57 (v1015 : BitVec 32) : Fin 2 → Nat :=
  let c64_i32_949 : BitVec 32 := 64#32
  let v1090 : BitVec 32 := Scalar.muli v1015 c64_i32_949
  let v1091 : Index := Scalar.indexCast v1090
  let c1024_950 : Index := 1024#32
  ![v1091.toNat, 1024]

def k0_chk20 (v1015 : BitVec 32) : Prop :=
  (∀ a, (k0_off55 v1015) a + S64x1024.size a ≤ S2048x2048.size a) ∧
  (∀ a, (k0_off57 v1015) a + S64x1024.size a ≤ S2048x2048.size a)
theorem k0_off55_inb : ∀ (v1015 : BitVec 32) (k0_hw20 : k0_chk20 v1015), ∀ a, (k0_off55 v1015) a + S64x1024.size a ≤ S2048x2048.size a := fun v1015 k0_hw20 => k0_hw20.1
theorem k0_off57_inb : ∀ (v1015 : BitVec 32) (k0_hw20 : k0_chk20 v1015), ∀ a, (k0_off57 v1015) a + S64x1024.size a ≤ S2048x2048.size a := fun v1015 k0_hw20 => k0_hw20.2

def k0_dev37 (v4 : BitVec 32) : Nat :=
  let c0_i32_961 : BitVec 32 := 0#32
  let c1_i32_960 : BitVec 32 := 1#32
  let v1102 : BitVec 32 := Scalar.muli v4 c1_i32_960
  let v1103 : BitVec 32 := Scalar.addi c0_i32_961 v1102
  v1103.toNat
def k0_off58 (v1021 : BitVec 32) : Fin 2 → Nat :=
  let c64_i32_976 : BitVec 32 := 64#32
  let v1120 : BitVec 32 := Scalar.muli v1021 c64_i32_976
  let v1121 : Index := Scalar.indexCast v1120
  let c1024_977 : Index := 1024#32
  ![v1121.toNat, 1024]

def k0_chk21 (v1021 : BitVec 32) : Prop :=
  (∀ a, (k0_off56 v1021) a + S64x1024.size a ≤ S2048x2048.size a) ∧
  (∀ a, (k0_off58 v1021) a + S64x1024.size a ≤ S2048x2048.size a)
theorem k0_off56_inb : ∀ (v1021 : BitVec 32) (k0_hw21 : k0_chk21 v1021), ∀ a, (k0_off56 v1021) a + S64x1024.size a ≤ S2048x2048.size a := fun v1021 k0_hw21 => k0_hw21.1
theorem k0_off58_inb : ∀ (v1021 : BitVec 32) (k0_hw21 : k0_chk21 v1021), ∀ a, (k0_off58 v1021) a + S64x1024.size a ≤ S2048x2048.size a := fun v1021 k0_hw21 => k0_hw21.2

def k0_dev38 (v5 : BitVec 32) : Nat :=
  let c0_i32_989 : BitVec 32 := 0#32
  let c1_i32_988 : BitVec 32 := 1#32
  let v1132 : BitVec 32 := Scalar.muli v5 c1_i32_988
  let v1133 : BitVec 32 := Scalar.addi c0_i32_989 v1132
  v1133.toNat
def k0_off59 (v3 : BitVec 32) : Fin 1 → Nat :=
  let c16_i32_994 : BitVec 32 := 16#32
  let v1142 : BitVec 32 := Scalar.addi v3 c16_i32_994
  let c9_i32_995 : BitVec 32 := 9#32
  let v1143 : BitVec 32 := Scalar.subi v1142 c9_i32_995
  let c32_i32_996 : BitVec 32 := 32#32
  let v1144 : BitVec 32 := Scalar.remsi v1143 c32_i32_996
  let v1145 : Index := Scalar.indexCast v1144
  ![v1145.toNat]
def k0_off60 (v3 : BitVec 32) : Fin 1 → Nat :=
  let c32_i32_997 : BitVec 32 := 32#32
  let v1147 : BitVec 32 := Scalar.addi v3 c32_i32_997
  let c15_i32_998 : BitVec 32 := 15#32
  let v1148 : BitVec 32 := Scalar.subi v1147 c15_i32_998
  let c9_i32_999 : BitVec 32 := 9#32
  let v1149 : BitVec 32 := Scalar.addi v1148 c9_i32_999
  let c32_i32_1000 : BitVec 32 := 32#32
  let v1150 : BitVec 32 := Scalar.remsi v1149 c32_i32_1000
  let v1151 : Index := Scalar.indexCast v1150
  ![v1151.toNat]
def k0_off61 (v1146 : BitVec 32) : Fin 2 → Nat :=
  let c64_i32_1011 : BitVec 32 := 64#32
  let v1161 : BitVec 32 := Scalar.muli v1146 c64_i32_1011
  let v1162 : Index := Scalar.indexCast v1161
  let c0_1012 : Index := 0#32
  ![v1162.toNat, 0]

def k0_dev39 (v4 : BitVec 32) : Nat :=
  let c0_i32_1022 : BitVec 32 := 0#32
  let c1_i32_1021 : BitVec 32 := 1#32
  let v1173 : BitVec 32 := Scalar.muli v4 c1_i32_1021
  let v1174 : BitVec 32 := Scalar.addi c0_i32_1022 v1173
  v1174.toNat
def k0_off62 (v1152 : BitVec 32) : Fin 2 → Nat :=
  let c64_i32_1037 : BitVec 32 := 64#32
  let v1191 : BitVec 32 := Scalar.muli v1152 c64_i32_1037
  let v1192 : Index := Scalar.indexCast v1191
  let c0_1038 : Index := 0#32
  ![v1192.toNat, 0]

def k0_dev40 (v5 : BitVec 32) : Nat :=
  let c0_i32_1050 : BitVec 32 := 0#32
  let c1_i32_1049 : BitVec 32 := 1#32
  let v1203 : BitVec 32 := Scalar.muli v5 c1_i32_1049
  let v1204 : BitVec 32 := Scalar.addi c0_i32_1050 v1203
  v1204.toNat
def k0_off63 (v1146 : BitVec 32) : Fin 2 → Nat :=
  let c64_i32_1065 : BitVec 32 := 64#32
  let v1221 : BitVec 32 := Scalar.muli v1146 c64_i32_1065
  let v1222 : Index := Scalar.indexCast v1221
  let c1024_1066 : Index := 1024#32
  ![v1222.toNat, 1024]

def k0_chk22 (v1146 : BitVec 32) : Prop :=
  (∀ a, (k0_off61 v1146) a + S64x1024.size a ≤ S2048x2048.size a) ∧
  (∀ a, (k0_off63 v1146) a + S64x1024.size a ≤ S2048x2048.size a)
theorem k0_off61_inb : ∀ (v1146 : BitVec 32) (k0_hw22 : k0_chk22 v1146), ∀ a, (k0_off61 v1146) a + S64x1024.size a ≤ S2048x2048.size a := fun v1146 k0_hw22 => k0_hw22.1
theorem k0_off63_inb : ∀ (v1146 : BitVec 32) (k0_hw22 : k0_chk22 v1146), ∀ a, (k0_off63 v1146) a + S64x1024.size a ≤ S2048x2048.size a := fun v1146 k0_hw22 => k0_hw22.2

def k0_dev41 (v4 : BitVec 32) : Nat :=
  let c0_i32_1077 : BitVec 32 := 0#32
  let c1_i32_1076 : BitVec 32 := 1#32
  let v1233 : BitVec 32 := Scalar.muli v4 c1_i32_1076
  let v1234 : BitVec 32 := Scalar.addi c0_i32_1077 v1233
  v1234.toNat
def k0_off64 (v1152 : BitVec 32) : Fin 2 → Nat :=
  let c64_i32_1092 : BitVec 32 := 64#32
  let v1251 : BitVec 32 := Scalar.muli v1152 c64_i32_1092
  let v1252 : Index := Scalar.indexCast v1251
  let c1024_1093 : Index := 1024#32
  ![v1252.toNat, 1024]

def k0_chk23 (v1152 : BitVec 32) : Prop :=
  (∀ a, (k0_off62 v1152) a + S64x1024.size a ≤ S2048x2048.size a) ∧
  (∀ a, (k0_off64 v1152) a + S64x1024.size a ≤ S2048x2048.size a)
theorem k0_off62_inb : ∀ (v1152 : BitVec 32) (k0_hw23 : k0_chk23 v1152), ∀ a, (k0_off62 v1152) a + S64x1024.size a ≤ S2048x2048.size a := fun v1152 k0_hw23 => k0_hw23.1
theorem k0_off64_inb : ∀ (v1152 : BitVec 32) (k0_hw23 : k0_chk23 v1152), ∀ a, (k0_off64 v1152) a + S64x1024.size a ≤ S2048x2048.size a := fun v1152 k0_hw23 => k0_hw23.2

def k0_dev42 (v5 : BitVec 32) : Nat :=
  let c0_i32_1105 : BitVec 32 := 0#32
  let c1_i32_1104 : BitVec 32 := 1#32
  let v1263 : BitVec 32 := Scalar.muli v5 c1_i32_1104
  let v1264 : BitVec 32 := Scalar.addi c0_i32_1105 v1263
  v1264.toNat
def k0_off65 (v3 : BitVec 32) : Fin 1 → Nat :=
  let c16_i32_1110 : BitVec 32 := 16#32
  let v1273 : BitVec 32 := Scalar.addi v3 c16_i32_1110
  let c10_i32_1111 : BitVec 32 := 10#32
  let v1274 : BitVec 32 := Scalar.subi v1273 c10_i32_1111
  let c32_i32_1112 : BitVec 32 := 32#32
  let v1275 : BitVec 32 := Scalar.remsi v1274 c32_i32_1112
  let v1276 : Index := Scalar.indexCast v1275
  ![v1276.toNat]
def k0_off66 (v3 : BitVec 32) : Fin 1 → Nat :=
  let c32_i32_1113 : BitVec 32 := 32#32
  let v1278 : BitVec 32 := Scalar.addi v3 c32_i32_1113
  let c15_i32_1114 : BitVec 32 := 15#32
  let v1279 : BitVec 32 := Scalar.subi v1278 c15_i32_1114
  let c10_i32_1115 : BitVec 32 := 10#32
  let v1280 : BitVec 32 := Scalar.addi v1279 c10_i32_1115
  let c32_i32_1116 : BitVec 32 := 32#32
  let v1281 : BitVec 32 := Scalar.remsi v1280 c32_i32_1116
  let v1282 : Index := Scalar.indexCast v1281
  ![v1282.toNat]
def k0_off67 (v1277 : BitVec 32) : Fin 2 → Nat :=
  let c64_i32_1127 : BitVec 32 := 64#32
  let v1292 : BitVec 32 := Scalar.muli v1277 c64_i32_1127
  let v1293 : Index := Scalar.indexCast v1292
  let c0_1128 : Index := 0#32
  ![v1293.toNat, 0]

def k0_dev43 (v4 : BitVec 32) : Nat :=
  let c0_i32_1138 : BitVec 32 := 0#32
  let c1_i32_1137 : BitVec 32 := 1#32
  let v1304 : BitVec 32 := Scalar.muli v4 c1_i32_1137
  let v1305 : BitVec 32 := Scalar.addi c0_i32_1138 v1304
  v1305.toNat
def k0_off68 (v1283 : BitVec 32) : Fin 2 → Nat :=
  let c64_i32_1153 : BitVec 32 := 64#32
  let v1322 : BitVec 32 := Scalar.muli v1283 c64_i32_1153
  let v1323 : Index := Scalar.indexCast v1322
  let c0_1154 : Index := 0#32
  ![v1323.toNat, 0]

def k0_dev44 (v5 : BitVec 32) : Nat :=
  let c0_i32_1166 : BitVec 32 := 0#32
  let c1_i32_1165 : BitVec 32 := 1#32
  let v1334 : BitVec 32 := Scalar.muli v5 c1_i32_1165
  let v1335 : BitVec 32 := Scalar.addi c0_i32_1166 v1334
  v1335.toNat
def k0_off69 (v1277 : BitVec 32) : Fin 2 → Nat :=
  let c64_i32_1181 : BitVec 32 := 64#32
  let v1352 : BitVec 32 := Scalar.muli v1277 c64_i32_1181
  let v1353 : Index := Scalar.indexCast v1352
  let c1024_1182 : Index := 1024#32
  ![v1353.toNat, 1024]

def k0_chk24 (v1277 : BitVec 32) : Prop :=
  (∀ a, (k0_off67 v1277) a + S64x1024.size a ≤ S2048x2048.size a) ∧
  (∀ a, (k0_off69 v1277) a + S64x1024.size a ≤ S2048x2048.size a)
theorem k0_off67_inb : ∀ (v1277 : BitVec 32) (k0_hw24 : k0_chk24 v1277), ∀ a, (k0_off67 v1277) a + S64x1024.size a ≤ S2048x2048.size a := fun v1277 k0_hw24 => k0_hw24.1
theorem k0_off69_inb : ∀ (v1277 : BitVec 32) (k0_hw24 : k0_chk24 v1277), ∀ a, (k0_off69 v1277) a + S64x1024.size a ≤ S2048x2048.size a := fun v1277 k0_hw24 => k0_hw24.2

def k0_dev45 (v4 : BitVec 32) : Nat :=
  let c0_i32_1193 : BitVec 32 := 0#32
  let c1_i32_1192 : BitVec 32 := 1#32
  let v1364 : BitVec 32 := Scalar.muli v4 c1_i32_1192
  let v1365 : BitVec 32 := Scalar.addi c0_i32_1193 v1364
  v1365.toNat
def k0_off70 (v1283 : BitVec 32) : Fin 2 → Nat :=
  let c64_i32_1208 : BitVec 32 := 64#32
  let v1382 : BitVec 32 := Scalar.muli v1283 c64_i32_1208
  let v1383 : Index := Scalar.indexCast v1382
  let c1024_1209 : Index := 1024#32
  ![v1383.toNat, 1024]

def k0_chk25 (v1283 : BitVec 32) : Prop :=
  (∀ a, (k0_off68 v1283) a + S64x1024.size a ≤ S2048x2048.size a) ∧
  (∀ a, (k0_off70 v1283) a + S64x1024.size a ≤ S2048x2048.size a)
theorem k0_off68_inb : ∀ (v1283 : BitVec 32) (k0_hw25 : k0_chk25 v1283), ∀ a, (k0_off68 v1283) a + S64x1024.size a ≤ S2048x2048.size a := fun v1283 k0_hw25 => k0_hw25.1
theorem k0_off70_inb : ∀ (v1283 : BitVec 32) (k0_hw25 : k0_chk25 v1283), ∀ a, (k0_off70 v1283) a + S64x1024.size a ≤ S2048x2048.size a := fun v1283 k0_hw25 => k0_hw25.2

def k0_dev46 (v5 : BitVec 32) : Nat :=
  let c0_i32_1221 : BitVec 32 := 0#32
  let c1_i32_1220 : BitVec 32 := 1#32
  let v1394 : BitVec 32 := Scalar.muli v5 c1_i32_1220
  let v1395 : BitVec 32 := Scalar.addi c0_i32_1221 v1394
  v1395.toNat
def k0_off71 (v3 : BitVec 32) : Fin 1 → Nat :=
  let c16_i32_1226 : BitVec 32 := 16#32
  let v1404 : BitVec 32 := Scalar.addi v3 c16_i32_1226
  let c11_i32_1227 : BitVec 32 := 11#32
  let v1405 : BitVec 32 := Scalar.subi v1404 c11_i32_1227
  let c32_i32_1228 : BitVec 32 := 32#32
  let v1406 : BitVec 32 := Scalar.remsi v1405 c32_i32_1228
  let v1407 : Index := Scalar.indexCast v1406
  ![v1407.toNat]
def k0_off72 (v3 : BitVec 32) : Fin 1 → Nat :=
  let c32_i32_1229 : BitVec 32 := 32#32
  let v1409 : BitVec 32 := Scalar.addi v3 c32_i32_1229
  let c15_i32_1230 : BitVec 32 := 15#32
  let v1410 : BitVec 32 := Scalar.subi v1409 c15_i32_1230
  let c11_i32_1231 : BitVec 32 := 11#32
  let v1411 : BitVec 32 := Scalar.addi v1410 c11_i32_1231
  let c32_i32_1232 : BitVec 32 := 32#32
  let v1412 : BitVec 32 := Scalar.remsi v1411 c32_i32_1232
  let v1413 : Index := Scalar.indexCast v1412
  ![v1413.toNat]
def k0_off73 (v1408 : BitVec 32) : Fin 2 → Nat :=
  let c64_i32_1243 : BitVec 32 := 64#32
  let v1423 : BitVec 32 := Scalar.muli v1408 c64_i32_1243
  let v1424 : Index := Scalar.indexCast v1423
  let c0_1244 : Index := 0#32
  ![v1424.toNat, 0]

def k0_dev47 (v4 : BitVec 32) : Nat :=
  let c0_i32_1254 : BitVec 32 := 0#32
  let c1_i32_1253 : BitVec 32 := 1#32
  let v1435 : BitVec 32 := Scalar.muli v4 c1_i32_1253
  let v1436 : BitVec 32 := Scalar.addi c0_i32_1254 v1435
  v1436.toNat
def k0_off74 (v1414 : BitVec 32) : Fin 2 → Nat :=
  let c64_i32_1269 : BitVec 32 := 64#32
  let v1453 : BitVec 32 := Scalar.muli v1414 c64_i32_1269
  let v1454 : Index := Scalar.indexCast v1453
  let c0_1270 : Index := 0#32
  ![v1454.toNat, 0]

def k0_dev48 (v5 : BitVec 32) : Nat :=
  let c0_i32_1282 : BitVec 32 := 0#32
  let c1_i32_1281 : BitVec 32 := 1#32
  let v1465 : BitVec 32 := Scalar.muli v5 c1_i32_1281
  let v1466 : BitVec 32 := Scalar.addi c0_i32_1282 v1465
  v1466.toNat
def k0_off75 (v1408 : BitVec 32) : Fin 2 → Nat :=
  let c64_i32_1297 : BitVec 32 := 64#32
  let v1483 : BitVec 32 := Scalar.muli v1408 c64_i32_1297
  let v1484 : Index := Scalar.indexCast v1483
  let c1024_1298 : Index := 1024#32
  ![v1484.toNat, 1024]

def k0_chk26 (v1408 : BitVec 32) : Prop :=
  (∀ a, (k0_off73 v1408) a + S64x1024.size a ≤ S2048x2048.size a) ∧
  (∀ a, (k0_off75 v1408) a + S64x1024.size a ≤ S2048x2048.size a)
theorem k0_off73_inb : ∀ (v1408 : BitVec 32) (k0_hw26 : k0_chk26 v1408), ∀ a, (k0_off73 v1408) a + S64x1024.size a ≤ S2048x2048.size a := fun v1408 k0_hw26 => k0_hw26.1
theorem k0_off75_inb : ∀ (v1408 : BitVec 32) (k0_hw26 : k0_chk26 v1408), ∀ a, (k0_off75 v1408) a + S64x1024.size a ≤ S2048x2048.size a := fun v1408 k0_hw26 => k0_hw26.2

def k0_dev49 (v4 : BitVec 32) : Nat :=
  let c0_i32_1309 : BitVec 32 := 0#32
  let c1_i32_1308 : BitVec 32 := 1#32
  let v1495 : BitVec 32 := Scalar.muli v4 c1_i32_1308
  let v1496 : BitVec 32 := Scalar.addi c0_i32_1309 v1495
  v1496.toNat
def k0_off76 (v1414 : BitVec 32) : Fin 2 → Nat :=
  let c64_i32_1324 : BitVec 32 := 64#32
  let v1513 : BitVec 32 := Scalar.muli v1414 c64_i32_1324
  let v1514 : Index := Scalar.indexCast v1513
  let c1024_1325 : Index := 1024#32
  ![v1514.toNat, 1024]

def k0_chk27 (v1414 : BitVec 32) : Prop :=
  (∀ a, (k0_off74 v1414) a + S64x1024.size a ≤ S2048x2048.size a) ∧
  (∀ a, (k0_off76 v1414) a + S64x1024.size a ≤ S2048x2048.size a)
theorem k0_off74_inb : ∀ (v1414 : BitVec 32) (k0_hw27 : k0_chk27 v1414), ∀ a, (k0_off74 v1414) a + S64x1024.size a ≤ S2048x2048.size a := fun v1414 k0_hw27 => k0_hw27.1
theorem k0_off76_inb : ∀ (v1414 : BitVec 32) (k0_hw27 : k0_chk27 v1414), ∀ a, (k0_off76 v1414) a + S64x1024.size a ≤ S2048x2048.size a := fun v1414 k0_hw27 => k0_hw27.2

def k0_dev50 (v5 : BitVec 32) : Nat :=
  let c0_i32_1337 : BitVec 32 := 0#32
  let c1_i32_1336 : BitVec 32 := 1#32
  let v1525 : BitVec 32 := Scalar.muli v5 c1_i32_1336
  let v1526 : BitVec 32 := Scalar.addi c0_i32_1337 v1525
  v1526.toNat
def k0_off77 (v3 : BitVec 32) : Fin 1 → Nat :=
  let c16_i32_1342 : BitVec 32 := 16#32
  let v1535 : BitVec 32 := Scalar.addi v3 c16_i32_1342
  let c12_i32_1343 : BitVec 32 := 12#32
  let v1536 : BitVec 32 := Scalar.subi v1535 c12_i32_1343
  let c32_i32_1344 : BitVec 32 := 32#32
  let v1537 : BitVec 32 := Scalar.remsi v1536 c32_i32_1344
  let v1538 : Index := Scalar.indexCast v1537
  ![v1538.toNat]
def k0_off78 (v3 : BitVec 32) : Fin 1 → Nat :=
  let c32_i32_1345 : BitVec 32 := 32#32
  let v1540 : BitVec 32 := Scalar.addi v3 c32_i32_1345
  let c15_i32_1346 : BitVec 32 := 15#32
  let v1541 : BitVec 32 := Scalar.subi v1540 c15_i32_1346
  let c12_i32_1347 : BitVec 32 := 12#32
  let v1542 : BitVec 32 := Scalar.addi v1541 c12_i32_1347
  let c32_i32_1348 : BitVec 32 := 32#32
  let v1543 : BitVec 32 := Scalar.remsi v1542 c32_i32_1348
  let v1544 : Index := Scalar.indexCast v1543
  ![v1544.toNat]
def k0_off79 (v1539 : BitVec 32) : Fin 2 → Nat :=
  let c64_i32_1359 : BitVec 32 := 64#32
  let v1554 : BitVec 32 := Scalar.muli v1539 c64_i32_1359
  let v1555 : Index := Scalar.indexCast v1554
  let c0_1360 : Index := 0#32
  ![v1555.toNat, 0]

def k0_dev51 (v4 : BitVec 32) : Nat :=
  let c0_i32_1370 : BitVec 32 := 0#32
  let c1_i32_1369 : BitVec 32 := 1#32
  let v1566 : BitVec 32 := Scalar.muli v4 c1_i32_1369
  let v1567 : BitVec 32 := Scalar.addi c0_i32_1370 v1566
  v1567.toNat
def k0_off80 (v1545 : BitVec 32) : Fin 2 → Nat :=
  let c64_i32_1385 : BitVec 32 := 64#32
  let v1584 : BitVec 32 := Scalar.muli v1545 c64_i32_1385
  let v1585 : Index := Scalar.indexCast v1584
  let c0_1386 : Index := 0#32
  ![v1585.toNat, 0]

def k0_dev52 (v5 : BitVec 32) : Nat :=
  let c0_i32_1398 : BitVec 32 := 0#32
  let c1_i32_1397 : BitVec 32 := 1#32
  let v1596 : BitVec 32 := Scalar.muli v5 c1_i32_1397
  let v1597 : BitVec 32 := Scalar.addi c0_i32_1398 v1596
  v1597.toNat
def k0_off81 (v1539 : BitVec 32) : Fin 2 → Nat :=
  let c64_i32_1413 : BitVec 32 := 64#32
  let v1614 : BitVec 32 := Scalar.muli v1539 c64_i32_1413
  let v1615 : Index := Scalar.indexCast v1614
  let c1024_1414 : Index := 1024#32
  ![v1615.toNat, 1024]

def k0_chk28 (v1539 : BitVec 32) : Prop :=
  (∀ a, (k0_off79 v1539) a + S64x1024.size a ≤ S2048x2048.size a) ∧
  (∀ a, (k0_off81 v1539) a + S64x1024.size a ≤ S2048x2048.size a)
theorem k0_off79_inb : ∀ (v1539 : BitVec 32) (k0_hw28 : k0_chk28 v1539), ∀ a, (k0_off79 v1539) a + S64x1024.size a ≤ S2048x2048.size a := fun v1539 k0_hw28 => k0_hw28.1
theorem k0_off81_inb : ∀ (v1539 : BitVec 32) (k0_hw28 : k0_chk28 v1539), ∀ a, (k0_off81 v1539) a + S64x1024.size a ≤ S2048x2048.size a := fun v1539 k0_hw28 => k0_hw28.2

def k0_dev53 (v4 : BitVec 32) : Nat :=
  let c0_i32_1425 : BitVec 32 := 0#32
  let c1_i32_1424 : BitVec 32 := 1#32
  let v1626 : BitVec 32 := Scalar.muli v4 c1_i32_1424
  let v1627 : BitVec 32 := Scalar.addi c0_i32_1425 v1626
  v1627.toNat
def k0_off82 (v1545 : BitVec 32) : Fin 2 → Nat :=
  let c64_i32_1440 : BitVec 32 := 64#32
  let v1644 : BitVec 32 := Scalar.muli v1545 c64_i32_1440
  let v1645 : Index := Scalar.indexCast v1644
  let c1024_1441 : Index := 1024#32
  ![v1645.toNat, 1024]

def k0_chk29 (v1545 : BitVec 32) : Prop :=
  (∀ a, (k0_off80 v1545) a + S64x1024.size a ≤ S2048x2048.size a) ∧
  (∀ a, (k0_off82 v1545) a + S64x1024.size a ≤ S2048x2048.size a)
theorem k0_off80_inb : ∀ (v1545 : BitVec 32) (k0_hw29 : k0_chk29 v1545), ∀ a, (k0_off80 v1545) a + S64x1024.size a ≤ S2048x2048.size a := fun v1545 k0_hw29 => k0_hw29.1
theorem k0_off82_inb : ∀ (v1545 : BitVec 32) (k0_hw29 : k0_chk29 v1545), ∀ a, (k0_off82 v1545) a + S64x1024.size a ≤ S2048x2048.size a := fun v1545 k0_hw29 => k0_hw29.2

def k0_dev54 (v5 : BitVec 32) : Nat :=
  let c0_i32_1453 : BitVec 32 := 0#32
  let c1_i32_1452 : BitVec 32 := 1#32
  let v1656 : BitVec 32 := Scalar.muli v5 c1_i32_1452
  let v1657 : BitVec 32 := Scalar.addi c0_i32_1453 v1656
  v1657.toNat
def k0_off83 (v3 : BitVec 32) : Fin 1 → Nat :=
  let c16_i32_1458 : BitVec 32 := 16#32
  let v1666 : BitVec 32 := Scalar.addi v3 c16_i32_1458
  let c13_i32_1459 : BitVec 32 := 13#32
  let v1667 : BitVec 32 := Scalar.subi v1666 c13_i32_1459
  let c32_i32_1460 : BitVec 32 := 32#32
  let v1668 : BitVec 32 := Scalar.remsi v1667 c32_i32_1460
  let v1669 : Index := Scalar.indexCast v1668
  ![v1669.toNat]
def k0_off84 (v3 : BitVec 32) : Fin 1 → Nat :=
  let c32_i32_1461 : BitVec 32 := 32#32
  let v1671 : BitVec 32 := Scalar.addi v3 c32_i32_1461
  let c15_i32_1462 : BitVec 32 := 15#32
  let v1672 : BitVec 32 := Scalar.subi v1671 c15_i32_1462
  let c13_i32_1463 : BitVec 32 := 13#32
  let v1673 : BitVec 32 := Scalar.addi v1672 c13_i32_1463
  let c32_i32_1464 : BitVec 32 := 32#32
  let v1674 : BitVec 32 := Scalar.remsi v1673 c32_i32_1464
  let v1675 : Index := Scalar.indexCast v1674
  ![v1675.toNat]
def k0_off85 (v1670 : BitVec 32) : Fin 2 → Nat :=
  let c64_i32_1475 : BitVec 32 := 64#32
  let v1685 : BitVec 32 := Scalar.muli v1670 c64_i32_1475
  let v1686 : Index := Scalar.indexCast v1685
  let c0_1476 : Index := 0#32
  ![v1686.toNat, 0]

def k0_dev55 (v4 : BitVec 32) : Nat :=
  let c0_i32_1486 : BitVec 32 := 0#32
  let c1_i32_1485 : BitVec 32 := 1#32
  let v1697 : BitVec 32 := Scalar.muli v4 c1_i32_1485
  let v1698 : BitVec 32 := Scalar.addi c0_i32_1486 v1697
  v1698.toNat
def k0_off86 (v1676 : BitVec 32) : Fin 2 → Nat :=
  let c64_i32_1501 : BitVec 32 := 64#32
  let v1715 : BitVec 32 := Scalar.muli v1676 c64_i32_1501
  let v1716 : Index := Scalar.indexCast v1715
  let c0_1502 : Index := 0#32
  ![v1716.toNat, 0]

def k0_dev56 (v5 : BitVec 32) : Nat :=
  let c0_i32_1514 : BitVec 32 := 0#32
  let c1_i32_1513 : BitVec 32 := 1#32
  let v1727 : BitVec 32 := Scalar.muli v5 c1_i32_1513
  let v1728 : BitVec 32 := Scalar.addi c0_i32_1514 v1727
  v1728.toNat
def k0_off87 (v1670 : BitVec 32) : Fin 2 → Nat :=
  let c64_i32_1529 : BitVec 32 := 64#32
  let v1745 : BitVec 32 := Scalar.muli v1670 c64_i32_1529
  let v1746 : Index := Scalar.indexCast v1745
  let c1024_1530 : Index := 1024#32
  ![v1746.toNat, 1024]

def k0_chk30 (v1670 : BitVec 32) : Prop :=
  (∀ a, (k0_off85 v1670) a + S64x1024.size a ≤ S2048x2048.size a) ∧
  (∀ a, (k0_off87 v1670) a + S64x1024.size a ≤ S2048x2048.size a)
theorem k0_off85_inb : ∀ (v1670 : BitVec 32) (k0_hw30 : k0_chk30 v1670), ∀ a, (k0_off85 v1670) a + S64x1024.size a ≤ S2048x2048.size a := fun v1670 k0_hw30 => k0_hw30.1
theorem k0_off87_inb : ∀ (v1670 : BitVec 32) (k0_hw30 : k0_chk30 v1670), ∀ a, (k0_off87 v1670) a + S64x1024.size a ≤ S2048x2048.size a := fun v1670 k0_hw30 => k0_hw30.2

def k0_dev57 (v4 : BitVec 32) : Nat :=
  let c0_i32_1541 : BitVec 32 := 0#32
  let c1_i32_1540 : BitVec 32 := 1#32
  let v1757 : BitVec 32 := Scalar.muli v4 c1_i32_1540
  let v1758 : BitVec 32 := Scalar.addi c0_i32_1541 v1757
  v1758.toNat
def k0_off88 (v1676 : BitVec 32) : Fin 2 → Nat :=
  let c64_i32_1556 : BitVec 32 := 64#32
  let v1775 : BitVec 32 := Scalar.muli v1676 c64_i32_1556
  let v1776 : Index := Scalar.indexCast v1775
  let c1024_1557 : Index := 1024#32
  ![v1776.toNat, 1024]

def k0_chk31 (v1676 : BitVec 32) : Prop :=
  (∀ a, (k0_off86 v1676) a + S64x1024.size a ≤ S2048x2048.size a) ∧
  (∀ a, (k0_off88 v1676) a + S64x1024.size a ≤ S2048x2048.size a)
theorem k0_off86_inb : ∀ (v1676 : BitVec 32) (k0_hw31 : k0_chk31 v1676), ∀ a, (k0_off86 v1676) a + S64x1024.size a ≤ S2048x2048.size a := fun v1676 k0_hw31 => k0_hw31.1
theorem k0_off88_inb : ∀ (v1676 : BitVec 32) (k0_hw31 : k0_chk31 v1676), ∀ a, (k0_off88 v1676) a + S64x1024.size a ≤ S2048x2048.size a := fun v1676 k0_hw31 => k0_hw31.2

def k0_dev58 (v5 : BitVec 32) : Nat :=
  let c0_i32_1569 : BitVec 32 := 0#32
  let c1_i32_1568 : BitVec 32 := 1#32
  let v1787 : BitVec 32 := Scalar.muli v5 c1_i32_1568
  let v1788 : BitVec 32 := Scalar.addi c0_i32_1569 v1787
  v1788.toNat
def k0_off89 (v3 : BitVec 32) : Fin 1 → Nat :=
  let c16_i32_1574 : BitVec 32 := 16#32
  let v1797 : BitVec 32 := Scalar.addi v3 c16_i32_1574
  let c14_i32_1575 : BitVec 32 := 14#32
  let v1798 : BitVec 32 := Scalar.subi v1797 c14_i32_1575
  let c32_i32_1576 : BitVec 32 := 32#32
  let v1799 : BitVec 32 := Scalar.remsi v1798 c32_i32_1576
  let v1800 : Index := Scalar.indexCast v1799
  ![v1800.toNat]
def k0_off90 (v3 : BitVec 32) : Fin 1 → Nat :=
  let c32_i32_1577 : BitVec 32 := 32#32
  let v1802 : BitVec 32 := Scalar.addi v3 c32_i32_1577
  let c15_i32_1578 : BitVec 32 := 15#32
  let v1803 : BitVec 32 := Scalar.subi v1802 c15_i32_1578
  let c14_i32_1579 : BitVec 32 := 14#32
  let v1804 : BitVec 32 := Scalar.addi v1803 c14_i32_1579
  let c32_i32_1580 : BitVec 32 := 32#32
  let v1805 : BitVec 32 := Scalar.remsi v1804 c32_i32_1580
  let v1806 : Index := Scalar.indexCast v1805
  ![v1806.toNat]
def k0_off91 (v1801 : BitVec 32) : Fin 2 → Nat :=
  let c64_i32_1591 : BitVec 32 := 64#32
  let v1816 : BitVec 32 := Scalar.muli v1801 c64_i32_1591
  let v1817 : Index := Scalar.indexCast v1816
  let c0_1592 : Index := 0#32
  ![v1817.toNat, 0]

def k0_dev59 (v4 : BitVec 32) : Nat :=
  let c0_i32_1602 : BitVec 32 := 0#32
  let c1_i32_1601 : BitVec 32 := 1#32
  let v1828 : BitVec 32 := Scalar.muli v4 c1_i32_1601
  let v1829 : BitVec 32 := Scalar.addi c0_i32_1602 v1828
  v1829.toNat
def k0_off92 (v1807 : BitVec 32) : Fin 2 → Nat :=
  let c64_i32_1617 : BitVec 32 := 64#32
  let v1846 : BitVec 32 := Scalar.muli v1807 c64_i32_1617
  let v1847 : Index := Scalar.indexCast v1846
  let c0_1618 : Index := 0#32
  ![v1847.toNat, 0]

def k0_dev60 (v5 : BitVec 32) : Nat :=
  let c0_i32_1630 : BitVec 32 := 0#32
  let c1_i32_1629 : BitVec 32 := 1#32
  let v1858 : BitVec 32 := Scalar.muli v5 c1_i32_1629
  let v1859 : BitVec 32 := Scalar.addi c0_i32_1630 v1858
  v1859.toNat
def k0_off93 (v1801 : BitVec 32) : Fin 2 → Nat :=
  let c64_i32_1645 : BitVec 32 := 64#32
  let v1876 : BitVec 32 := Scalar.muli v1801 c64_i32_1645
  let v1877 : Index := Scalar.indexCast v1876
  let c1024_1646 : Index := 1024#32
  ![v1877.toNat, 1024]

def k0_chk32 (v1801 : BitVec 32) : Prop :=
  (∀ a, (k0_off91 v1801) a + S64x1024.size a ≤ S2048x2048.size a) ∧
  (∀ a, (k0_off93 v1801) a + S64x1024.size a ≤ S2048x2048.size a)
theorem k0_off91_inb : ∀ (v1801 : BitVec 32) (k0_hw32 : k0_chk32 v1801), ∀ a, (k0_off91 v1801) a + S64x1024.size a ≤ S2048x2048.size a := fun v1801 k0_hw32 => k0_hw32.1
theorem k0_off93_inb : ∀ (v1801 : BitVec 32) (k0_hw32 : k0_chk32 v1801), ∀ a, (k0_off93 v1801) a + S64x1024.size a ≤ S2048x2048.size a := fun v1801 k0_hw32 => k0_hw32.2

def k0_dev61 (v4 : BitVec 32) : Nat :=
  let c0_i32_1657 : BitVec 32 := 0#32
  let c1_i32_1656 : BitVec 32 := 1#32
  let v1888 : BitVec 32 := Scalar.muli v4 c1_i32_1656
  let v1889 : BitVec 32 := Scalar.addi c0_i32_1657 v1888
  v1889.toNat
def k0_off94 (v1807 : BitVec 32) : Fin 2 → Nat :=
  let c64_i32_1672 : BitVec 32 := 64#32
  let v1906 : BitVec 32 := Scalar.muli v1807 c64_i32_1672
  let v1907 : Index := Scalar.indexCast v1906
  let c1024_1673 : Index := 1024#32
  ![v1907.toNat, 1024]

def k0_chk33 (v1807 : BitVec 32) : Prop :=
  (∀ a, (k0_off92 v1807) a + S64x1024.size a ≤ S2048x2048.size a) ∧
  (∀ a, (k0_off94 v1807) a + S64x1024.size a ≤ S2048x2048.size a)
theorem k0_off92_inb : ∀ (v1807 : BitVec 32) (k0_hw33 : k0_chk33 v1807), ∀ a, (k0_off92 v1807) a + S64x1024.size a ≤ S2048x2048.size a := fun v1807 k0_hw33 => k0_hw33.1
theorem k0_off94_inb : ∀ (v1807 : BitVec 32) (k0_hw33 : k0_chk33 v1807), ∀ a, (k0_off94 v1807) a + S64x1024.size a ≤ S2048x2048.size a := fun v1807 k0_hw33 => k0_hw33.2

def k0_dev62 (v5 : BitVec 32) : Nat :=
  let c0_i32_1685 : BitVec 32 := 0#32
  let c1_i32_1684 : BitVec 32 := 1#32
  let v1918 : BitVec 32 := Scalar.muli v5 c1_i32_1684
  let v1919 : BitVec 32 := Scalar.addi c0_i32_1685 v1918
  v1919.toNat

def k0_chk1 (v5 : BitVec 32) : Prop :=
  ((k0_dev1 v5) < nD) ∧
  ((k0_dev4 v5) < nD) ∧
  ((k0_dev6 v5) < nD) ∧
  ((k0_dev8 v5) < nD) ∧
  ((k0_dev10 v5) < nD) ∧
  ((k0_dev12 v5) < nD) ∧
  ((k0_dev14 v5) < nD) ∧
  ((k0_dev16 v5) < nD) ∧
  ((k0_dev18 v5) < nD) ∧
  ((k0_dev20 v5) < nD) ∧
  ((k0_dev22 v5) < nD) ∧
  ((k0_dev24 v5) < nD) ∧
  ((k0_dev26 v5) < nD) ∧
  ((k0_dev28 v5) < nD) ∧
  ((k0_dev30 v5) < nD) ∧
  ((k0_dev32 v5) < nD) ∧
  ((k0_dev34 v5) < nD) ∧
  ((k0_dev36 v5) < nD) ∧
  ((k0_dev38 v5) < nD) ∧
  ((k0_dev40 v5) < nD) ∧
  ((k0_dev42 v5) < nD) ∧
  ((k0_dev44 v5) < nD) ∧
  ((k0_dev46 v5) < nD) ∧
  ((k0_dev48 v5) < nD) ∧
  ((k0_dev50 v5) < nD) ∧
  ((k0_dev52 v5) < nD) ∧
  ((k0_dev54 v5) < nD) ∧
  ((k0_dev56 v5) < nD) ∧
  ((k0_dev58 v5) < nD) ∧
  ((k0_dev60 v5) < nD) ∧
  ((k0_dev62 v5) < nD)
theorem k0_dev1_lt : ∀ (v5 : BitVec 32) (k0_hw1 : k0_chk1 v5), (k0_dev1 v5) < nD := fun v5 k0_hw1 => k0_hw1.1
theorem k0_dev4_lt : ∀ (v5 : BitVec 32) (k0_hw1 : k0_chk1 v5), (k0_dev4 v5) < nD := fun v5 k0_hw1 => k0_hw1.2.1
theorem k0_dev6_lt : ∀ (v5 : BitVec 32) (k0_hw1 : k0_chk1 v5), (k0_dev6 v5) < nD := fun v5 k0_hw1 => k0_hw1.2.2.1
theorem k0_dev8_lt : ∀ (v5 : BitVec 32) (k0_hw1 : k0_chk1 v5), (k0_dev8 v5) < nD := fun v5 k0_hw1 => k0_hw1.2.2.2.1
theorem k0_dev10_lt : ∀ (v5 : BitVec 32) (k0_hw1 : k0_chk1 v5), (k0_dev10 v5) < nD := fun v5 k0_hw1 => k0_hw1.2.2.2.2.1
theorem k0_dev12_lt : ∀ (v5 : BitVec 32) (k0_hw1 : k0_chk1 v5), (k0_dev12 v5) < nD := fun v5 k0_hw1 => k0_hw1.2.2.2.2.2.1
theorem k0_dev14_lt : ∀ (v5 : BitVec 32) (k0_hw1 : k0_chk1 v5), (k0_dev14 v5) < nD := fun v5 k0_hw1 => k0_hw1.2.2.2.2.2.2.1
theorem k0_dev16_lt : ∀ (v5 : BitVec 32) (k0_hw1 : k0_chk1 v5), (k0_dev16 v5) < nD := fun v5 k0_hw1 => k0_hw1.2.2.2.2.2.2.2.1
theorem k0_dev18_lt : ∀ (v5 : BitVec 32) (k0_hw1 : k0_chk1 v5), (k0_dev18 v5) < nD := fun v5 k0_hw1 => k0_hw1.2.2.2.2.2.2.2.2.1
theorem k0_dev20_lt : ∀ (v5 : BitVec 32) (k0_hw1 : k0_chk1 v5), (k0_dev20 v5) < nD := fun v5 k0_hw1 => k0_hw1.2.2.2.2.2.2.2.2.2.1
theorem k0_dev22_lt : ∀ (v5 : BitVec 32) (k0_hw1 : k0_chk1 v5), (k0_dev22 v5) < nD := fun v5 k0_hw1 => k0_hw1.2.2.2.2.2.2.2.2.2.2.1
theorem k0_dev24_lt : ∀ (v5 : BitVec 32) (k0_hw1 : k0_chk1 v5), (k0_dev24 v5) < nD := fun v5 k0_hw1 => k0_hw1.2.2.2.2.2.2.2.2.2.2.2.1
theorem k0_dev26_lt : ∀ (v5 : BitVec 32) (k0_hw1 : k0_chk1 v5), (k0_dev26 v5) < nD := fun v5 k0_hw1 => k0_hw1.2.2.2.2.2.2.2.2.2.2.2.2.1
theorem k0_dev28_lt : ∀ (v5 : BitVec 32) (k0_hw1 : k0_chk1 v5), (k0_dev28 v5) < nD := fun v5 k0_hw1 => k0_hw1.2.2.2.2.2.2.2.2.2.2.2.2.2.1
theorem k0_dev30_lt : ∀ (v5 : BitVec 32) (k0_hw1 : k0_chk1 v5), (k0_dev30 v5) < nD := fun v5 k0_hw1 => k0_hw1.2.2.2.2.2.2.2.2.2.2.2.2.2.2.1
theorem k0_dev32_lt : ∀ (v5 : BitVec 32) (k0_hw1 : k0_chk1 v5), (k0_dev32 v5) < nD := fun v5 k0_hw1 => k0_hw1.2.2.2.2.2.2.2.2.2.2.2.2.2.2.2.1
theorem k0_dev34_lt : ∀ (v5 : BitVec 32) (k0_hw1 : k0_chk1 v5), (k0_dev34 v5) < nD := fun v5 k0_hw1 => k0_hw1.2.2.2.2.2.2.2.2.2.2.2.2.2.2.2.2.1
theorem k0_dev36_lt : ∀ (v5 : BitVec 32) (k0_hw1 : k0_chk1 v5), (k0_dev36 v5) < nD := fun v5 k0_hw1 => k0_hw1.2.2.2.2.2.2.2.2.2.2.2.2.2.2.2.2.2.1
theorem k0_dev38_lt : ∀ (v5 : BitVec 32) (k0_hw1 : k0_chk1 v5), (k0_dev38 v5) < nD := fun v5 k0_hw1 => k0_hw1.2.2.2.2.2.2.2.2.2.2.2.2.2.2.2.2.2.2.1
theorem k0_dev40_lt : ∀ (v5 : BitVec 32) (k0_hw1 : k0_chk1 v5), (k0_dev40 v5) < nD := fun v5 k0_hw1 => k0_hw1.2.2.2.2.2.2.2.2.2.2.2.2.2.2.2.2.2.2.2.1
theorem k0_dev42_lt : ∀ (v5 : BitVec 32) (k0_hw1 : k0_chk1 v5), (k0_dev42 v5) < nD := fun v5 k0_hw1 => k0_hw1.2.2.2.2.2.2.2.2.2.2.2.2.2.2.2.2.2.2.2.2.1
theorem k0_dev44_lt : ∀ (v5 : BitVec 32) (k0_hw1 : k0_chk1 v5), (k0_dev44 v5) < nD := fun v5 k0_hw1 => k0_hw1.2.2.2.2.2.2.2.2.2.2.2.2.2.2.2.2.2.2.2.2.2.1
theorem k0_dev46_lt : ∀ (v5 : BitVec 32) (k0_hw1 : k0_chk1 v5), (k0_dev46 v5) < nD := fun v5 k0_hw1 => k0_hw1.2.2.2.2.2.2.2.2.2.2.2.2.2.2.2.2.2.2.2.2.2.2.1
theorem k0_dev48_lt : ∀ (v5 : BitVec 32) (k0_hw1 : k0_chk1 v5), (k0_dev48 v5) < nD := fun v5 k0_hw1 => k0_hw1.2.2.2.2.2.2.2.2.2.2.2.2.2.2.2.2.2.2.2.2.2.2.2.1
theorem k0_dev50_lt : ∀ (v5 : BitVec 32) (k0_hw1 : k0_chk1 v5), (k0_dev50 v5) < nD := fun v5 k0_hw1 => k0_hw1.2.2.2.2.2.2.2.2.2.2.2.2.2.2.2.2.2.2.2.2.2.2.2.2.1
theorem k0_dev52_lt : ∀ (v5 : BitVec 32) (k0_hw1 : k0_chk1 v5), (k0_dev52 v5) < nD := fun v5 k0_hw1 => k0_hw1.2.2.2.2.2.2.2.2.2.2.2.2.2.2.2.2.2.2.2.2.2.2.2.2.2.1
theorem k0_dev54_lt : ∀ (v5 : BitVec 32) (k0_hw1 : k0_chk1 v5), (k0_dev54 v5) < nD := fun v5 k0_hw1 => k0_hw1.2.2.2.2.2.2.2.2.2.2.2.2.2.2.2.2.2.2.2.2.2.2.2.2.2.2.1
theorem k0_dev56_lt : ∀ (v5 : BitVec 32) (k0_hw1 : k0_chk1 v5), (k0_dev56 v5) < nD := fun v5 k0_hw1 => k0_hw1.2.2.2.2.2.2.2.2.2.2.2.2.2.2.2.2.2.2.2.2.2.2.2.2.2.2.2.1
theorem k0_dev58_lt : ∀ (v5 : BitVec 32) (k0_hw1 : k0_chk1 v5), (k0_dev58 v5) < nD := fun v5 k0_hw1 => k0_hw1.2.2.2.2.2.2.2.2.2.2.2.2.2.2.2.2.2.2.2.2.2.2.2.2.2.2.2.2.1
theorem k0_dev60_lt : ∀ (v5 : BitVec 32) (k0_hw1 : k0_chk1 v5), (k0_dev60 v5) < nD := fun v5 k0_hw1 => k0_hw1.2.2.2.2.2.2.2.2.2.2.2.2.2.2.2.2.2.2.2.2.2.2.2.2.2.2.2.2.2.1
theorem k0_dev62_lt : ∀ (v5 : BitVec 32) (k0_hw1 : k0_chk1 v5), (k0_dev62 v5) < nD := fun v5 k0_hw1 => k0_hw1.2.2.2.2.2.2.2.2.2.2.2.2.2.2.2.2.2.2.2.2.2.2.2.2.2.2.2.2.2.2

def k0_off95 (v3 : BitVec 32) : Fin 1 → Nat :=
  let c16_i32_1690 : BitVec 32 := 16#32
  let v1928 : BitVec 32 := Scalar.addi v3 c16_i32_1690
  let c15_i32_1691 : BitVec 32 := 15#32
  let v1929 : BitVec 32 := Scalar.subi v1928 c15_i32_1691
  let c32_i32_1692 : BitVec 32 := 32#32
  let v1930 : BitVec 32 := Scalar.remsi v1929 c32_i32_1692
  let v1931 : Index := Scalar.indexCast v1930
  ![v1931.toNat]

def k0_chk3 (v3 : BitVec 32) : Prop :=
  (∀ a, (k0_off1 v3) a + S1.size a ≤ S32.size a) ∧
  (∀ a, (k0_off2 v3) a + S1.size a ≤ S32.size a) ∧
  (∀ a, (k0_off7 v3) a + S1.size a ≤ S32.size a) ∧
  (∀ a, (k0_off8 v3) a + S1.size a ≤ S32.size a) ∧
  (∀ a, (k0_off17 v3) a + S1.size a ≤ S32.size a) ∧
  (∀ a, (k0_off18 v3) a + S1.size a ≤ S32.size a) ∧
  (∀ a, (k0_off23 v3) a + S1.size a ≤ S32.size a) ∧
  (∀ a, (k0_off24 v3) a + S1.size a ≤ S32.size a) ∧
  (∀ a, (k0_off29 v3) a + S1.size a ≤ S32.size a) ∧
  (∀ a, (k0_off30 v3) a + S1.size a ≤ S32.size a) ∧
  (∀ a, (k0_off35 v3) a + S1.size a ≤ S32.size a) ∧
  (∀ a, (k0_off36 v3) a + S1.size a ≤ S32.size a) ∧
  (∀ a, (k0_off41 v3) a + S1.size a ≤ S32.size a) ∧
  (∀ a, (k0_off42 v3) a + S1.size a ≤ S32.size a) ∧
  (∀ a, (k0_off47 v3) a + S1.size a ≤ S32.size a) ∧
  (∀ a, (k0_off48 v3) a + S1.size a ≤ S32.size a) ∧
  (∀ a, (k0_off53 v3) a + S1.size a ≤ S32.size a) ∧
  (∀ a, (k0_off54 v3) a + S1.size a ≤ S32.size a) ∧
  (∀ a, (k0_off59 v3) a + S1.size a ≤ S32.size a) ∧
  (∀ a, (k0_off60 v3) a + S1.size a ≤ S32.size a) ∧
  (∀ a, (k0_off65 v3) a + S1.size a ≤ S32.size a) ∧
  (∀ a, (k0_off66 v3) a + S1.size a ≤ S32.size a) ∧
  (∀ a, (k0_off71 v3) a + S1.size a ≤ S32.size a) ∧
  (∀ a, (k0_off72 v3) a + S1.size a ≤ S32.size a) ∧
  (∀ a, (k0_off77 v3) a + S1.size a ≤ S32.size a) ∧
  (∀ a, (k0_off78 v3) a + S1.size a ≤ S32.size a) ∧
  (∀ a, (k0_off83 v3) a + S1.size a ≤ S32.size a) ∧
  (∀ a, (k0_off84 v3) a + S1.size a ≤ S32.size a) ∧
  (∀ a, (k0_off89 v3) a + S1.size a ≤ S32.size a) ∧
  (∀ a, (k0_off90 v3) a + S1.size a ≤ S32.size a) ∧
  (∀ a, (k0_off95 v3) a + S1.size a ≤ S32.size a)
theorem k0_off1_inb : ∀ (v3 : BitVec 32) (k0_hw3 : k0_chk3 v3), ∀ a, (k0_off1 v3) a + S1.size a ≤ S32.size a := fun v3 k0_hw3 => k0_hw3.1
theorem k0_off2_inb : ∀ (v3 : BitVec 32) (k0_hw3 : k0_chk3 v3), ∀ a, (k0_off2 v3) a + S1.size a ≤ S32.size a := fun v3 k0_hw3 => k0_hw3.2.1
theorem k0_off7_inb : ∀ (v3 : BitVec 32) (k0_hw3 : k0_chk3 v3), ∀ a, (k0_off7 v3) a + S1.size a ≤ S32.size a := fun v3 k0_hw3 => k0_hw3.2.2.1
theorem k0_off8_inb : ∀ (v3 : BitVec 32) (k0_hw3 : k0_chk3 v3), ∀ a, (k0_off8 v3) a + S1.size a ≤ S32.size a := fun v3 k0_hw3 => k0_hw3.2.2.2.1
theorem k0_off17_inb : ∀ (v3 : BitVec 32) (k0_hw3 : k0_chk3 v3), ∀ a, (k0_off17 v3) a + S1.size a ≤ S32.size a := fun v3 k0_hw3 => k0_hw3.2.2.2.2.1
theorem k0_off18_inb : ∀ (v3 : BitVec 32) (k0_hw3 : k0_chk3 v3), ∀ a, (k0_off18 v3) a + S1.size a ≤ S32.size a := fun v3 k0_hw3 => k0_hw3.2.2.2.2.2.1
theorem k0_off23_inb : ∀ (v3 : BitVec 32) (k0_hw3 : k0_chk3 v3), ∀ a, (k0_off23 v3) a + S1.size a ≤ S32.size a := fun v3 k0_hw3 => k0_hw3.2.2.2.2.2.2.1
theorem k0_off24_inb : ∀ (v3 : BitVec 32) (k0_hw3 : k0_chk3 v3), ∀ a, (k0_off24 v3) a + S1.size a ≤ S32.size a := fun v3 k0_hw3 => k0_hw3.2.2.2.2.2.2.2.1
theorem k0_off29_inb : ∀ (v3 : BitVec 32) (k0_hw3 : k0_chk3 v3), ∀ a, (k0_off29 v3) a + S1.size a ≤ S32.size a := fun v3 k0_hw3 => k0_hw3.2.2.2.2.2.2.2.2.1
theorem k0_off30_inb : ∀ (v3 : BitVec 32) (k0_hw3 : k0_chk3 v3), ∀ a, (k0_off30 v3) a + S1.size a ≤ S32.size a := fun v3 k0_hw3 => k0_hw3.2.2.2.2.2.2.2.2.2.1
theorem k0_off35_inb : ∀ (v3 : BitVec 32) (k0_hw3 : k0_chk3 v3), ∀ a, (k0_off35 v3) a + S1.size a ≤ S32.size a := fun v3 k0_hw3 => k0_hw3.2.2.2.2.2.2.2.2.2.2.1
theorem k0_off36_inb : ∀ (v3 : BitVec 32) (k0_hw3 : k0_chk3 v3), ∀ a, (k0_off36 v3) a + S1.size a ≤ S32.size a := fun v3 k0_hw3 => k0_hw3.2.2.2.2.2.2.2.2.2.2.2.1
theorem k0_off41_inb : ∀ (v3 : BitVec 32) (k0_hw3 : k0_chk3 v3), ∀ a, (k0_off41 v3) a + S1.size a ≤ S32.size a := fun v3 k0_hw3 => k0_hw3.2.2.2.2.2.2.2.2.2.2.2.2.1
theorem k0_off42_inb : ∀ (v3 : BitVec 32) (k0_hw3 : k0_chk3 v3), ∀ a, (k0_off42 v3) a + S1.size a ≤ S32.size a := fun v3 k0_hw3 => k0_hw3.2.2.2.2.2.2.2.2.2.2.2.2.2.1
theorem k0_off47_inb : ∀ (v3 : BitVec 32) (k0_hw3 : k0_chk3 v3), ∀ a, (k0_off47 v3) a + S1.size a ≤ S32.size a := fun v3 k0_hw3 => k0_hw3.2.2.2.2.2.2.2.2.2.2.2.2.2.2.1
theorem k0_off48_inb : ∀ (v3 : BitVec 32) (k0_hw3 : k0_chk3 v3), ∀ a, (k0_off48 v3) a + S1.size a ≤ S32.size a := fun v3 k0_hw3 => k0_hw3.2.2.2.2.2.2.2.2.2.2.2.2.2.2.2.1
theorem k0_off53_inb : ∀ (v3 : BitVec 32) (k0_hw3 : k0_chk3 v3), ∀ a, (k0_off53 v3) a + S1.size a ≤ S32.size a := fun v3 k0_hw3 => k0_hw3.2.2.2.2.2.2.2.2.2.2.2.2.2.2.2.2.1
theorem k0_off54_inb : ∀ (v3 : BitVec 32) (k0_hw3 : k0_chk3 v3), ∀ a, (k0_off54 v3) a + S1.size a ≤ S32.size a := fun v3 k0_hw3 => k0_hw3.2.2.2.2.2.2.2.2.2.2.2.2.2.2.2.2.2.1
theorem k0_off59_inb : ∀ (v3 : BitVec 32) (k0_hw3 : k0_chk3 v3), ∀ a, (k0_off59 v3) a + S1.size a ≤ S32.size a := fun v3 k0_hw3 => k0_hw3.2.2.2.2.2.2.2.2.2.2.2.2.2.2.2.2.2.2.1
theorem k0_off60_inb : ∀ (v3 : BitVec 32) (k0_hw3 : k0_chk3 v3), ∀ a, (k0_off60 v3) a + S1.size a ≤ S32.size a := fun v3 k0_hw3 => k0_hw3.2.2.2.2.2.2.2.2.2.2.2.2.2.2.2.2.2.2.2.1
theorem k0_off65_inb : ∀ (v3 : BitVec 32) (k0_hw3 : k0_chk3 v3), ∀ a, (k0_off65 v3) a + S1.size a ≤ S32.size a := fun v3 k0_hw3 => k0_hw3.2.2.2.2.2.2.2.2.2.2.2.2.2.2.2.2.2.2.2.2.1
theorem k0_off66_inb : ∀ (v3 : BitVec 32) (k0_hw3 : k0_chk3 v3), ∀ a, (k0_off66 v3) a + S1.size a ≤ S32.size a := fun v3 k0_hw3 => k0_hw3.2.2.2.2.2.2.2.2.2.2.2.2.2.2.2.2.2.2.2.2.2.1
theorem k0_off71_inb : ∀ (v3 : BitVec 32) (k0_hw3 : k0_chk3 v3), ∀ a, (k0_off71 v3) a + S1.size a ≤ S32.size a := fun v3 k0_hw3 => k0_hw3.2.2.2.2.2.2.2.2.2.2.2.2.2.2.2.2.2.2.2.2.2.2.1
theorem k0_off72_inb : ∀ (v3 : BitVec 32) (k0_hw3 : k0_chk3 v3), ∀ a, (k0_off72 v3) a + S1.size a ≤ S32.size a := fun v3 k0_hw3 => k0_hw3.2.2.2.2.2.2.2.2.2.2.2.2.2.2.2.2.2.2.2.2.2.2.2.1
theorem k0_off77_inb : ∀ (v3 : BitVec 32) (k0_hw3 : k0_chk3 v3), ∀ a, (k0_off77 v3) a + S1.size a ≤ S32.size a := fun v3 k0_hw3 => k0_hw3.2.2.2.2.2.2.2.2.2.2.2.2.2.2.2.2.2.2.2.2.2.2.2.2.1
theorem k0_off78_inb : ∀ (v3 : BitVec 32) (k0_hw3 : k0_chk3 v3), ∀ a, (k0_off78 v3) a + S1.size a ≤ S32.size a := fun v3 k0_hw3 => k0_hw3.2.2.2.2.2.2.2.2.2.2.2.2.2.2.2.2.2.2.2.2.2.2.2.2.2.1
theorem k0_off83_inb : ∀ (v3 : BitVec 32) (k0_hw3 : k0_chk3 v3), ∀ a, (k0_off83 v3) a + S1.size a ≤ S32.size a := fun v3 k0_hw3 => k0_hw3.2.2.2.2.2.2.2.2.2.2.2.2.2.2.2.2.2.2.2.2.2.2.2.2.2.2.1
theorem k0_off84_inb : ∀ (v3 : BitVec 32) (k0_hw3 : k0_chk3 v3), ∀ a, (k0_off84 v3) a + S1.size a ≤ S32.size a := fun v3 k0_hw3 => k0_hw3.2.2.2.2.2.2.2.2.2.2.2.2.2.2.2.2.2.2.2.2.2.2.2.2.2.2.2.1
theorem k0_off89_inb : ∀ (v3 : BitVec 32) (k0_hw3 : k0_chk3 v3), ∀ a, (k0_off89 v3) a + S1.size a ≤ S32.size a := fun v3 k0_hw3 => k0_hw3.2.2.2.2.2.2.2.2.2.2.2.2.2.2.2.2.2.2.2.2.2.2.2.2.2.2.2.2.1
theorem k0_off90_inb : ∀ (v3 : BitVec 32) (k0_hw3 : k0_chk3 v3), ∀ a, (k0_off90 v3) a + S1.size a ≤ S32.size a := fun v3 k0_hw3 => k0_hw3.2.2.2.2.2.2.2.2.2.2.2.2.2.2.2.2.2.2.2.2.2.2.2.2.2.2.2.2.2.1
theorem k0_off95_inb : ∀ (v3 : BitVec 32) (k0_hw3 : k0_chk3 v3), ∀ a, (k0_off95 v3) a + S1.size a ≤ S32.size a := fun v3 k0_hw3 => k0_hw3.2.2.2.2.2.2.2.2.2.2.2.2.2.2.2.2.2.2.2.2.2.2.2.2.2.2.2.2.2.2

def k0_off96 (v1932 : BitVec 32) : Fin 2 → Nat :=
  let c64_i32_1703 : BitVec 32 := 64#32
  let v1941 : BitVec 32 := Scalar.muli v1932 c64_i32_1703
  let v1942 : Index := Scalar.indexCast v1941
  let c0_1704 : Index := 0#32
  ![v1942.toNat, 0]

def k0_dev63 (v4 : BitVec 32) : Nat :=
  let c0_i32_1714 : BitVec 32 := 0#32
  let c1_i32_1713 : BitVec 32 := 1#32
  let v1953 : BitVec 32 := Scalar.muli v4 c1_i32_1713
  let v1954 : BitVec 32 := Scalar.addi c0_i32_1714 v1953
  v1954.toNat
def k0_off97 (v1932 : BitVec 32) : Fin 2 → Nat :=
  let c64_i32_1729 : BitVec 32 := 64#32
  let v1971 : BitVec 32 := Scalar.muli v1932 c64_i32_1729
  let v1972 : Index := Scalar.indexCast v1971
  let c1024_1730 : Index := 1024#32
  ![v1972.toNat, 1024]

def k0_chk34 (v1932 : BitVec 32) : Prop :=
  (∀ a, (k0_off96 v1932) a + S64x1024.size a ≤ S2048x2048.size a) ∧
  (∀ a, (k0_off97 v1932) a + S64x1024.size a ≤ S2048x2048.size a)
theorem k0_off96_inb : ∀ (v1932 : BitVec 32) (k0_hw34 : k0_chk34 v1932), ∀ a, (k0_off96 v1932) a + S64x1024.size a ≤ S2048x2048.size a := fun v1932 k0_hw34 => k0_hw34.1
theorem k0_off97_inb : ∀ (v1932 : BitVec 32) (k0_hw34 : k0_chk34 v1932), ∀ a, (k0_off97 v1932) a + S64x1024.size a ≤ S2048x2048.size a := fun v1932 k0_hw34 => k0_hw34.2

def k0_dev64 (v4 : BitVec 32) : Nat :=
  let c0_i32_1741 : BitVec 32 := 0#32
  let c1_i32_1740 : BitVec 32 := 1#32
  let v1983 : BitVec 32 := Scalar.muli v4 c1_i32_1740
  let v1984 : BitVec 32 := Scalar.addi c0_i32_1741 v1983
  v1984.toNat

def k0_chk2_0 (v4 : BitVec 32) : Prop :=
  ((k0_dev2 v4) < nD) ∧
  ((k0_dev3 v4) < nD) ∧
  ((k0_dev5 v4) < nD) ∧
  ((k0_dev7 v4) < nD) ∧
  ((k0_dev9 v4) < nD) ∧
  ((k0_dev11 v4) < nD) ∧
  ((k0_dev13 v4) < nD) ∧
  ((k0_dev15 v4) < nD) ∧
  ((k0_dev17 v4) < nD) ∧
  ((k0_dev19 v4) < nD) ∧
  ((k0_dev21 v4) < nD) ∧
  ((k0_dev23 v4) < nD) ∧
  ((k0_dev25 v4) < nD) ∧
  ((k0_dev27 v4) < nD) ∧
  ((k0_dev29 v4) < nD) ∧
  ((k0_dev31 v4) < nD) ∧
  ((k0_dev33 v4) < nD) ∧
  ((k0_dev35 v4) < nD) ∧
  ((k0_dev37 v4) < nD) ∧
  ((k0_dev39 v4) < nD) ∧
  ((k0_dev41 v4) < nD) ∧
  ((k0_dev43 v4) < nD) ∧
  ((k0_dev45 v4) < nD) ∧
  ((k0_dev47 v4) < nD) ∧
  ((k0_dev49 v4) < nD) ∧
  ((k0_dev51 v4) < nD) ∧
  ((k0_dev53 v4) < nD) ∧
  ((k0_dev55 v4) < nD) ∧
  ((k0_dev57 v4) < nD) ∧
  ((k0_dev59 v4) < nD) ∧
  ((k0_dev61 v4) < nD) ∧
  ((k0_dev63 v4) < nD)
def k0_chk2_1 (v4 : BitVec 32) : Prop :=
  ((k0_dev64 v4) < nD)
def k0_chk2 (v4 : BitVec 32) : Prop :=
  k0_chk2_0 v4 ∧
  k0_chk2_1 v4
theorem k0_dev2_lt : ∀ (v4 : BitVec 32) (k0_hw2 : k0_chk2 v4), (k0_dev2 v4) < nD := fun v4 k0_hw2 => k0_hw2.1.1
theorem k0_dev3_lt : ∀ (v4 : BitVec 32) (k0_hw2 : k0_chk2 v4), (k0_dev3 v4) < nD := fun v4 k0_hw2 => k0_hw2.1.2.1
theorem k0_dev5_lt : ∀ (v4 : BitVec 32) (k0_hw2 : k0_chk2 v4), (k0_dev5 v4) < nD := fun v4 k0_hw2 => k0_hw2.1.2.2.1
theorem k0_dev7_lt : ∀ (v4 : BitVec 32) (k0_hw2 : k0_chk2 v4), (k0_dev7 v4) < nD := fun v4 k0_hw2 => k0_hw2.1.2.2.2.1
theorem k0_dev9_lt : ∀ (v4 : BitVec 32) (k0_hw2 : k0_chk2 v4), (k0_dev9 v4) < nD := fun v4 k0_hw2 => k0_hw2.1.2.2.2.2.1
theorem k0_dev11_lt : ∀ (v4 : BitVec 32) (k0_hw2 : k0_chk2 v4), (k0_dev11 v4) < nD := fun v4 k0_hw2 => k0_hw2.1.2.2.2.2.2.1
theorem k0_dev13_lt : ∀ (v4 : BitVec 32) (k0_hw2 : k0_chk2 v4), (k0_dev13 v4) < nD := fun v4 k0_hw2 => k0_hw2.1.2.2.2.2.2.2.1
theorem k0_dev15_lt : ∀ (v4 : BitVec 32) (k0_hw2 : k0_chk2 v4), (k0_dev15 v4) < nD := fun v4 k0_hw2 => k0_hw2.1.2.2.2.2.2.2.2.1
theorem k0_dev17_lt : ∀ (v4 : BitVec 32) (k0_hw2 : k0_chk2 v4), (k0_dev17 v4) < nD := fun v4 k0_hw2 => k0_hw2.1.2.2.2.2.2.2.2.2.1
theorem k0_dev19_lt : ∀ (v4 : BitVec 32) (k0_hw2 : k0_chk2 v4), (k0_dev19 v4) < nD := fun v4 k0_hw2 => k0_hw2.1.2.2.2.2.2.2.2.2.2.1
theorem k0_dev21_lt : ∀ (v4 : BitVec 32) (k0_hw2 : k0_chk2 v4), (k0_dev21 v4) < nD := fun v4 k0_hw2 => k0_hw2.1.2.2.2.2.2.2.2.2.2.2.1
theorem k0_dev23_lt : ∀ (v4 : BitVec 32) (k0_hw2 : k0_chk2 v4), (k0_dev23 v4) < nD := fun v4 k0_hw2 => k0_hw2.1.2.2.2.2.2.2.2.2.2.2.2.1
theorem k0_dev25_lt : ∀ (v4 : BitVec 32) (k0_hw2 : k0_chk2 v4), (k0_dev25 v4) < nD := fun v4 k0_hw2 => k0_hw2.1.2.2.2.2.2.2.2.2.2.2.2.2.1
theorem k0_dev27_lt : ∀ (v4 : BitVec 32) (k0_hw2 : k0_chk2 v4), (k0_dev27 v4) < nD := fun v4 k0_hw2 => k0_hw2.1.2.2.2.2.2.2.2.2.2.2.2.2.2.1
theorem k0_dev29_lt : ∀ (v4 : BitVec 32) (k0_hw2 : k0_chk2 v4), (k0_dev29 v4) < nD := fun v4 k0_hw2 => k0_hw2.1.2.2.2.2.2.2.2.2.2.2.2.2.2.2.1
theorem k0_dev31_lt : ∀ (v4 : BitVec 32) (k0_hw2 : k0_chk2 v4), (k0_dev31 v4) < nD := fun v4 k0_hw2 => k0_hw2.1.2.2.2.2.2.2.2.2.2.2.2.2.2.2.2.1
theorem k0_dev33_lt : ∀ (v4 : BitVec 32) (k0_hw2 : k0_chk2 v4), (k0_dev33 v4) < nD := fun v4 k0_hw2 => k0_hw2.1.2.2.2.2.2.2.2.2.2.2.2.2.2.2.2.2.1
theorem k0_dev35_lt : ∀ (v4 : BitVec 32) (k0_hw2 : k0_chk2 v4), (k0_dev35 v4) < nD := fun v4 k0_hw2 => k0_hw2.1.2.2.2.2.2.2.2.2.2.2.2.2.2.2.2.2.2.1
theorem k0_dev37_lt : ∀ (v4 : BitVec 32) (k0_hw2 : k0_chk2 v4), (k0_dev37 v4) < nD := fun v4 k0_hw2 => k0_hw2.1.2.2.2.2.2.2.2.2.2.2.2.2.2.2.2.2.2.2.1
theorem k0_dev39_lt : ∀ (v4 : BitVec 32) (k0_hw2 : k0_chk2 v4), (k0_dev39 v4) < nD := fun v4 k0_hw2 => k0_hw2.1.2.2.2.2.2.2.2.2.2.2.2.2.2.2.2.2.2.2.2.1
theorem k0_dev41_lt : ∀ (v4 : BitVec 32) (k0_hw2 : k0_chk2 v4), (k0_dev41 v4) < nD := fun v4 k0_hw2 => k0_hw2.1.2.2.2.2.2.2.2.2.2.2.2.2.2.2.2.2.2.2.2.2.1
theorem k0_dev43_lt : ∀ (v4 : BitVec 32) (k0_hw2 : k0_chk2 v4), (k0_dev43 v4) < nD := fun v4 k0_hw2 => k0_hw2.1.2.2.2.2.2.2.2.2.2.2.2.2.2.2.2.2.2.2.2.2.2.1
theorem k0_dev45_lt : ∀ (v4 : BitVec 32) (k0_hw2 : k0_chk2 v4), (k0_dev45 v4) < nD := fun v4 k0_hw2 => k0_hw2.1.2.2.2.2.2.2.2.2.2.2.2.2.2.2.2.2.2.2.2.2.2.2.1
theorem k0_dev47_lt : ∀ (v4 : BitVec 32) (k0_hw2 : k0_chk2 v4), (k0_dev47 v4) < nD := fun v4 k0_hw2 => k0_hw2.1.2.2.2.2.2.2.2.2.2.2.2.2.2.2.2.2.2.2.2.2.2.2.2.1
theorem k0_dev49_lt : ∀ (v4 : BitVec 32) (k0_hw2 : k0_chk2 v4), (k0_dev49 v4) < nD := fun v4 k0_hw2 => k0_hw2.1.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.1.2.2.2.2.2.2.2.2.2.2.2.2.2.2.2.2.2.2.2.2.2.2.2.2.2.1
theorem k0_dev53_lt : ∀ (v4 : BitVec 32) (k0_hw2 : k0_chk2 v4), (k0_dev53 v4) < nD := fun v4 k0_hw2 => k0_hw2.1.2.2.2.2.2.2.2.2.2.2.2.2.2.2.2.2.2.2.2.2.2.2.2.2.2.2.1
theorem k0_dev55_lt : ∀ (v4 : BitVec 32) (k0_hw2 : k0_chk2 v4), (k0_dev55 v4) < nD := fun v4 k0_hw2 => k0_hw2.1.2.2.2.2.2.2.2.2.2.2.2.2.2.2.2.2.2.2.2.2.2.2.2.2.2.2.2.1
theorem k0_dev57_lt : ∀ (v4 : BitVec 32) (k0_hw2 : k0_chk2 v4), (k0_dev57 v4) < nD := fun v4 k0_hw2 => k0_hw2.1.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.2.2.2.2.2.2.2.2.2.2.2.2.2.2.2.2.1
theorem k0_dev61_lt : ∀ (v4 : BitVec 32) (k0_hw2 : k0_chk2 v4), (k0_dev61 v4) < nD := fun v4 k0_hw2 => k0_hw2.1.2.2.2.2.2.2.2.2.2.2.2.2.2.2.2.2.2.2.2.2.2.2.2.2.2.2.2.2.2.2.1
theorem k0_dev63_lt : ∀ (v4 : BitVec 32) (k0_hw2 : k0_chk2 v4), (k0_dev63 v4) < nD := fun v4 k0_hw2 => k0_hw2.1.2.2.2.2.2.2.2.2.2.2.2.2.2.2.2.2.2.2.2.2.2.2.2.2.2.2.2.2.2.2.2
theorem k0_dev64_lt : ∀ (v4 : BitVec 32) (k0_hw2 : k0_chk2 v4), (k0_dev64 v4) < nD := fun v4 k0_hw2 => k0_hw2.2

def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_1766 : BitVec 32 := 64#32
  let v2009 : BitVec 32 := Scalar.muli v2 c64_i32_1766
  let v2010 : Index := Scalar.indexCast v2009
  let c0_1767 : Index := 0#32
  ![v2010.toNat, 0]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_1795 : BitVec 32 := 64#32
  let v2038 : BitVec 32 := Scalar.muli v2 c64_i32_1795
  let v2039 : Index := Scalar.indexCast v2038
  let c1024_1796 : Index := 1024#32
  ![v2039.toNat, 1024]
def k0_off100 (v51 : BitVec 32) : Fin 2 → Nat :=
  let c64_i32 : BitVec 32 := 64#32
  let v58 : BitVec 32 := Scalar.muli v51 c64_i32
  let c0_i32_1809 : BitVec 32 := 0#32
  ![v58.toNat, 0]
def k0_off101 (v51 : BitVec 32) : Fin 2 → Nat :=
  let c64_i32_51 : BitVec 32 := 64#32
  let v78 : BitVec 32 := Scalar.muli v51 c64_i32_51
  let c1024_i32_1816 : BitVec 32 := 1024#32
  ![v78.toNat, 1024]

def k0_chk4 (v51 : BitVec 32) : Prop :=
  (∀ a, (k0_off3 v51) a + S64x1024.size a ≤ S2048x2048.size a) ∧
  (∀ (hinb : ∀ a, (k0_off3 v51) a + S64x1024.size a ≤ S2048x2048.size a), (Rect.unit (s := S2048x2048) (k0_off3 v51) S64x1024.size hinb).WholeWords (EltTy.packing .bf16)) ∧
  (∀ a, (k0_off5 v51) a + S64x1024.size a ≤ S2048x2048.size a) ∧
  (∀ (hinb : ∀ a, (k0_off5 v51) a + S64x1024.size a ≤ S2048x2048.size a), (Rect.unit (s := S2048x2048) (k0_off5 v51) S64x1024.size hinb).WholeWords (EltTy.packing .bf16)) ∧
  (∀ a, (k0_off9 v51) a + S64x1024.size a ≤ S2048x2048.size a) ∧
  (∀ (hinb : ∀ a, (k0_off9 v51) a + S64x1024.size a ≤ S2048x2048.size a), (Rect.unit (s := S2048x2048) (k0_off9 v51) S64x1024.size hinb).WholeWords (EltTy.packing .bf16)) ∧
  (∀ a, (k0_off13 v51) a + S64x1024.size a ≤ S2048x2048.size a) ∧
  (∀ (hinb : ∀ a, (k0_off13 v51) a + S64x1024.size a ≤ S2048x2048.size a), (Rect.unit (s := S2048x2048) (k0_off13 v51) S64x1024.size hinb).WholeWords (EltTy.packing .bf16)) ∧
  (∀ a, (k0_off100 v51) a + S64x1024.size a ≤ S2048x2048.size a) ∧
  (∀ (hinb : ∀ a, (k0_off100 v51) a + S64x1024.size a ≤ S2048x2048.size a), (Rect.unit (s := S2048x2048) (k0_off100 v51) S64x1024.size hinb).WholeWords (EltTy.packing .bf16)) ∧
  (∀ a, (k0_off101 v51) a + S64x1024.size a ≤ S2048x2048.size a) ∧
  (∀ (hinb : ∀ a, (k0_off101 v51) a + S64x1024.size a ≤ S2048x2048.size a), (Rect.unit (s := S2048x2048) (k0_off101 v51) S64x1024.size hinb).WholeWords (EltTy.packing .bf16))
theorem k0_off3_inb : ∀ (v51 : BitVec 32) (k0_hw4 : k0_chk4 v51), ∀ a, (k0_off3 v51) a + S64x1024.size a ≤ S2048x2048.size a := fun v51 k0_hw4 => k0_hw4.1
theorem k0_off3_wordsbf16 : ∀ (v51 : BitVec 32) (k0_hw4 : k0_chk4 v51), (Rect.unit (s := S2048x2048) (k0_off3 v51) S64x1024.size (k0_off3_inb v51 k0_hw4)).WholeWords (EltTy.packing .bf16) := fun v51 k0_hw4 => k0_hw4.2.1 (k0_off3_inb v51 k0_hw4)
theorem k0_off5_inb : ∀ (v51 : BitVec 32) (k0_hw4 : k0_chk4 v51), ∀ a, (k0_off5 v51) a + S64x1024.size a ≤ S2048x2048.size a := fun v51 k0_hw4 => k0_hw4.2.2.1
theorem k0_off5_wordsbf16 : ∀ (v51 : BitVec 32) (k0_hw4 : k0_chk4 v51), (Rect.unit (s := S2048x2048) (k0_off5 v51) S64x1024.size (k0_off5_inb v51 k0_hw4)).WholeWords (EltTy.packing .bf16) := fun v51 k0_hw4 => k0_hw4.2.2.2.1 (k0_off5_inb v51 k0_hw4)
theorem k0_off9_inb : ∀ (v51 : BitVec 32) (k0_hw4 : k0_chk4 v51), ∀ a, (k0_off9 v51) a + S64x1024.size a ≤ S2048x2048.size a := fun v51 k0_hw4 => k0_hw4.2.2.2.2.1
theorem k0_off9_wordsbf16 : ∀ (v51 : BitVec 32) (k0_hw4 : k0_chk4 v51), (Rect.unit (s := S2048x2048) (k0_off9 v51) S64x1024.size (k0_off9_inb v51 k0_hw4)).WholeWords (EltTy.packing .bf16) := fun v51 k0_hw4 => k0_hw4.2.2.2.2.2.1 (k0_off9_inb v51 k0_hw4)
theorem k0_off13_inb : ∀ (v51 : BitVec 32) (k0_hw4 : k0_chk4 v51), ∀ a, (k0_off13 v51) a + S64x1024.size a ≤ S2048x2048.size a := fun v51 k0_hw4 => k0_hw4.2.2.2.2.2.2.1
theorem k0_off13_wordsbf16 : ∀ (v51 : BitVec 32) (k0_hw4 : k0_chk4 v51), (Rect.unit (s := S2048x2048) (k0_off13 v51) S64x1024.size (k0_off13_inb v51 k0_hw4)).WholeWords (EltTy.packing .bf16) := fun v51 k0_hw4 => k0_hw4.2.2.2.2.2.2.2.1 (k0_off13_inb v51 k0_hw4)
theorem k0_off100_inb : ∀ (v51 : BitVec 32) (k0_hw4 : k0_chk4 v51), ∀ a, (k0_off100 v51) a + S64x1024.size a ≤ S2048x2048.size a := fun v51 k0_hw4 => k0_hw4.2.2.2.2.2.2.2.2.1
theorem k0_off100_wordsbf16 : ∀ (v51 : BitVec 32) (k0_hw4 : k0_chk4 v51), (Rect.unit (s := S2048x2048) (k0_off100 v51) S64x1024.size (k0_off100_inb v51 k0_hw4)).WholeWords (EltTy.packing .bf16) := fun v51 k0_hw4 => k0_hw4.2.2.2.2.2.2.2.2.2.1 (k0_off100_inb v51 k0_hw4)
theorem k0_off101_inb : ∀ (v51 : BitVec 32) (k0_hw4 : k0_chk4 v51), ∀ a, (k0_off101 v51) a + S64x1024.size a ≤ S2048x2048.size a := fun v51 k0_hw4 => k0_hw4.2.2.2.2.2.2.2.2.2.2.1
theorem k0_off101_wordsbf16 : ∀ (v51 : BitVec 32) (k0_hw4 : k0_chk4 v51), (Rect.unit (s := S2048x2048) (k0_off101 v51) S64x1024.size (k0_off101_inb v51 k0_hw4)).WholeWords (EltTy.packing .bf16) := fun v51 k0_hw4 => k0_hw4.2.2.2.2.2.2.2.2.2.2.2 (k0_off101_inb v51 k0_hw4)

def k0_off102 (v57 : BitVec 32) : Fin 2 → Nat :=
  let c64_i32_42 : BitVec 32 := 64#32
  let v68 : BitVec 32 := Scalar.muli v57 c64_i32_42
  let c0_i32_2093 : BitVec 32 := 0#32
  ![v68.toNat, 0]
def k0_off103 (v57 : BitVec 32) : Fin 2 → Nat :=
  let c64_i32_59 : BitVec 32 := 64#32
  let v88 : BitVec 32 := Scalar.muli v57 c64_i32_59
  let c1024_i32_2100 : BitVec 32 := 1024#32
  ![v88.toNat, 1024]

def k0_chk5 (v57 : BitVec 32) : Prop :=
  (∀ a, (k0_off4 v57) a + S64x1024.size a ≤ S2048x2048.size a) ∧
  (∀ (hinb : ∀ a, (k0_off4 v57) a + S64x1024.size a ≤ S2048x2048.size a), (Rect.unit (s := S2048x2048) (k0_off4 v57) S64x1024.size hinb).WholeWords (EltTy.packing .bf16)) ∧
  (∀ a, (k0_off6 v57) a + S64x1024.size a ≤ S2048x2048.size a) ∧
  (∀ (hinb : ∀ a, (k0_off6 v57) a + S64x1024.size a ≤ S2048x2048.size a), (Rect.unit (s := S2048x2048) (k0_off6 v57) S64x1024.size hinb).WholeWords (EltTy.packing .bf16)) ∧
  (∀ a, (k0_off11 v57) a + S64x1024.size a ≤ S2048x2048.size a) ∧
  (∀ (hinb : ∀ a, (k0_off11 v57) a + S64x1024.size a ≤ S2048x2048.size a), (Rect.unit (s := S2048x2048) (k0_off11 v57) S64x1024.size hinb).WholeWords (EltTy.packing .bf16)) ∧
  (∀ a, (k0_off15 v57) a + S64x1024.size a ≤ S2048x2048.size a) ∧
  (∀ (hinb : ∀ a, (k0_off15 v57) a + S64x1024.size a ≤ S2048x2048.size a), (Rect.unit (s := S2048x2048) (k0_off15 v57) S64x1024.size hinb).WholeWords (EltTy.packing .bf16)) ∧
  (∀ a, (k0_off102 v57) a + S64x1024.size a ≤ S2048x2048.size a) ∧
  (∀ (hinb : ∀ a, (k0_off102 v57) a + S64x1024.size a ≤ S2048x2048.size a), (Rect.unit (s := S2048x2048) (k0_off102 v57) S64x1024.size hinb).WholeWords (EltTy.packing .bf16)) ∧
  (∀ a, (k0_off103 v57) a + S64x1024.size a ≤ S2048x2048.size a) ∧
  (∀ (hinb : ∀ a, (k0_off103 v57) a + S64x1024.size a ≤ S2048x2048.size a), (Rect.unit (s := S2048x2048) (k0_off103 v57) S64x1024.size hinb).WholeWords (EltTy.packing .bf16))
theorem k0_off4_inb : ∀ (v57 : BitVec 32) (k0_hw5 : k0_chk5 v57), ∀ a, (k0_off4 v57) a + S64x1024.size a ≤ S2048x2048.size a := fun v57 k0_hw5 => k0_hw5.1
theorem k0_off4_wordsbf16 : ∀ (v57 : BitVec 32) (k0_hw5 : k0_chk5 v57), (Rect.unit (s := S2048x2048) (k0_off4 v57) S64x1024.size (k0_off4_inb v57 k0_hw5)).WholeWords (EltTy.packing .bf16) := fun v57 k0_hw5 => k0_hw5.2.1 (k0_off4_inb v57 k0_hw5)
theorem k0_off6_inb : ∀ (v57 : BitVec 32) (k0_hw5 : k0_chk5 v57), ∀ a, (k0_off6 v57) a + S64x1024.size a ≤ S2048x2048.size a := fun v57 k0_hw5 => k0_hw5.2.2.1
theorem k0_off6_wordsbf16 : ∀ (v57 : BitVec 32) (k0_hw5 : k0_chk5 v57), (Rect.unit (s := S2048x2048) (k0_off6 v57) S64x1024.size (k0_off6_inb v57 k0_hw5)).WholeWords (EltTy.packing .bf16) := fun v57 k0_hw5 => k0_hw5.2.2.2.1 (k0_off6_inb v57 k0_hw5)
theorem k0_off11_inb : ∀ (v57 : BitVec 32) (k0_hw5 : k0_chk5 v57), ∀ a, (k0_off11 v57) a + S64x1024.size a ≤ S2048x2048.size a := fun v57 k0_hw5 => k0_hw5.2.2.2.2.1
theorem k0_off11_wordsbf16 : ∀ (v57 : BitVec 32) (k0_hw5 : k0_chk5 v57), (Rect.unit (s := S2048x2048) (k0_off11 v57) S64x1024.size (k0_off11_inb v57 k0_hw5)).WholeWords (EltTy.packing .bf16) := fun v57 k0_hw5 => k0_hw5.2.2.2.2.2.1 (k0_off11_inb v57 k0_hw5)
theorem k0_off15_inb : ∀ (v57 : BitVec 32) (k0_hw5 : k0_chk5 v57), ∀ a, (k0_off15 v57) a + S64x1024.size a ≤ S2048x2048.size a := fun v57 k0_hw5 => k0_hw5.2.2.2.2.2.2.1
theorem k0_off15_wordsbf16 : ∀ (v57 : BitVec 32) (k0_hw5 : k0_chk5 v57), (Rect.unit (s := S2048x2048) (k0_off15 v57) S64x1024.size (k0_off15_inb v57 k0_hw5)).WholeWords (EltTy.packing .bf16) := fun v57 k0_hw5 => k0_hw5.2.2.2.2.2.2.2.1 (k0_off15_inb v57 k0_hw5)
theorem k0_off102_inb : ∀ (v57 : BitVec 32) (k0_hw5 : k0_chk5 v57), ∀ a, (k0_off102 v57) a + S64x1024.size a ≤ S2048x2048.size a := fun v57 k0_hw5 => k0_hw5.2.2.2.2.2.2.2.2.1
theorem k0_off102_wordsbf16 : ∀ (v57 : BitVec 32) (k0_hw5 : k0_chk5 v57), (Rect.unit (s := S2048x2048) (k0_off102 v57) S64x1024.size (k0_off102_inb v57 k0_hw5)).WholeWords (EltTy.packing .bf16) := fun v57 k0_hw5 => k0_hw5.2.2.2.2.2.2.2.2.2.1 (k0_off102_inb v57 k0_hw5)
theorem k0_off103_inb : ∀ (v57 : BitVec 32) (k0_hw5 : k0_chk5 v57), ∀ a, (k0_off103 v57) a + S64x1024.size a ≤ S2048x2048.size a := fun v57 k0_hw5 => k0_hw5.2.2.2.2.2.2.2.2.2.2.1
theorem k0_off103_wordsbf16 : ∀ (v57 : BitVec 32) (k0_hw5 : k0_chk5 v57), (Rect.unit (s := S2048x2048) (k0_off103 v57) S64x1024.size (k0_off103_inb v57 k0_hw5)).WholeWords (EltTy.packing .bf16) := fun v57 k0_hw5 => k0_hw5.2.2.2.2.2.2.2.2.2.2.2 (k0_off103_inb v57 k0_hw5)

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S3 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S32768x2048, .bf16⟩
  | .hbm, ⟨2, _⟩ => ⟨S2048x32768, .f32⟩
  | .hbm, ⟨3, _⟩ => ⟨S32768x2048, .f32⟩
  | .hbm, ⟨4, _⟩ => ⟨S2048x2048, .f32⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Reference.lean ====
/-
# The reference's run

The reference widens both arrays and multiplies them: it leaves every array it was given and every counter as it found them.
-/
module

public import proofs.«01_k».proof.Defs
public import proofs.«01_k».proof.Proof.Gen.ReferenceIdeal.Read

@[expose] public section

noncomputable section

namespace Cert.RingProof

open Idealize.ShloMosaic Idealize.SL.Sem

/-- The reference runs, leaves its arguments alone, and has no counter to leave anywhere. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

end Cert.RingProof
-- ==== Proof.Program.lean ====
/-
# The kernel's body, written once per kind of step

The body of the kernel is a straight line of some thousands of operations: a handshake with the two ring neighbours, four
row chunks of the local product, then the steps of two rings that run in opposite directions, each moving two column halves.
`ringBody` says the same program with one text for a chunk, one for the receive–add–send of a slot (`hop`) and one for a step,
and `body_eq` says that the two are the same program.

A *lane* is one of the two rings: lane `false` goes to the right neighbour, lane `true` to the left one. Slot `j` of a lane is
column half `j % 2` of the landing buffer's plane `j / 2`.
-/
module

public import proofs.«01_k».proof.Proof.Gen.KernelIdeal
public import Idealize.ShloMosaic.Lib.Tactic

@[expose] public section

noncomputable section

namespace Cert.RingProof

open Cert.KernelIdeal Cert.KernelIdeal.Gen
open Idealize.ShloMosaic Idealize.SL.Sem

variable {F : FTy → Type} [FloatOps F]

/-- The programs of the device's tensor core. -/
abbrev PR (F : FTy → Type) := Prog (TpuEff nD τ sig (Elt F) Λ₀ .tc) PUnit

/-! ## The buffers -/

abbrev aM : Memref sig .tc .vmem S2048x1024 .bf16 := Memref.whole cc0_stg0_0
abbrev bM : Memref sig .tc .vmem S1024x2048 .bf16 := Memref.whole cc0_stg1_0
abbrev tblM : Memref sig .tc .smem S32 .i32 := Memref.whole cc0_stg2_0
abbrev metaM : Memref sig .tc .smem S3 .i32 := Memref.whole cc0_stg3_0
abbrev outM : Memref sig .tc .vmem S64x2048 .f32 := Memref.whole cc0_stg4_0
abbrev pM : Memref sig .tc .vmem S2048x2048 .bf16 := Memref.whole cc0_scratch0
theorem pM_whole : pM.IsWhole := Memref.isWhole_whole _

/-- The number of planes of a lane's landing buffer. -/
def planes : Bool → ℕ | false => 16 | true => 15
/-- Its shape. -/
abbrev commSh (n : ℕ) : Shape := ⟨3, ![n, 64, 2048]⟩
/-- The landing buffer. -/
def commM (d : Bool) : Memref sig .tc .vmem (commSh (planes d)) .bf16 :=
  match d with | false => Memref.whole cc0_scratch1 | true => Memref.whole cc0_scratch2
theorem commM_whole (d : Bool) : (commM d).IsWhole := by cases d <;> exact Memref.isWhole_whole _

/-! ## The slots of a lane -/

theorem slotInb {n j : ℕ} (h : j < 2 * n) : ∀ a, (![j / 2, 0, 1024 * (j % 2)] : Fin 3 → ℕ) a + S1x64x1024.size a ≤ (commSh n).size a := by
  intro a
  fin_cases a
  · show j / 2 + 1 ≤ n; omega
  · show 0 + 64 ≤ 64; omega
  · show 1024 * (j % 2) + 1024 ≤ 2048; omega

/-- Slot `j`'s rectangle of the landing buffer. -/
abbrev slotRect {n j : ℕ} (h : j < 2 * n) : Rect (commSh n) := Rect.unit (s := commSh n) ![j / 2, 0, 1024 * (j % 2)] S1x64x1024.size (slotInb h)

theorem slotPacked {n j : ℕ} (h : j < 2 * n) : (slotRect h).PackedRows (EltTy.packing .bf16) := by
  refine .inr ⟨by show 2 ≤ 3; omega, rfl, .inl ⟨?_, ?_⟩⟩
  · show 2 ∣ 0; omega
  · show 2 ∣ 64; omega
theorem slotWords {n j : ℕ} (h : j < 2 * n) : (slotRect h).WholeWords (EltTy.packing .bf16) := (slotPacked h).wholeWords

/-- Slot `j` of lane `d` as a transfer names it. -/
def slotM (d : Bool) (j : ℕ) (h : j < 2 * planes d) : Memref sig .tc .vmem S64x1024 .bf16 :=
  ((commM d).slice (slotRect h) (fun _ => rfl)).squeeze S64x1024 squeezes_S1x64x1024_S64x1024
theorem slotM_exact (d : Bool) (j : ℕ) (h : j < 2 * planes d) : (slotM d j h).view.WordExact :=
  ((commM_whole d).wordExact_slice rfl _ (slotWords h)).reshape _ _

/-! ## The row blocks of the local product -/

/-- Row block `v`, column half `b`, of the local product: the offsets a word `v` names. -/
abbrev pOff (v : BitVec 32) (b : ℕ) : Fin 2 → ℕ := ![(Scalar.muli v 64#32).toNat, 1024 * b]
/-- The word names a row block inside the buffer. -/
abbrev PInb (v : BitVec 32) (b : ℕ) : Prop := ∀ a, pOff v b a + S64x1024.size a ≤ S2048x2048.size a
abbrev pRect (v : BitVec 32) (b : ℕ) (h : PInb v b) : Rect S2048x2048 := Rect.unit (s := S2048x2048) (pOff v b) S64x1024.size h
abbrev PWords (v : BitVec 32) (b : ℕ) (h : PInb v b) : Prop := (pRect v b h).WholeWords (EltTy.packing .bf16)
/-- The block as a transfer names it. -/
abbrev pSlice (v : BitVec 32) (b : ℕ) (h : PInb v b) : Memref sig .tc .vmem S64x1024 .bf16 := pM.slice (pRect v b h) (fun _ => rfl)
theorem pSlice_exact (v : BitVec 32) (b : ℕ) (h : PInb v b) (hw : PWords v b h) : (pSlice v b h).view.WordExact :=
  pM_whole.wordExact_slice rfl _ hw

/-! ## The semaphores -/

/-- The first send semaphore of a lane; -/
def sendBase : Bool → ℕ | false => 5 | true => 69
/-- its first receive semaphore. -/
def recvBase : Bool → ℕ | false => 37 | true => 99
theorem sendLt (d : Bool) {j : ℕ} (h : j < 2 * planes d) : sendBase d + j < sig.nDmaSem := by
  cases d <;> simp only [planes, sendBase] at h ⊢ <;> show _ < 129 <;> omega
theorem recvLt (d : Bool) {j : ℕ} (h : j < 2 * planes d) : recvBase d + j < sig.nDmaSem := by
  cases d <;> simp only [planes, recvBase] at h ⊢ <;> show _ < 129 <;> omega
def sendS (d : Bool) (j : ℕ) (h : j < 2 * planes d) : DmaSem sig := ⟨sendBase d + j, sendLt d h⟩
def recvS (d : Bool) (j : ℕ) (h : j < 2 * planes d) : DmaSem sig := ⟨recvBase d + j, recvLt d h⟩
abbrev barS : Sem sig := (SemArray.scalar (sig.barrier 0 rfl) : Sems sig S_).sem

/-- The device a word names. -/
def devOf (v : BitVec 32) (h : (Scalar.addi 0#32 (Scalar.muli v 1#32)).toNat < nD) : Dev nD := ⟨_, h⟩

/-! ## The ring positions a device reads -/

/-- Where in the position table the row block of step `s` stands, lane by lane. -/
abbrev posOff (d : Bool) (s : ℕ) (t : BitVec 32) : Fin 1 → ℕ := match d with
  | false => ![(Scalar.indexCast (Scalar.remsi (Scalar.subi (Scalar.addi t 16#32) (BitVec.ofNat 32 s)) 32#32)).toNat]
  | true => ![(Scalar.indexCast (Scalar.remsi (Scalar.addi (Scalar.subi (Scalar.addi t 32#32) 15#32) (BitVec.ofNat 32 s)) 32#32)).toNat]

theorem posInb {t : BitVec 32} (hw : k0_chk3 t) : ∀ (d : Bool) (s : ℕ) (hs : s < planes d), ∀ a, posOff d s t a + S1.size a ≤ S32.size a
  | false, 0, _ => k0_off1_inb t hw | true, 0, _ => k0_off2_inb t hw
  | false, 1, _ => k0_off7_inb t hw | true, 1, _ => k0_off8_inb t hw
  | false, 2, _ => k0_off17_inb t hw | true, 2, _ => k0_off18_inb t hw
  | false, 3, _ => k0_off23_inb t hw | true, 3, _ => k0_off24_inb t hw
  | false, 4, _ => k0_off29_inb t hw | true, 4, _ => k0_off30_inb t hw
  | false, 5, _ => k0_off35_inb t hw | true, 5, _ => k0_off36_inb t hw
  | false, 6, _ => k0_off41_inb t hw | true, 6, _ => k0_off42_inb t hw
  | false, 7, _ => k0_off47_inb t hw | true, 7, _ => k0_off48_inb t hw
  | false, 8, _ => k0_off53_inb t hw | true, 8, _ => k0_off54_inb t hw
  | false, 9, _ => k0_off59_inb t hw | true, 9, _ => k0_off60_inb t hw
  | false, 10, _ => k0_off65_inb t hw | true, 10, _ => k0_off66_inb t hw
  | false, 11, _ => k0_off71_inb t hw | true, 11, _ => k0_off72_inb t hw
  | false, 12, _ => k0_off77_inb t hw | true, 12, _ => k0_off78_inb t hw
  | false, 13, _ => k0_off83_inb t hw | true, 13, _ => k0_off84_inb t hw
  | false, 14, _ => k0_off89_inb t hw | true, 14, _ => k0_off90_inb t hw
  | false, 15, _ => k0_off95_inb t hw
  | false, n + 16, h => by simp only [planes] at h; omega
  | true, n + 15, h => by simp only [planes] at h; omega

/-- The position table's word for step `s`, read and handed on. -/
def readPos (d : Bool) (s : ℕ) (hs : s < planes d) (t : BitVec 32) (hw : k0_chk3 t) (k : BitVec 32 → PR F) : PR F :=
  smemLoadElt (p := .tc) tblM (Rect.unit (s := S32) (posOff d s t) S1.size (posInb hw d s hs)) (View.loads_smem_one rfl numel1_S1)
    (Shape.Idx.first (numel1_S1.symm ▸ Nat.one_pos)) k

/-- The same with the check that the word names a row block. -/
def readRow (d : Bool) (s : ℕ) (hs : s < planes d) (t : BitVec 32) (hw : k0_chk3 t) (k : (v : BitVec 32) → k0_chk6 v → PR F) : PR F :=
  readPos d s hs t hw fun v => .op (TpuEff.assume (k0_chk6 v) (k0_chk6.dec v)) fun u => k v u.down

/-! ## A chunk of the local product -/

theorem chunkInbA {q : ℕ} (h : q < 4) : ∀ a, (![512 * q, 0] : Fin 2 → ℕ) a + S512x1024.size a ≤ S2048x1024.size a := by
  intro a
  fin_cases a
  · show 512 * q + 512 ≤ 2048; omega
  · show 0 + 1024 ≤ 1024; omega
theorem chunkInbP {q : ℕ} (h : q < 4) : ∀ a, (![512 * q, 0] : Fin 2 → ℕ) a + S512x2048.size a ≤ S2048x2048.size a := by
  intro a
  fin_cases a
  · show 512 * q + 512 ≤ 2048; omega
  · show 0 + 2048 ≤ 2048; omega
abbrev chunkRectA {q : ℕ} (h : q < 4) : Rect S2048x1024 := Rect.unit (s := S2048x1024) ![512 * q, 0] S512x1024.size (chunkInbA h)
abbrev chunkRectP {q : ℕ} (h : q < 4) : Rect S2048x2048 := Rect.unit (s := S2048x2048) ![512 * q, 0] S512x2048.size (chunkInbP h)
theorem chunkPacked {q : ℕ} (h : q < 4) : (chunkRectP h).PackedRows (EltTy.packing .bf16) := by
  refine .inr ⟨by show 2 ≤ 2; omega, rfl, .inl ⟨?_, ?_⟩⟩
  · show 2 ∣ 512 * q; omega
  · show 2 ∣ 512; omega
abbrev wholeRectB : Rect S1024x2048 := Rect.unit (s := S1024x2048) ![0, 0] S1024x2048.size inb_S1024x2048_S1024x2048_0_0

/-- What a chunk stores, of the rows of the left operand and the right operand. -/
def chunkPay (x : FVec F S512x1024 .bf16) (y : FVec F S1024x2048 .bf16) : FVec F S512x2048 .bf16 :=
  shapeCast S512x2048 (truncf .bf16 (matmul dot_S512x1024_S1024x2048_S512x2048_1_0_0_1_n_n none
    (shapeCast S512x1024 x shapeCasts_S512x1024_S512x1024) (shapeCast S1024x2048 y shapeCasts_S1024x2048_S1024x2048)
    (constant S512x2048 .f32 0x00000000#32)) bitsLt_bf16_f32) shapeCasts_S512x2048_S512x2048

/-- Row chunk `q`: load the rows and the right operand, store the rounded product. -/
def chunk (q : ℕ) (h : q < 4) (k : PR F) : PR F :=
  .op (.load aM (chunkRectA h).toLoadRect (View.loadsAt_vmem h_S512x1024)) fun (x : Vec F S512x1024 .bf16) =>
  .op (.load bM wholeRectB.toLoadRect (View.loadsAt_vmem h_S1024x2048)) fun (y : Vec F S1024x2048 .bf16) =>
  .op (.load pM (chunkRectP h).toLoadRect (View.loadsAt_vmem h_S512x2048)) fun _ =>
  .op (.store pM (chunkRectP h) (chunkPay x y) Finset.univ
    (View.stores_vmem h_S512x2048 (pM_whole.storeExact_slice rfl _ (chunkPacked h)) (fun _ => rfl)) (.inl rfl)) fun _ => k

/-! ## The steps of the two rings -/

/-- Send `src` to slot `j` of the lane's next device. -/
def send (d : Bool) (j : ℕ) (h : j < 2 * planes d) (dst : Dev nD) (src : Memref sig .tc .vmem S64x1024 .bf16) (hsrc : src.view.WordExact)
    (k : PR F) : PR F :=
  .op (.enqueueDma src (.remote (Dev.tc dst) (slotM d j h) (.dma (sendS d j h))) (.dma (recvS d j h)) hsrc (slotM_exact d j h)
    ⟨⟨by cases d <;> rfl, .inl rfl⟩, trivial⟩) fun _ => k

/-- The sum a hop stores: the device's own rows and the arrived ones, added in the wide format and rounded. -/
def hopPay (x : FVec F S64x1024 .bf16) (y : FVec F S1x64x1024 .bf16) : FVec F S1x64x1024 .bf16 :=
  shapeCast S1x64x1024 (truncf .bf16 (addf (extf .f32 x bitsLt_bf16_f32)
    (extf .f32 (shapeCast S64x1024 y shapeCasts_S1x64x1024_S64x1024) bitsLt_bf16_f32)) bitsLt_bf16_f32) shapeCasts_S64x1024_S1x64x1024

/-- Receive slot `j`, whose transfer the wait describes by `src`, add the own row block `v` to it, and send the sum on to slot
    `j + 2` of the lane's next device. -/
def hop (d : Bool) (j : ℕ) (h : j + 2 < 2 * planes d) (src : Memref sig .tc .vmem S64x1024 .bf16) (hsrc : src.view.WordExact)
    (v : BitVec 32) (hv : PInb v (j % 2)) (dst : Dev nD) (k : PR F) : PR F :=
  have hj : j < 2 * planes d := Nat.lt_of_le_of_lt (Nat.le_add_right j 2) h
  .op (.waitDma2 (recvS d j hj) src (slotM d j hj) hsrc (slotM_exact d j hj)) fun _ =>
  .op (.load pM (pRect v (j % 2) hv).toLoadRect (View.loadsAt_vmem h_S64x1024)) fun (x : Vec F S64x1024 .bf16) =>
  .op (.load (commM d) (slotRect hj).toLoadRect (View.loadsAt_vmem h_S1x64x1024)) fun (y : Vec F S1x64x1024 .bf16) =>
  .op (.load (commM d) (slotRect hj).toLoadRect (View.loadsAt_vmem h_S1x64x1024)) fun _ =>
  .op (.store (commM d) (slotRect hj) (hopPay x y) Finset.univ
    (View.stores_vmem h_S1x64x1024 ((commM_whole d).storeExact_slice rfl _ (slotPacked hj)) (fun _ => rfl)) (.inl rfl)) fun _ =>
  send d (j + 2) h dst (slotM d j hj) (slotM_exact d j hj) k

/-- What the wait of slot `j` names as the source: the first plane arrives from a block of the product, the others from the slot
    two below. -/
def waitSrc (d : Bool) (v : BitVec 32) (h0 : PInb v 0) (h1 : PInb v 1) : (j : ℕ) → (h : j < 2 * planes d) → Memref sig .tc .vmem S64x1024 .bf16
  | 0, _ => pSlice v 0 h0
  | 1, _ => pSlice v 1 h1
  | j + 2, h => slotM d j (Nat.lt_of_le_of_lt (Nat.le_add_right j 2) h)
theorem waitSrc_exact (d : Bool) (v : BitVec 32) (h0 : PInb v 0) (h1 : PInb v 1) (w0 : PWords v 0 h0) (w1 : PWords v 1 h1) :
    (j : ℕ) → (h : j < 2 * planes d) → (waitSrc d v h0 h1 j h).view.WordExact
  | 0, _ => pSlice_exact v 0 h0 w0
  | 1, _ => pSlice_exact v 1 h1 w1
  | j + 2, h => slotM_exact d j (Nat.lt_of_le_of_lt (Nat.le_add_right j 2) h)

/-- What the ring's steps share: the position and the two first row blocks with their checks, and the two neighbours. -/
structure Ctx where
  t : BitVec 32
  ht : k0_chk3 t
  /-- the neighbour a lane sends to -/
  nb : Bool → Dev nD
  /-- the row block a lane starts with -/
  v : Bool → BitVec 32
  h0 : ∀ d, PInb (v d) 0
  h1 : ∀ d, PInb (v d) 1
  w0 : ∀ d, PWords (v d) 0 (h0 d)
  w1 : ∀ d, PWords (v d) 1 (h1 d)

namespace Ctx
abbrev src (x : Ctx) (d : Bool) (j : ℕ) (h : j < 2 * planes d) : Memref sig .tc .vmem S64x1024 .bf16 := waitSrc d (x.v d) (x.h0 d) (x.h1 d) j h
theorem src_exact (x : Ctx) (d : Bool) (j : ℕ) (h : j < 2 * planes d) : (x.src d j h).view.WordExact :=
  waitSrc_exact d (x.v d) (x.h0 d) (x.h1 d) (x.w0 d) (x.w1 d) j h
end Ctx

/-- The hop of slot `j` in a step that has read row block `v`. -/
def hopAt (x : Ctx) (d : Bool) (j : ℕ) (h : j + 2 < 2 * planes d) (v : BitVec 32) (hv : PInb v (j % 2)) (k : PR F) : PR F :=
  hop d j h (x.src d j (Nat.lt_of_le_of_lt (Nat.le_add_right j 2) h)) (x.src_exact d j (Nat.lt_of_le_of_lt (Nat.le_add_right j 2) h)) v hv (x.nb d) k

theorem pinb_even {v : BitVec 32} (h : k0_chk6 v) (s : ℕ) : PInb v ((2 * s) % 2) := by
  rw [Nat.mul_mod_right]; exact h.1
theorem pinb_odd {v : BitVec 32} (h : k0_chk6 v) (s : ℕ) : PInb v ((2 * s + 1) % 2) := by
  rw [Nat.mul_add_mod]; exact h.2

/-- Step `s + 1` of both rings (`s < 14`): two hops a lane. -/
def step (x : Ctx) (s : ℕ) (h : s < 14) (k : PR F) : PR F :=
  readRow false (s + 1) (by show _ < 16; omega) x.t x.ht fun vR hR =>
  readRow true (s + 1) (by show _ < 15; omega) x.t x.ht fun vL hL =>
  hopAt x false (2 * s) (by show _ < 2 * 16; omega) vR (pinb_even hR s) <|
  hopAt x true (2 * s) (by show _ < 2 * 15; omega) vL (pinb_even hL s) <|
  hopAt x false (2 * s + 1) (by show _ < 2 * 16; omega) vR (pinb_odd hR s) <|
  hopAt x true (2 * s + 1) (by show _ < 2 * 15; omega) vL (pinb_odd hL s) k

/-- `n` steps from step `s + 1` on. -/
def steps (x : Ctx) (k : PR F) : (n s : ℕ) → (h : s + n ≤ 14) → PR F
  | 0, _, _ => k
  | n + 1, s, h => step x s (by omega) (steps x k n (s + 1) (by omega))

/-- The last step, of the right-going ring alone. -/
def lastStep (x : Ctx) (k : PR F) : PR F :=
  readRow false 15 (by show _ < 16; omega) x.t x.ht fun v h =>
  hopAt x false 28 (by show _ < 2 * 16; omega) v h.1 <|
  hopAt x false 29 (by show _ < 2 * 16; omega) v h.2 k

/-! ## The result -/

theorem outInb {b : ℕ} (h : b < 2) : ∀ a, (![0, 1024 * b] : Fin 2 → ℕ) a + S64x1024.size a ≤ S64x2048.size a := by
  intro a
  fin_cases a
  · show 0 + 64 ≤ 64; omega
  · show 1024 * b + 1024 ≤ 2048; omega
abbrev outRect {b : ℕ} (h : b < 2) : Rect S64x2048 := Rect.unit (s := S64x2048) ![0, 1024 * b] S64x1024.size (outInb h)

/-- The result's column half: the own rows, the right-going and the left-going partial sums. -/
def outPay (x : FVec F S64x1024 .bf16) (y z : FVec F S1x64x1024 .bf16) : FVec F S64x1024 .f32 :=
  addf (addf (extf .f32 x bitsLt_bf16_f32) (extf .f32 (shapeCast S64x1024 y shapeCasts_S1x64x1024_S64x1024) bitsLt_bf16_f32))
    (extf .f32 (shapeCast S64x1024 z shapeCasts_S1x64x1024_S64x1024) bitsLt_bf16_f32)

/-- Column half `b` of the result. -/
def finish (x : Ctx) (b : ℕ) (hb : b < 2) (v : BitVec 32) (hv : PInb v b) (k : PR F) : PR F :=
  have hR : 30 + b < 2 * planes false := by show _ < 2 * 16; omega
  have hL : 28 + b < 2 * planes true := by show _ < 2 * 15; omega
  .op (.waitDma2 (recvS false (30 + b) hR) (x.src false (30 + b) hR) (slotM false (30 + b) hR) (x.src_exact false (30 + b) hR) (slotM_exact false (30 + b) hR)) fun _ =>
  .op (.waitDma2 (recvS true (28 + b) hL) (x.src true (28 + b) hL) (slotM true (28 + b) hL) (x.src_exact true (28 + b) hL) (slotM_exact true (28 + b) hL)) fun _ =>
  .op (.load pM (pRect v b hv).toLoadRect (View.loadsAt_vmem h_S64x1024)) fun (a : Vec F S64x1024 .bf16) =>
  .op (.load (commM false) (slotRect hR).toLoadRect (View.loadsAt_vmem h_S1x64x1024)) fun (y : Vec F S1x64x1024 .bf16) =>
  .op (.load (commM true) (slotRect hL).toLoadRect (View.loadsAt_vmem h_S1x64x1024)) fun (z : Vec F S1x64x1024 .bf16) =>
  .op (.load outM (outRect hb).toLoadRect (View.loadsAt_vmem h_S64x1024)) fun _ =>
  .op (.store outM (outRect hb) (outPay a y z) Finset.univ (View.stores_vmem_bits_univ h_S64x1024 rfl) (.inl rfl)) fun _ => k

/-- The waits for the lane's own sends, from slot `j` on. -/
def drain (x : Ctx) (d : Bool) (k : PR F) : (n j : ℕ) → (h : j + n ≤ 2 * planes d) → PR F
  | 0, _, _ => k
  | n + 1, j, h =>
    have hj : j < 2 * planes d := by omega
    .op (.waitDma2 (sendS d j hj) (slotM d j hj) (x.src d j hj) (slotM_exact d j hj) (x.src_exact d j hj)) fun _ =>
    drain x d k n (j + 1) (by omega)

/-! ## The body -/

theorem ownInb (c : Dev nD) : ∀ b, b < 2 → PInb (Scalar.remsi (Scalar.divsi (Dev.word c) 1#32) 32#32) b
  | 0, _ => k0_off98_inb c
  | 1, _ => k0_off99_inb c
  | n + 2, h => by omega

/-- After the local product: the first sends, the steps, the result and the drains. -/
def talk (x : Ctx) (c : Dev nD) : PR F :=
  send false 0 (by decide) (x.nb false) (pSlice (x.v false) 0 (x.h0 false)) (pSlice_exact _ _ _ (x.w0 false)) <|
  send true 0 (by decide) (x.nb true) (pSlice (x.v true) 0 (x.h0 true)) (pSlice_exact _ _ _ (x.w0 true)) <|
  send false 1 (by decide) (x.nb false) (pSlice (x.v false) 1 (x.h1 false)) (pSlice_exact _ _ _ (x.w1 false)) <|
  send true 1 (by decide) (x.nb true) (pSlice (x.v true) 1 (x.h1 true)) (pSlice_exact _ _ _ (x.w1 true)) <|
  steps x (n := 14) (s := 0) (h := by omega) <|
  lastStep x <|
  finish x 0 (by omega) _ (ownInb c 0 (by omega)) <|
  finish x 1 (by omega) _ (ownInb c 1 (by omega)) <|
  drain x false (n := 32) (j := 0) (h := by show _ ≤ 2 * 16; omega) <|
  drain x true (n := 30) (j := 0) (h := by show _ ≤ 2 * 15; omega) <|
  .ret ⟨⟩

/-- A word of the three the device is given: its ring position, its right and its left neighbour. -/
def readMeta (i : ℕ) (h : ∀ a, (![i] : Fin 1 → ℕ) a + S1.size a ≤ S3.size a) (k : BitVec 32 → PR F) : PR F :=
  smemLoadElt (p := .tc) metaM (Rect.unit (s := S3) ![i] S1.size h) (View.loads_smem_one rfl numel1_S1)
    (Shape.Idx.first (numel1_S1.symm ▸ Nat.one_pos)) k

/-- What the ring's steps share, of the words read. -/
def mkCtx (t : BitVec 32) (ht : k0_chk3 t) (r : BitVec 32) (hr : k0_chk2 r) (l : BitVec 32) (hl : k0_chk1 l)
    (vR : BitVec 32) (hR : k0_chk4 vR) (vL : BitVec 32) (hL : k0_chk5 vL) : Ctx where
  t := t
  ht := ht
  nb := fun | false => devOf r (k0_dev2_lt r hr) | true => devOf l (k0_dev1_lt l hl)
  v := fun | false => vR | true => vL
  h0 := fun | false => k0_off3_inb vR hR | true => k0_off4_inb vL hL
  h1 := fun | false => k0_off5_inb vR hR | true => k0_off6_inb vL hL
  w0 := fun | false => k0_off3_wordsbf16 vR hR | true => k0_off4_wordsbf16 vL hL
  w1 := fun | false => k0_off5_wordsbf16 vR hR | true => k0_off6_wordsbf16 vL hL

/-- The body. -/
def ringBody : PR F :=
  .op .deviceId fun c =>
  readMeta 0 inb_S3_S1_0 fun t =>
  .op (TpuEff.assume (k0_chk3 t) (k0_chk3.dec t)) fun ht =>
  readMeta 1 inb_S3_S1_1 fun r =>
  .op (TpuEff.assume (k0_chk2 r) (k0_chk2.dec r)) fun hr =>
  readMeta 2 inb_S3_S1_2 fun l =>
  .op (TpuEff.assume (k0_chk1 l) (k0_chk1.dec l)) fun hl =>
  .op (.semSignal (Dev.tc (devOf l (k0_dev1_lt l hl.down))) barS (1#32 : BitVec 32).toInt) fun _ =>
  .op (.semSignal (Dev.tc (devOf r (k0_dev2_lt r hr.down))) barS (1#32 : BitVec 32).toInt) fun _ =>
  .op (.semWait barS (2#32 : BitVec 32).toInt) fun _ =>
  chunk 0 (by omega) <| chunk 1 (by omega) <| chunk 2 (by omega) <| chunk 3 (by omega) <|
  readPos false 0 (by decide) t ht.down fun vR =>
  .op (TpuEff.assume (k0_chk4 vR) (k0_chk4.dec vR)) fun hR =>
  readPos true 0 (by decide) t ht.down fun vL =>
  .op (TpuEff.assume (k0_chk5 vL) (k0_chk5.dec vL)) fun hL =>
  talk (mkCtx t ht.down r hr.down l hl.down vR hR.down vL hL.down) c

/-- It is the kernel's. -/
theorem body_eq :
    (cc0_body aM (Memref.isWhole_whole _) bM (Memref.isWhole_whole _) tblM (Memref.isWhole_whole _) metaM (Memref.isWhole_whole _)
      outM (Memref.isWhole_whole _) pM (Memref.isWhole_whole _) (Memref.whole cc0_scratch1) (Memref.isWhole_whole _)
      (Memref.whole cc0_scratch2) (Memref.isWhole_whole _) cc0_scratch3 cc0_scratch4 cc0_scratch5 cc0_scratch6 : PR F) = ringBody := by
  sl_kernel_rfl

end Cert.RingProof
-- ==== Proof.Tables.lean ====
/-
# The ring the devices form

The devices stand on a cycle: `cyc i` is the device at position `i`, `pos c` is where device `c` stands. Lane `false` sends to
the device one position on, lane `true` to the one before. Row block `row d s c` is the one device `c` adds in step `s` of lane
`d`, before it sends the sum on; the blocks are numbered as the devices are, block `c` being the one device `c` keeps.
-/
module

public import proofs.«01_k».proof.Proof.Program

@[expose] public section

noncomputable section

namespace Cert.RingProof

open Cert.KernelIdeal Cert.KernelIdeal.Gen
open Idealize.ShloMosaic Idealize.SL.Sem

/-- The device at each position. -/
def cycN (i : ℕ) : ℕ := match i with
  | 0 => 0 | 1 => 3 | 2 => 4 | 3 => 7 | 4 => 15 | 5 => 12 | 6 => 11 | 7 => 8 | 8 => 16 | 9 => 19 | 10 => 20 | 11 => 23 | 12 => 31
  | 13 => 28 | 14 => 27 | 15 => 24 | 16 => 25 | 17 => 26 | 18 => 29 | 19 => 30 | 20 => 22 | 21 => 21 | 22 => 18 | 23 => 17 | 24 => 9
  | 25 => 10 | 26 => 13 | 27 => 14 | 28 => 6 | 29 => 5 | 30 => 2 | 31 => 1 | _ => 0
/-- The position of each device. -/
def posN (i : ℕ) : ℕ := match i with
  | 0 => 0 | 1 => 31 | 2 => 30 | 3 => 1 | 4 => 2 | 5 => 29 | 6 => 28 | 7 => 3 | 8 => 7 | 9 => 24 | 10 => 25 | 11 => 6 | 12 => 5
  | 13 => 26 | 14 => 27 | 15 => 4 | 16 => 8 | 17 => 23 | 18 => 22 | 19 => 9 | 20 => 10 | 21 => 21 | 22 => 20 | 23 => 11 | 24 => 15
  | 25 => 16 | 26 => 17 | 27 => 14 | 28 => 13 | 29 => 18 | 30 => 19 | 31 => 12 | _ => 0

theorem cycN_lt (i : ℕ) : cycN i < nD := by unfold cycN; split <;> decide
theorem posN_lt (i : ℕ) : posN i < 32 := by unfold posN; split <;> decide

/-- The device at position `i` of the cycle, counted round. -/
def cyc (i : ℕ) : Dev nD := ⟨cycN (i % 32), cycN_lt _⟩
/-- Where a device stands. -/
def pos (c : Dev nD) : ℕ := posN c.val
theorem pos_lt (c : Dev nD) : pos c < 32 := posN_lt _
theorem cyc_pos (c : Dev nD) : cyc (pos c) = c := by revert c; decide
theorem pos_cyc (i : ℕ) : pos (cyc i) = i % 32 := by
  have h : ∀ k : Fin 32, posN (cycN k.val) = k.val := by decide
  exact h ⟨i % 32, Nat.mod_lt _ (by decide)⟩
theorem cyc_mod (i : ℕ) : cyc (i % 32) = cyc i := by unfold cyc; simp only [Nat.mod_mod]
theorem cyc_congr {i k : ℕ} (h : i % 32 = k % 32) : cyc i = cyc k := by rw [← cyc_mod i, h, cyc_mod]

/-- The device lane `d` sends to. -/
def nb (d : Bool) (c : Dev nD) : Dev nD := match d with | false => cyc (pos c + 1) | true => cyc (pos c + 31)
theorem pos_nb_false (c : Dev nD) : pos (nb false c) = (pos c + 1) % 32 := pos_cyc _
theorem pos_nb_true (c : Dev nD) : pos (nb true c) = (pos c + 31) % 32 := pos_cyc _
theorem nb_nb (d : Bool) (c : Dev nD) : nb d (nb (!d) c) = c := by cases d <;> revert c <;> decide
theorem nb_nb' (d : Bool) (c : Dev nD) : nb (!d) (nb d c) = c := by cases d <;> revert c <;> decide
/-- Going one on along a lane, as a permutation of the devices. -/
def around (d : Bool) : Dev nD ≃ Dev nD := ⟨nb d, nb (!d), nb_nb' d, nb_nb d⟩

/-- The row block device `c` sends in step `s` of lane `d`. -/
def row (d : Bool) (s : ℕ) (c : Dev nD) : Dev nD := match d with | false => cyc (pos c + 48 - s) | true => cyc (pos c + 17 + s)

/-- A device's number as a word. -/
def wd (c : Dev nD) : BitVec 32 := BitVec.ofNat 32 c.val
/-- A position as a word. -/
def posW (c : Dev nD) : BitVec 32 := BitVec.ofNat 32 (pos c)

/-! ## The offsets words name -/

theorem wd_mul (r : Dev nD) : (Scalar.muli (wd r) 64#32).toNat = 64 * r.val := by revert r; decide
theorem wd_dev (r : Dev nD) : (Scalar.addi 0#32 (Scalar.muli (wd r) 1#32)).toNat = r.val := by revert r; decide

theorem pInb (r : Dev nD) {b : ℕ} (hb : b < 2) : PInb (wd r) b := by
  have hr : r.val < 32 := r.isLt
  intro a
  fin_cases a
  · show (Scalar.muli (wd r) 64#32).toNat + 64 ≤ 2048; rw [wd_mul]; omega
  · show 1024 * b + 1024 ≤ 2048; omega
theorem pWords (r : Dev nD) (b : ℕ) (h : PInb (wd r) b) : PWords (wd r) b h := by
  refine Rect.PackedRows.wholeWords (.inr ⟨by show 2 ≤ 2; omega, rfl, .inl ⟨?_, ?_⟩⟩)
  · show 2 ∣ (Scalar.muli (wd r) 64#32).toNat; rw [wd_mul]; omega
  · show 2 ∣ 64; omega

theorem devOf_wd (r : Dev nD) (h : (Scalar.addi 0#32 (Scalar.muli (wd r) 1#32)).toNat < nD) : devOf (wd r) h = r := Fin.ext (wd_dev r)

/-! ## The checks the body makes of the words it reads -/

theorem chk6 (r : Dev nD) : k0_chk6 (wd r) := ⟨pInb r (b := 0) (by omega), pInb r (b := 1) (by omega)⟩
theorem chk4 (r : Dev nD) : k0_chk4 (wd r) :=
  have h0 := pInb r (b := 0) (by omega)
  have h1 := pInb r (b := 1) (by omega)
  ⟨h0, fun h => pWords r 0 h, h1, fun h => pWords r 1 h, h0, fun h => pWords r 0 h, h1, fun h => pWords r 1 h, h0, fun h => pWords r 0 h,
    h1, fun h => pWords r 1 h⟩
theorem chk5 (r : Dev nD) : k0_chk5 (wd r) :=
  have h0 := pInb r (b := 0) (by omega)
  have h1 := pInb r (b := 1) (by omega)
  ⟨h0, fun h => pWords r 0 h, h1, fun h => pWords r 1 h, h0, fun h => pWords r 0 h, h1, fun h => pWords r 1 h, h0, fun h => pWords r 0 h,
    h1, fun h => pWords r 1 h⟩
theorem chk1 (r : Dev nD) : k0_chk1 (wd r) := by revert r; decide +kernel
theorem chk2 (r : Dev nD) : k0_chk2 (wd r) := by revert r; decide +kernel
theorem chk3 (c : Dev nD) : k0_chk3 (posW c) := by revert c; decide +kernel

/-- The place of step `s`'s row block in the table. -/
theorem posOff_eq (c : Dev nD) : ∀ (d : Bool) (s : ℕ), s < planes d → posOff d s (posW c) = ![match d with | false => (pos c + 48 - s) % 32 | true => (pos c + 17 + s) % 32] := by
  have hR : ∀ (c : Dev nD) (s : Fin 16), posOff false s.val (posW c) 0 = (pos c + 48 - s.val) % 32 := by decide +kernel
  have hL : ∀ (c : Dev nD) (s : Fin 15), posOff true s.val (posW c) 0 = (pos c + 17 + s.val) % 32 := by decide +kernel
  intro d s hs
  funext a
  obtain rfl : a = 0 := Subsingleton.elim _ _
  cases d
  · exact hR c ⟨s, hs⟩
  · exact hL c ⟨s, hs⟩

/-! ## The words of the two tables -/

/-- The row of the position table step `s` reads. -/
abbrev posRect (d : Bool) (s : ℕ) (t : BitVec 32) (h : ∀ a, posOff d s t a + S1.size a ≤ S32.size a) : Rect S32 := Rect.unit (s := S32) (posOff d s t) S1.size h
abbrev oneIdx : S1.Idx := Shape.Idx.first (numel1_S1.symm ▸ Nat.one_pos)

end Cert.RingProof
-- ==== Proof.Memory.lean ====
/-
# The memory the two rings share

A landing buffer is the separating product of its slots; a slot can be read and rewritten through the buffer's rectangle and
handed over as the memref a transfer names. A block of the local product can be borrowed from a share of the whole product.
-/
module

public import proofs.«01_k».proof.Proof.Tables
public import Idealize.ShloMosaic.Lib.Pipeline.Regions
public import Idealize.ShloMosaic.Lib.Pipeline.Kit
public import Idealize.ShloMosaic.Lib.Pipeline.Value
public import Idealize.ShloMosaic.Lib.Rounds
public import Idealize.ShloMosaic.Lib.MemrefSat
public import Idealize.ShloMosaic.Lib.Ring
public import Idealize.ShloMosaic.Lib.Pipeline.RegionTalk

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The counting state of the protocol's rounds, beside the staging buffers'. The two duties of a barrier cell are numbered by a
    truth value. -/
abbrev UB := Rounds.URounds (GSem nD τ sig) Bool
abbrev UU := UR sig nD τ × UB

local notation "𝕄" => MT nD τ sig Unit (Elt F) ℕ UU ℕ

/-- The values of a slot. -/
abbrev Half (F : FTy → Type) := S64x1024.Idx → Elt F .bf16
/-- The values of the local product. -/
abbrev Prod (F : FTy → Type) := S2048x2048.Idx → Elt F .bf16

/-- A slot's values as the rectangle of the landing buffer holds them. -/
abbrev up (X : Half F) : S1x64x1024.Idx → Elt F .bf16 := shapeCast S1x64x1024 X shapeCasts_S64x1024_S1x64x1024
theorem down_up (X : Half F) : shapeCast S64x1024 (up X) shapeCasts_S1x64x1024_S64x1024 = X := shapeCast_shapeCast _ _ _
theorem up_down (Y : S1x64x1024.Idx → Elt F .bf16) : up (shapeCast S64x1024 Y shapeCasts_S1x64x1024_S64x1024) = Y := shapeCast_shapeCast _ _ _

/-! ## Slots -/

/-- Device `c` owns slot `j` of lane `d`, with values `X`. -/
def slotAt (c : Dev nD) (d : Bool) (j : ℕ) (h : j < 2 * planes d) (X : Half F) : sProp 𝕄 := owns (c : Thread nD τ) (slotM d j h) fullShare X
/-- The same, with nothing said for a number past the last slot, -/
def slotHas (c : Dev nD) (d : Bool) (j : ℕ) (X : Half F) : sProp 𝕄 := if h : j < 2 * planes d then slotAt c d j h X else iprop(emp)
/-- and at any values. -/
def slotAny (c : Dev nD) (d : Bool) (j : ℕ) : sProp 𝕄 := iprop(∃ X : Half F, slotHas c d j X)

instance slotHas_storable (c : Dev nD) (d : Bool) (j : ℕ) (X : Half F) : BI.Storable (upEmb : UEmb _ 𝕄) (slotHas c d j X) := by
  unfold slotHas slotAt; split <;> infer_instance
instance slotAny_storable (c : Dev nD) (d : Bool) (j : ℕ) : BI.Storable (upEmb : UEmb _ 𝕄) (slotAny (F := F) c d j) := by
  unfold slotAny; infer_instance

theorem slotHas_eq (c : Dev nD) (d : Bool) (j : ℕ) (h : j < 2 * planes d) (X : Half F) : (slotHas c d j X : sProp 𝕄) = slotAt c d j h X := dif_pos h

theorem slot_set (d : Bool) (j : ℕ) (h : j < 2 * planes d) : (slotM d j h).view.set = ((commM d).access (slotRect h)).set := View.set_reshape _ _

/-- A slot through its rectangle of the landing buffer. -/
theorem slotAt_open (c : Dev nD) (d : Bool) (j : ℕ) (h : j < 2 * planes d) (X : Half F) :
    (slotAt c d j h X : sProp 𝕄) ⊢ iprop(∃ f, ⌜((commM d).access (slotRect h)).read (Elt F) f = up X⌝
      ∗ (((commM d).access (slotRect h)).loc (c : Thread nD τ) ↦[((commM d).access (slotRect h)).set]{fullShare} f)) := by
  unfold slotAt owns
  iintro ⟨%f, %hf, H⟩
  iexists f
  isplitr
  · ipureintro
    rw [← hf]
    exact (up_down _).symm
  · rw [slot_set]; iexact H
theorem slotAt_close (c : Dev nD) (d : Bool) (j : ℕ) (h : j < 2 * planes d) (X : Half F) :
    iprop(∃ f, ⌜((commM d).access (slotRect h)).read (Elt F) f = up X⌝
      ∗ (((commM d).access (slotRect h)).loc (c : Thread nD τ) ↦[((commM d).access (slotRect h)).set]{fullShare} f))
      ⊢ (slotAt c d j h X : sProp 𝕄) := by
  unfold slotAt owns
  iintro ⟨%f, %hf, H⟩
  iexists f
  isplitr
  · ipureintro
    exact (congrArg (fun Y => shapeCast S64x1024 Y shapeCasts_S1x64x1024_S64x1024) hf).trans (down_up X)
  · rw [slot_set]; iexact H

/-! ## The steps of a program -/

abbrev 𝒱₀ : Variants := Variants.none

/-- What it takes for device `c` to run `p` and end with `Q`. -/
abbrev runs (c : Dev nD) (p : PR F) (Q : PUnit → sProp 𝕄) : sProp 𝕄 :=
  wp frame (wpE (defs₀ (F := F)) 𝒱₀ (c : Thread nD τ) none) Set.univ p Q

/-- A load of a slot reads its values, -/
theorem load_slot (c : Dev nD) (d : Bool) (j : ℕ) (h : j < 2 * planes d) (X : Half F) (hl : (commM d).view.LoadsAt (slotRect h).toLoadRect)
    (k : (S1x64x1024.Idx → Elt F .bf16) → PR F) (Q : PUnit → sProp 𝕄) :
    (slotAt c d j h X : sProp 𝕄) ⊢ iprop((slotAt c d j h X -∗ runs c (k (up X)) Q)
      -∗ runs c (.op (.load (commM d) (slotRect h).toLoadRect hl) k) Q) := by
  iintro H Hk
  ihave H' := (slotAt_open c d j h X) $$ H
  icases H' with ⟨%f, %hf, H⟩
  iapply (wp_load_rect 𝒱₀ (c : Thread nD τ) none Set.univ (Finset.Subset.refl _)) $$ H
  iintro H
  rw [hf]
  iapply Hk
  iapply (slotAt_close c d j h X)
  iexists f
  isplitr
  · ipureintro; exact hf
  · iexact H

/-- and a store of one leaves what was stored. -/
theorem store_slot (c : Dev nD) (d : Bool) (j : ℕ) (h : j < 2 * planes d) (X : Half F) (w : S1x64x1024.Idx → Elt F .bf16)
    (hx : ((commM d).access (slotRect h)).Stores Finset.univ) (hm : (Finset.univ : Finset (slotRect h).shape.Idx) = Finset.univ ∨ ∀ a, (slotRect h).stride a = 1)
    (k : PUnit → PR F) (Q : PUnit → sProp 𝕄) :
    (slotAt c d j h X : sProp 𝕄) ⊢ iprop((slotAt c d j h (shapeCast S64x1024 w shapeCasts_S1x64x1024_S64x1024) -∗ runs c (k ⟨⟩) Q)
      -∗ runs c (.op (.store (commM d) (slotRect h) w Finset.univ hx hm) k) Q) := by
  iintro H Hk
  ihave H' := (slotAt_open c d j h X) $$ H
  icases H' with ⟨%f, %hf, H⟩
  iapply (wp_store (m := commM d) (r := slotRect h) (S := ((commM d).access (slotRect h)).set) 𝒱₀ (c : Thread nD τ) none Set.univ
    (View.setOn_univ _).subset) $$ H
  iintro H
  iapply Hk
  iapply (slotAt_close c d j h _)
  iexists _
  isplitr
  rotate_left
  · iexact H
  · ipureintro
    rw [up_down]
    exact View.read_write_univ _ _

/-! ## The local product -/

/-- Where device `c` keeps the local product, -/
abbrev pLoc (c : Dev nD) : Loc nD τ sig := pM.view.loc (c : Thread nD τ)
/-- the buffer at a share, -/
abbrev pAt (c : Dev nD) (q : PosShare TreeShare) (P : Prod F) : sProp 𝕄 := pLoc c ↦{q} P
/-- its row block `r`, column half `b`, -/
abbrev pHalf (P : Prod F) (r : Dev nD) (b : ℕ) (hb : b < 2) : Half F := (pM.access (pRect (wd r) b (pInb r hb))).read (Elt F) P
/-- and the block's elements at a share. -/
abbrev pBlk (c : Dev nD) (q : PosShare TreeShare) (r : Dev nD) (b : ℕ) (hb : b < 2) (P : Prod F) : sProp 𝕄 :=
  (pSlice (wd r) b (pInb r hb)).view.loc (c : Thread nD τ) ↦[(pSlice (wd r) b (pInb r hb)).view.set]{q} P

theorem load_p (c : Dev nD) (q : PosShare TreeShare) (P : Prod F) (r : Rect S2048x2048) (hl : pM.view.LoadsAt r.toLoadRect)
    (k : (r.shape.Idx → Elt F .bf16) → PR F) (Q : PUnit → sProp 𝕄) :
    (pAt c q P : sProp 𝕄) ⊢ iprop((pAt c q P -∗ runs c (k ((pM.access r).read (Elt F) P)) Q)
      -∗ runs c (.op (.load pM r.toLoadRect hl) k) Q) :=
  wp_load_rect (m := pM) (r := r) (S := (Finset.univ : Finset (Idx (pLoc c)))) (f := P) (k := k) 𝒱₀ (c : Thread nD τ) none Set.univ (fun _ _ => Finset.mem_univ _)

theorem borrow {ℓ : Loc nD τ sig} (I : Finset (Idx ℓ)) (q : PosShare TreeShare) (f : Buf (Elt F) ℓ) :
    (ℓ ↦{q} f : sProp 𝕄) ⊢ iprop((ℓ ↦[I]{q} f) ∗ ((ℓ ↦[I]{q} f) -∗ ℓ ↦{q} f)) := by
  iintro H
  ihave H' := (pointsTo_split_subset (ℓ := ℓ) (q := q) (f := f) (Finset.subset_univ I)).1 $$ H
  icases H' with ⟨H1, H2⟩
  isplitl [H1]; · iexact H1
  iintro H1
  iapply (pointsTo_split_subset (ℓ := ℓ) (q := q) (f := f) (Finset.subset_univ I)).2
  isplitl [H1]
  · iexact H1
  · iexact H2

/-- A block of the product, borrowed from a share of it. -/
theorem p_borrow (c : Dev nD) (q : PosShare TreeShare) (r : Dev nD) (b : ℕ) (hb : b < 2) (P : Prod F) :
    (pAt c q P : sProp 𝕄) ⊢ iprop(pBlk c q r b hb P ∗ (pBlk c q r b hb P -∗ pAt c q P)) :=
  borrow (ℓ := pLoc c) (pSlice (wd r) b (pInb r hb)).view.set q P

/-! ## A landing buffer and its slots -/

theorem slot_disjoint {n : ℕ} (j j' : Fin (2 * n)) (h : j ≠ j') : Disjoint (slotRect j.isLt).set (slotRect j'.isLt).set := by
  rw [Finset.disjoint_left]
  intro i h1 h2
  rw [Rect.mem_set_unit] at h1 h2
  have a0 := h1 0; have a2 := h1 2; have b0 := h2 0; have b2 := h2 2
  have e0 : (![j.val / 2, 0, 1024 * (j.val % 2)] : Fin 3 → ℕ) 0 = j.val / 2 := rfl
  have e2 : (![j.val / 2, 0, 1024 * (j.val % 2)] : Fin 3 → ℕ) 2 = 1024 * (j.val % 2) := rfl
  have f0 : (![j'.val / 2, 0, 1024 * (j'.val % 2)] : Fin 3 → ℕ) 0 = j'.val / 2 := rfl
  have f2 : (![j'.val / 2, 0, 1024 * (j'.val % 2)] : Fin 3 → ℕ) 2 = 1024 * (j'.val % 2) := rfl
  have s0 : S1x64x1024.size 0 = 1 := rfl
  have s2 : S1x64x1024.size 2 = 1024 := rfl
  erw [e0, s0] at a0
  erw [e2, s2] at a2
  erw [f0, s0] at b0
  erw [f2, s2] at b2
  exact h (Fin.ext (by omega))

theorem slot_cover {n : ℕ} : (Finset.univ : Finset (Fin (2 * n))).biUnion (fun j => (slotRect j.isLt : Rect (commSh n)).set) = Finset.univ := by
  refine Finset.eq_univ_iff_forall.mpr fun i => ?_
  have h0 : (i 0).val < n := (i 0).isLt
  have h1 : (i 1).val < 64 := (i 1).isLt
  have h2 : (i 2).val < 2048 := (i 2).isLt
  have hj : 2 * (i 0).val + (i 2).val / 1024 < 2 * n := by omega
  refine Finset.mem_biUnion.mpr ⟨⟨2 * (i 0).val + (i 2).val / 1024, hj⟩, Finset.mem_univ _, ?_⟩
  rw [Rect.mem_set_unit]
  intro a
  fin_cases a
  · show (2 * (i 0).val + (i 2).val / 1024) / 2 ≤ (i 0).val ∧ (i 0).val < (2 * (i 0).val + (i 2).val / 1024) / 2 + 1; omega
  · show 0 ≤ (i 1).val ∧ (i 1).val < 0 + 64; omega
  · show 1024 * ((2 * (i 0).val + (i 2).val / 1024) % 2) ≤ (i 2).val ∧ (i 2).val < 1024 * ((2 * (i 0).val + (i 2).val / 1024) % 2) + 1024; omega

/-- A slot is the slice of the landing buffer it squeezes. -/
theorem slot_slice (c : Dev nD) (d : Bool) (j : ℕ) (h : j < 2 * planes d) :
    (ownsSat (c : Thread nD τ) ((commM d).slice (slotRect h) (fun _ => rfl)) fullShare (fun _ => True) : sProp 𝕄) ⊣⊢ iprop(∃ X : Half F, slotAt c d j h X) := by
  unfold ownsSat slotAt owns
  constructor
  · iintro ⟨%f, %hf, H⟩
    iexists ((slotM d j h).view.read (Elt F) f)
    iexists f
    isplitr; · ipureintro; rfl
    rw [slot_set]; iexact H
  · iintro ⟨%X, %f, %hf, H⟩
    iexists f
    isplitr; · ipureintro; trivial
    rw [slot_set]; iexact H

/-- The whole landing buffer, at any values. -/
def commAny (c : Dev nD) (d : Bool) : sProp 𝕄 := iprop(∃ X : (commSh (planes d)).Idx → Elt F .bf16, owns (c : Thread nD τ) (commM d) fullShare X)

theorem range_slots (c : Dev nD) (d : Bool) :
    (bigSep (Finset.range (2 * planes d)) (fun j => (slotAny (F := F) c d j : sProp 𝕄)))
      = bigSep Finset.univ (fun j : Fin (2 * planes d) => iprop(∃ X : Half F, slotAt c d j.val j.isLt X)) := by
  refine (Ring.bigSep_fin_eq_range _ _ _ fun t h => ?_).symm
  unfold slotAny
  simp only [slotHas_eq c d t h, Fin.eta]

/-- It splits into its slots, -/
theorem comm_split (c : Dev nD) (d : Bool) : (commAny c d : sProp 𝕄) ⊢ bigSep (Finset.range (2 * planes d)) (fun j => slotAny (F := F) c d j) := by
  rw [range_slots]
  unfold commAny
  refine (ownsSat_true (c : Thread nD τ) (commM d) fullShare).2.trans ?_
  refine ((ownsSat_mono (c : Thread nD τ) (commM d) fullShare (fun _ _ => fun _ => trivial)).trans
    (ownsSat_rects (c : Thread nD τ) (commM d) fullShare (fun j : Fin (2 * planes d) => slotRect j.isLt) (fun _ _ => rfl) slot_disjoint slot_cover
      (fun _ _ => True))).trans ?_
  exact bigSep_mono fun j _ => (slot_slice c d j.val j.isLt).1
/-- and the slots make it whole again. -/
theorem comm_join (c : Dev nD) (d : Bool) : bigSep (Finset.range (2 * planes d)) (fun j => slotAny (F := F) c d j) ⊢ (commAny c d : sProp 𝕄) := by
  rw [range_slots]
  unfold commAny
  refine .trans ?_ (ownsSat_true (c : Thread nD τ) (commM d) fullShare).1
  refine .trans ?_ ((ownsSat_of_rects (c : Thread nD τ) (commM d) fullShare (fun j : Fin (2 * planes d) => slotRect j.isLt) (fun _ _ => rfl) slot_disjoint slot_cover
      (fun _ _ => True)).trans (ownsSat_mono (c : Thread nD τ) (commM d) fullShare (fun _ _ => trivial)))
  exact bigSep_mono fun j _ => (slot_slice c d j.val j.isLt).2

end Cert.RingProof
-- ==== Proof.Protocol.lean ====
/-
# The protocol

Every device has one barrier cell and, for each lane `d` and slot `j`, a send cell and a receive cell.

* Barrier cell of `c`: two units, duty `d` paid by `nb d c`, who hands over the whole landing buffer of lane `d` (any values) and
  the fact that its receive cells of that lane are open. After the handshake `c` holds what its sends write.
* Receive cell `(d, j)` of `c`: one landing, by the device `nb (!d) c` behind it on the lane; it hands over slot `j` with the values
  `sent d j` of that device.
* Send cell `(d, j)` of `c`: one landing, of the same copy; it gives the source back, a block of the product (`j < 2`) or the slot
  two below.

The order: barrier cells at level 1, the receive cell of slot `j` at level `j + 2`, everything else at 0. A device waits for slot
`j` when, of its own sends, those to slots above `j` are still to come.
-/
module

public import proofs.«01_k».proof.Proof.Memory

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The transfer semaphore numbered `k`. -/
def semN (k : ℕ) : SemLoc sig := .dma ⟨k % 129, Nat.mod_lt _ (by decide)⟩
abbrev barCell (c : Dev nD) : GSem nD τ sig := ((c : Thread nD τ), .reg barS)
abbrev sendCell (c : Dev nD) (d : Bool) (j : ℕ) : GSem nD τ sig := ((c : Thread nD τ), semN (sendBase d + j))
abbrev recvCell (c : Dev nD) (d : Bool) (j : ℕ) : GSem nD τ sig := ((c : Thread nD τ), semN (recvBase d + j))

theorem sendS_eq (d : Bool) (j : ℕ) (h : j < 2 * planes d) : (.dma (sendS d j h) : SemLoc sig) = semN (sendBase d + j) :=
  congrArg SemLoc.dma (Fin.ext (Nat.mod_eq_of_lt (sendLt d h)).symm)
theorem recvS_eq (d : Bool) (j : ℕ) (h : j < 2 * planes d) : (.dma (recvS d j h) : SemLoc sig) = semN (recvBase d + j) :=
  congrArg SemLoc.dma (Fin.ext (Nat.mod_eq_of_lt (recvLt d h)).symm)

/-- What a transfer semaphore is for: whether it is a receive semaphore, its lane and its slot. -/
def role (k : ℕ) : Option (Bool × Bool × ℕ) :=
  if k < 5 then none else if k < 37 then some (false, false, k - 5) else if k < 69 then some (true, false, k - 37)
  else if k < 99 then some (false, true, k - 69) else some (true, true, k - 99)
def roleOf : SemLoc sig → Option (Bool × Bool × ℕ) | .reg _ => none | .dma q => role q.val

theorem roleOf_bar : roleOf (.reg barS) = none := rfl
theorem roleOf_send (d : Bool) (j : ℕ) (h : j < 2 * planes d) : roleOf (semN (sendBase d + j)) = some (false, d, j) := by
  have e : roleOf (semN (sendBase d + j)) = role (sendBase d + j) := congrArg role (Nat.mod_eq_of_lt (sendLt d h))
  rw [e]
  cases d <;> simp only [planes, sendBase] at h ⊢ <;> unfold role
  · rw [if_neg (by omega), if_pos (by omega), Nat.add_sub_cancel_left]
  · rw [if_neg (by omega), if_neg (by omega), if_neg (by omega), if_pos (by omega), Nat.add_sub_cancel_left]
theorem roleOf_recv (d : Bool) (j : ℕ) (h : j < 2 * planes d) : roleOf (semN (recvBase d + j)) = some (true, d, j) := by
  have e : roleOf (semN (recvBase d + j)) = role (recvBase d + j) := congrArg role (Nat.mod_eq_of_lt (recvLt d h))
  rw [e]
  cases d <;> simp only [planes, recvBase] at h ⊢ <;> unfold role
  · rw [if_neg (by omega), if_neg (by omega), if_pos (by omega), Nat.add_sub_cancel_left]
  · rw [if_neg (by omega), if_neg (by omega), if_neg (by omega), if_neg (by omega), Nat.add_sub_cancel_left]

theorem semN_ne_bar (k : ℕ) : semN k ≠ .reg barS := fun h => by cases h

/-- The units of one transfer. -/
def N : ℕ := (slotM false 0 (by decide)).view.dmaCredit
theorem N_pos : 0 < N := View.dmaCredit_pos _ (by decide)
theorem slot_credit (d : Bool) (j : ℕ) (h : j < 2 * planes d) : (slotM d j h).view.dmaCredit = N := by cases d <;> rfl
theorem pSlice_credit (r : Dev nD) (b : ℕ) (hb : b < 2) : (pSlice (wd r) b (pInb r hb)).view.dmaCredit = N := rfl

/-! ## What travels -/

/-- Two half blocks added in the wide format and rounded. -/
def addHalf (x y : Half F) : Half F := truncf .bf16 (addf (extf .f32 x bitsLt_bf16_f32) (extf .f32 y bitsLt_bf16_f32)) bitsLt_bf16_f32

variable (P : Dev nD → Prod F)

theorem mod_two_lt (j : ℕ) : j % 2 < 2 := Nat.mod_lt _ (by decide)

/-- What device `c` sends to slot `j` of lane `d`, the devices' products being `P`. -/
def sent (d : Bool) : (j : ℕ) → (c : Dev nD) → Half F
  | 0, c => pHalf (P c) (row d 0 c) 0 (by decide)
  | 1, c => pHalf (P c) (row d 0 c) 1 (by decide)
  | j + 2, c => addHalf (pHalf (P c) (row d (j / 2 + 1) c) (j % 2) (mod_two_lt j)) (sent d j (nb (!d) c))

/-- The share of the product a lane's first sends hold, half by half. -/
def pShare (d : Bool) (b : ℕ) : PosShare TreeShare :=
  match d, b with
  | false, 0 => fullShare.right.left.left
  | false, _ => fullShare.right.left.right
  | true, 0 => fullShare.right.right.left
  | true, _ => fullShare.right.right.right

/-! ## The schedule -/

/-- Paid by `nb d c` to the barrier cell of `c`. -/
def barPay (c : Dev nD) (d : Bool) : sProp 𝕄 :=
  iprop(bigSep (Finset.range (2 * planes d)) (fun j => slotAny (F := F) (nb d c) d j)
    ∗ bigSep (Finset.range (2 * planes d)) (fun j => reached ER (recvCell (nb d c) d j) 0))
def recvPay (c : Dev nD) (d : Bool) (j : ℕ) : sProp 𝕄 := slotHas c d j (sent P d j (nb (!d) c))
def sendPay (c : Dev nD) (d : Bool) (j : ℕ) : sProp 𝕄 :=
  if h : j < 2 then pBlk c (pShare d j) (row d 0 c) j h (P c) else slotAny (F := F) c d (j - 2)

/-- Every cell has one round; a barrier cell's has two duties. -/
def ringRd : Rounds.Schedule (GSem nD τ sig) Bool 𝕄 where
  duties g r := if r = 0 ∧ g.1.2 = .tc then (if g.2 = .reg barS then Finset.univ else if (roleOf g.2).isSome then {false} else ∅) else ∅
  unitless _ := False
  amount g _ _ := if g.2 = .reg barS then 1 else N
  payload g _ b :=
    if g.2 = .reg barS then barPay g.1.1 b
    else match roleOf g.2 with
      | some (true, d, j) => recvPay P g.1.1 d j
      | some (false, d, j) => sendPay P g.1.1 d j
      | none => iprop(emp)
  amount_pos g _ _ _ := by
    by_cases h : g.2 = .reg barS
    · rw [if_pos h]; exact Nat.one_pos
    · rw [if_neg h]; exact N_pos

instance barPay_storable (c : Dev nD) (d : Bool) : BI.Storable (upEmb : UEmb _ 𝕄) (barPay (F := F) c d) := by unfold barPay; infer_instance
instance recvPay_storable (c : Dev nD) (d : Bool) (j : ℕ) : BI.Storable (upEmb : UEmb _ 𝕄) (recvPay P c d j) := by unfold recvPay; infer_instance
instance sendPay_storable (c : Dev nD) (d : Bool) (j : ℕ) : BI.Storable (upEmb : UEmb _ 𝕄) (sendPay P c d j) := by
  unfold sendPay; split <;> infer_instance
instance payload_storable (g : GSem nD τ sig) (r : ℕ) (b : Bool) : BI.Storable (upEmb : UEmb _ 𝕄) ((ringRd P).payload g r b) := by
  show BI.Storable upEmb (if g.2 = .reg barS then barPay g.1.1 b
    else match roleOf g.2 with
      | some (true, d, j) => recvPay P g.1.1 d j
      | some (false, d, j) => sendPay P g.1.1 d j
      | none => iprop(emp))
  split
  · infer_instance
  · split <;> infer_instance

section Sched

variable (c : Dev nD) (d : Bool) (j : ℕ)

theorem duties_bar : (ringRd P).duties (barCell c) 0 = Finset.univ := by dsimp only [ringRd]; rw [if_pos ⟨rfl, rfl⟩, if_pos rfl]
theorem duties_send (h : j < 2 * planes d) : (ringRd P).duties (sendCell c d j) 0 = {false} := by
  dsimp only [ringRd]; rw [if_pos ⟨rfl, rfl⟩, if_neg (semN_ne_bar _), roleOf_send d j h]; rfl
theorem duties_recv (h : j < 2 * planes d) : (ringRd P).duties (recvCell c d j) 0 = {false} := by
  dsimp only [ringRd]; rw [if_pos ⟨rfl, rfl⟩, if_neg (semN_ne_bar _), roleOf_recv d j h]; rfl
theorem duties_later (g : GSem nD τ sig) : ∀ r, 1 ≤ r → (ringRd P).duties g r = ∅ :=
  fun r hr => by dsimp only [ringRd]; exact if_neg fun h => by omega

theorem amount_bar (b : Bool) : (ringRd P).amount (barCell c) 0 b = 1 := by dsimp only [ringRd]; exact if_pos rfl
theorem amount_dma (k : ℕ) (b : Bool) : (ringRd P).amount ((c : Thread nD τ), semN k) 0 b = N := by dsimp only [ringRd]; exact if_neg (semN_ne_bar _)

theorem expect_bar : (ringRd P).expect (barCell c) 0 = 2 := by
  unfold Schedule.expect Schedule.amountOf
  rw [duties_bar]
  simp only [amount_bar, Finset.sum_const, Finset.card_univ, Fintype.card_bool, smul_eq_mul, mul_one]
theorem expect_send (h : j < 2 * planes d) : (ringRd P).expect (sendCell c d j) 0 = N := by
  unfold Schedule.expect Schedule.amountOf; rw [duties_send P c d j h, Finset.sum_singleton, amount_dma]
theorem expect_recv (h : j < 2 * planes d) : (ringRd P).expect (recvCell c d j) 0 = N := by
  unfold Schedule.expect Schedule.amountOf; rw [duties_recv P c d j h, Finset.sum_singleton, amount_dma]

theorem payload_bar (b : Bool) : (ringRd P).payload (barCell c) 0 b = barPay c b := by dsimp only [ringRd]; exact if_pos rfl
theorem payload_send (h : j < 2 * planes d) (b : Bool) : (ringRd P).payload (sendCell c d j) 0 b = sendPay P c d j := by
  dsimp only [ringRd]; rw [if_neg (semN_ne_bar _), roleOf_send d j h]
theorem payload_recv (h : j < 2 * planes d) (b : Bool) : (ringRd P).payload (recvCell c d j) 0 b = recvPay P c d j := by
  dsimp only [ringRd]; rw [if_neg (semN_ne_bar _), roleOf_recv d j h]

theorem rest_bar : bigSep ((ringRd P).duties (barCell c) 0 \ ∅) (fun b => (ringRd P).payload (barCell c) 0 b)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (h : j < 2 * planes d) : bigSep ((ringRd P).duties (sendCell c d j) 0 \ ∅) (fun b => (ringRd P).payload (sendCell c d j) 0 b) = sendPay P c d j := by
  rw [Finset.sdiff_empty, duties_send P c d j h, bigSep_singleton, payload_send P c d j h]
theorem rest_recv (h : j < 2 * planes d) : bigSep ((ringRd P).duties (recvCell c d j) 0 \ ∅) (fun b => (ringRd P).payload (recvCell c d j) 0 b) = recvPay P c d j := by
  rw [Finset.sdiff_empty, duties_recv P c d j h, bigSep_singleton, payload_recv P c d j h]

end Sched

/-! ## What a device owes, and the levels -/

/-- The units lane `d`'s sends from slot `k` on still have to deliver to the next device. -/
def laneOwes (c : Dev nD) (d : Bool) (k : ℕ) : CellTallies nD τ sig Unit := ∑ j ∈ Finset.Ico k (2 * planes d), tallyAt (recvCell (nb d c) d j) () N

theorem laneOwes_succ (c : Dev nD) (d : Bool) (k : ℕ) (h : k < 2 * planes d) :
    laneOwes c d k = laneOwes c d (k + 1) + tallyAt (recvCell (nb d c) d k) () N := by
  unfold laneOwes
  rw [show Finset.Ico k (2 * planes d) = insert k (Finset.Ico (k + 1) (2 * planes d)) by
      ext x; simp only [Finset.mem_Ico, Finset.mem_insert]; omega,
    Finset.sum_insert (by rw [Finset.mem_Ico]; omega), add_comm]
theorem laneOwes_all (c : Dev nD) (d : Bool) (k : ℕ) (h : 2 * planes d ≤ k) : laneOwes c d k = 0 := by
  unfold laneOwes; rw [Finset.Ico_eq_empty_of_le h, Finset.sum_empty]

/-- All a device owes at the start. -/
def O₀ (c : Dev nD) : CellTallies nD τ sig Unit :=
  laneOwes c false 0 + laneOwes c true 0 + tallyAt (barCell (nb false c)) () 1 + tallyAt (barCell (nb true c)) () 1

def L (g : GSem nD τ sig) : Finset Unit := if g.1.2 = .tc then {()} else ∅
def lv (g : GSem nD τ sig) (_ : Unit) : ℕ := if g.2 = .reg barS then 1 else match roleOf g.2 with | some (true, _, j) => j + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (d : Bool) (j : ℕ) (h : j < 2 * planes d) : lv (recvCell c d j) () = j + 2 := by
  unfold lv; rw [if_neg (semN_ne_bar _), roleOf_recv d j h]
theorem lv_send (c : Dev nD) (d : Bool) (j : ℕ) (h : j < 2 * planes d) : lv (sendCell c d j) () = 0 := by
  unfold lv; rw [if_neg (semN_ne_bar _), roleOf_send d j h]

/-- Everything owed in `O` stands above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  split at hg
  · next e => rw [e.1, L_tc]; exact ⟨Finset.mem_singleton_self _, h⟩
  · exact absurd hg (Nat.lt_irrefl 0)
theorem above_sum {n : ℕ} (f : ℕ → CellTallies nD τ sig Unit) (S : Finset ℕ) (h : ∀ j ∈ S, Above n (f j)) : Above n (∑ j ∈ S, f j) :=
  Finset.sum_induction f (Above n) (fun _ _ => above_add) (above_zero n) h
theorem above_lane {n : ℕ} (c : Dev nD) (d : Bool) (k : ℕ) (h : n < k + 2) : Above n (laneOwes c d k) :=
  above_sum _ _ fun j hj => above_tally _ _ _ (by
    rw [Finset.mem_Ico] at hj
    rw [lv_recv _ d j hj.2]; omega)

theorem mayWait (c : Dev nD) (sm : SemLoc sig) (O : CellTallies nD τ sig Unit) (n : ℕ) (hn : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-! ## All the cells -/

/-- A cell's number on its device: a lane, whether it receives, and the slot; and the barrier. -/
def laneCells (c : Dev nD) (d : Bool) : Finset (GSem nD τ sig) :=
  (Finset.range (2 * planes d)).image (sendCell c d) ∪ (Finset.range (2 * planes d)).image (recvCell c d)
@[irreducible] def talkCells : Finset (GSem nD τ sig) := Finset.univ.biUnion fun c : Dev nD => laneCells c false ∪ laneCells c true
@[irreducible] def barCells : Finset (GSem nD τ sig) := Finset.univ.image barCell

theorem send_mem (c : Dev nD) (d : Bool) (j : ℕ) (h : j < 2 * planes d) : sendCell c d j ∈ talkCells := by
  unfold talkCells
  exact Finset.mem_biUnion.mpr ⟨c, Finset.mem_univ _, by
    have : sendCell c d j ∈ laneCells c d := Finset.mem_union_left _ (Finset.mem_image_of_mem _ (Finset.mem_range.mpr h))
    cases d
    · exact Finset.mem_union_left _ this
    · exact Finset.mem_union_right _ this⟩
theorem recv_mem (c : Dev nD) (d : Bool) (j : ℕ) (h : j < 2 * planes d) : recvCell c d j ∈ talkCells := by
  unfold talkCells
  exact Finset.mem_biUnion.mpr ⟨c, Finset.mem_univ _, by
    have : recvCell c d j ∈ laneCells c d := Finset.mem_union_right _ (Finset.mem_image_of_mem _ (Finset.mem_range.mpr h))
    cases d
    · exact Finset.mem_union_left _ this
    · exact Finset.mem_union_right _ this⟩
theorem bar_mem (c : Dev nD) : barCell c ∈ barCells := by unfold barCells; exact Finset.mem_image_of_mem _ (Finset.mem_univ _)

/-- A set of cells that has all of them. -/
structure HasCells (S : Finset (GSem nD τ sig)) : Prop where
  bar : ∀ c, barCell c ∈ S
  send : ∀ c d j, j < 2 * planes d → sendCell c d j ∈ S
  recv : ∀ c d j, j < 2 * planes d → recvCell c d j ∈ S

theorem hasCells : HasCells (barCells ∪ talkCells) :=
  ⟨fun c => Finset.mem_union_left _ (bar_mem c), fun c d j h => Finset.mem_union_right _ (send_mem c d j h),
    fun c d j h => Finset.mem_union_right _ (recv_mem c d j h)⟩

/-- The invariants of the cells of `S`, at the names `K`. -/
def invs (S : Finset (GSem nD τ sig)) (K : GSem nD τ sig → ℕ) : sProp 𝕄 := bigSep S fun g => cellInv ER (ringRd P) (K g) g

instance invs_persistent (S : Finset (GSem nD τ sig)) (K : GSem nD τ sig → ℕ) : BI.Persistent (invs P S K) := by unfold invs; infer_instance

theorem invs_elim (S : Finset (GSem nD τ sig)) (K : GSem nD τ sig → ℕ) (g : GSem nD τ sig) (h : g ∈ S) : invs P S K ⊢ cellInv ER (ringRd P) (K g) g :=
  bigSep_elim h

end Cert.RingProof
-- ==== Proof.Steps.lean ====
/-
# One send, one receive, one hop

The rules of the protocol at the head of a program: a send that consumes the ticket of its slot, the wait of a receive cell, which
brings the slot, the wait of a send cell, which brings the source back, and the two of them joined in a hop.
-/
module

public import proofs.«01_k».proof.Proof.Protocol

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Prod F) {S : Finset (GSem nD τ sig)} (hS : HasCells S) (K : GSem nD τ sig → ℕ)

/-! ## Tickets -/

/-- What the wait of receive cell `(d, j)` takes. -/
def recvTick (c : Dev nD) (d : Bool) (j : ℕ) : sProp 𝕄 :=
  iprop(atPos ER (recvCell c d j) 0 ∅ 0 ∗ cred (tallyAt (recvCell c d j) () N))
/-- What a send to slot `j` takes, of the device's own; -/
def sendTick (c : Dev nD) (d : Bool) (j : ℕ) : sProp 𝕄 :=
  iprop(dutyTok ER (sendCell c d j) 0 false ∗ reached ER (sendCell c d j) 0 ∗ atPos ER (sendCell c d j) 0 ∅ 0
    ∗ dutyTok ER (recvCell (nb d c) d j) 0 false)
/-- and of what the handshake brings. -/
def landTick (c : Dev nD) (d : Bool) (j : ℕ) : sProp 𝕄 := iprop(slotAny (F := F) (nb d c) d j ∗ reached ER (recvCell (nb d c) d j) 0)
/-- What a send leaves: the means to wait for it. -/
def sentTick (c : Dev nD) (d : Bool) (j : ℕ) : sProp 𝕄 :=
  iprop(atPos ER (sendCell c d j) 0 ∅ 0 ∗ cred (tallyAt (sendCell c d j) () N))
/-- A cell whose one round is over. -/
def spent (g : GSem nD τ sig) : sProp 𝕄 := atPos ER g 1 ∅ 0
/-- What a device still owes, whatever its past waits. -/
def owing (c : Dev nD) (O : CellTallies nD τ sig Unit) : sProp 𝕄 := iprop(∃ W, owes (c : Thread nD τ) O W)

/-! ## A send -/

theorem sendCell_eq (c : Dev nD) (d : Bool) (j : ℕ) (h : j < 2 * planes d) : sendCell c d j = ((c : Thread nD τ), .dma (sendS d j h)) := by rw [sendS_eq]
theorem recvCell_eq (c : Dev nD) (d : Bool) (j : ℕ) (h : j < 2 * planes d) : recvCell c d j = ((c : Thread nD τ), .dma (recvS d j h)) := by rw [recvS_eq]

theorem send_core (c : Dev nD) (d : Bool) (j : ℕ) (h : j < 2 * planes d) (O : CellTallies nD τ sig Unit) (W : Waits sig Unit)
    (src : Memref sig .tc .vmem S64x1024 .bf16) (hsrc : src.view.WordExact) (q : PosShare TreeShare)
    (fs : Buf (Elt F) (src.view.loc (c : Thread nD τ))) (fd : Buf (Elt F) ((slotM d j h).view.loc (nb d c : Thread nD τ)))
    (hread : src.view.read (Elt F) fs = sent P d j c)
    (hpay : (src.view.loc (c : Thread nD τ) ↦[src.view.set]{q} fs : sProp 𝕄) ⊢ sendPay P c d j) (k : PR F) (Q : PUnit → sProp 𝕄) :
    iprop(cellInv ER (ringRd P) (K (sendCell c d j)) (sendCell c d j) ∗ cellInv ER (ringRd P) (K (recvCell (nb d c) d j)) (recvCell (nb d c) d j)
        ∗ (src.view.loc (c : Thread nD τ) ↦[src.view.set]{q} fs)
        ∗ ((slotM d j h).view.loc (nb d c : Thread nD τ) ↦[(slotM d j h).view.set]{fullShare} fd)
        ∗ owes (c : Thread nD τ) (laneOwes c d j + O) W
        ∗ dutyTok ER (sendCell c d j) 0 false ∗ reached ER (sendCell c d j) 0
        ∗ dutyTok ER (recvCell (nb d c) d j) 0 false ∗ reached ER (recvCell (nb d c) d j) 0)
      ⊢ iprop(((cred (tallyAt (sendCell c d j) () N) ∗ owes (c : Thread nD τ) (laneOwes c d (j + 1) + O) W) -∗ runs c k Q)
          -∗ runs c (send d j h (nb d c) src hsrc k) Q) := by
  have d1 := duties_send P c d j h
  have d2 := duties_recv P (nb d c) d j h
  have a1 : (ringRd P).amount (sendCell c d j) 0 false = N := amount_dma P c _ false
  have a2 : (ringRd P).amount (recvCell (nb d c) d j) 0 false = N := amount_dma P (nb d c) _ false
  have p1 := payload_send P c d j h false
  have p2 := payload_recv P (nb d c) d j h false
  have hO : laneOwes c d j + O = (laneOwes c d (j + 1) + O) + tallyAt (recvCell (nb d c) d j) () N := by
    rw [laneOwes_succ c d j h, add_right_comm]
  rw [sendCell_eq c d j h] at d1 a1 p1 ⊢
  rw [recvCell_eq (nb d c) d j h] at d2 a2 p2 hO ⊢
  unfold send
  exact Rounds.wp_send_pointsTo 𝒱₀ ER (ringRd P) (c : Thread nD τ) none
    (κ₁ := K ((c : Thread nD τ), .dma (sendS d j h))) (κ₂ := K ((nb d c : Thread nD τ), .dma (recvS d j h))) (defs := defs₀ (F := F)) (k := fun _ => k) (Q := Q) (sem := .dma (recvS d j h)) (sS := .dma (sendS d j h))
    (r₁ := 0) (r₂ := 0) (d₁ := false) (d₂ := false) (fd := fd)
    (by rw [d1]; exact Finset.mem_singleton_self _) (by rw [d2]; exact Finset.mem_singleton_self _)
    () () N (slot_credit d j h) a1 a2 (laneOwes c d (j + 1) + O) hO (W := W)
    (by rw [p1]; exact hpay)
    (by
      rw [p2]
      unfold recvPay
      rw [slotHas_eq _ _ _ h, nb_nb']
      unfold slotAt
      refine (owns_intro (nb d c : Thread nD τ) (slotM d j h) fullShare _).trans (Entails.of_eq ?_)
      rw [View.read_write_univ, hread])

include hS in
/-- A send of a source that reads as what the slot is to hold. -/
theorem send_run (c : Dev nD) (d : Bool) (j : ℕ) (h : j < 2 * planes d) (O : CellTallies nD τ sig Unit)
    (src : Memref sig .tc .vmem S64x1024 .bf16) (hsrc : src.view.WordExact) (q : PosShare TreeShare)
    (fs : Buf (Elt F) (src.view.loc (c : Thread nD τ)))
    (hread : src.view.read (Elt F) fs = sent P d j c)
    (hpay : (src.view.loc (c : Thread nD τ) ↦[src.view.set]{q} fs : sProp 𝕄) ⊢ sendPay P c d j) (k : PR F) (Q : PUnit → sProp 𝕄) :
    iprop(invs P S K ∗ (src.view.loc (c : Thread nD τ) ↦[src.view.set]{q} fs) ∗ sendTick c d j ∗ landTick (F := F) c d j ∗ owing c (laneOwes c d j + O))
      ⊢ iprop(((sentTick c d j ∗ owing c (laneOwes c d (j + 1) + O)) -∗ runs c k Q) -∗ runs c (send d j h (nb d c) src hsrc k) Q) := by
  unfold sendTick landTick sentTick owing slotAny
  simp only [slotHas_eq _ _ _ h]
  unfold slotAt owns
  iintro ⟨#HI, Hs, ⟨Ht1, Hr1, Hat, Ht2⟩, ⟨⟨%X, %fd, -, Hd⟩, Hr2⟩, ⟨%W, HO⟩⟩ Hk
  iapply (send_core P K c d j h O W src hsrc q fs fd hread hpay k Q) $$ [Hs Ht1 Hr1 Ht2 Hd Hr2 HO]
  · isplitr; · iapply (invs_elim P S K _ (hS.send c d j h)); iexact HI
    isplitr; · iapply (invs_elim P S K _ (hS.recv (nb d c) d j h)); iexact HI
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hat Hc]
  · isplitl [Hat]; · iexact Hat
    iexact Hc
  iexists W
  iexact HO

/-! ## The two waits -/

theorem wait_core (c : Dev nD) (q : DmaSem sig) (g : GSem nD τ sig) (hg : g = ((c : Thread nD τ), .dma q))
    (src : Memref sig .tc .vmem S64x1024 .bf16) (hsrc : src.view.WordExact) (dst : Memref sig .tc .vmem S64x1024 .bf16) (hdst : dst.view.WordExact)
    (hN : dst.view.dmaCredit = N) (he : (ringRd P).expect g 0 = N) (R : sProp 𝕄)
    (hR : bigSep ((ringRd P).duties g 0 \ ∅) (fun b => (ringRd P).payload g 0 b) = R)
    (O : CellTallies nD τ sig Unit) (k : PUnit → PR F) (Q : PUnit → sProp 𝕄) :
    iprop(cellInv ER (ringRd P) (K g) g ∗ cred (tallyAt g () N)
        ∗ owing c O ∗ MayWait (c : Thread nD τ) (.dma q) () O ∗ atPos ER g 0 ∅ 0)
      ⊢ iprop(((owing c O ∗ spent g ∗ R) -∗ runs c (k ⟨⟩) Q)
          -∗ runs c (.op (.waitDma2 q src dst hsrc hdst) k) Q) := by
  subst hg
  rw [← hR]
  unfold owing spent
  iintro ⟨#HI, Hc, ⟨%W, HO⟩, HM, Hat⟩ Hk
  iapply (Rounds.wp_wait_rest_token 𝒱₀ ER (ringRd P) (c : Thread nD τ) none (κ := K ((c : Thread nD τ), .dma q))
      (wpE_waitDma2_eq 𝒱₀ (c : Thread nD τ) none Set.univ) (Set.mem_univ _) () (O := O) (W := W) (R := 0) (m := 0) (T := ∅)
      (by rw [Nat.zero_add, hN, he])) $$ [Hc HO HM Hat]
  · rw [hN]
    isplitr; · iexact HI
    isplitl [Hc]; · iexact Hc
    isplitl [HO]; · iexact HO
    isplitl [HM]; · iexact HM
    iexact Hat
  iintro ⟨HO, Hat, -, HR⟩
  iapply Hk
  isplitl [HO]; · iexists _; iexact HO
  isplitl [Hat]; · iexact Hat
  iexact HR

include hS in
/-- The wait of a receive cell: the slot, as the device behind has sent it. -/
theorem recv_run (c : Dev nD) (d : Bool) (j : ℕ) (h : j < 2 * planes d) (O : CellTallies nD τ sig Unit) (hO : Above (j + 2) O)
    (src : Memref sig .tc .vmem S64x1024 .bf16) (hsrc : src.view.WordExact) (k : PUnit → PR F) (Q : PUnit → sProp 𝕄) :
    iprop(invs P S K ∗ levAts L lv ∗ recvTick c d j ∗ owing c O)
      ⊢ iprop(((spent (recvCell c d j) ∗ slotAt c d j h (sent P d j (nb (!d) c)) ∗ owing c O) -∗ runs c (k ⟨⟩) Q)
          -∗ runs c (.op (.waitDma2 (recvS d j h) src (slotM d j h) hsrc (slotM_exact d j h)) k) Q) := by
  unfold recvTick
  iintro ⟨#HI, #Hl, ⟨Hat, Hc⟩, HO⟩ Hk
  iapply (wait_core P K c (recvS d j h) (recvCell c d j) (recvCell_eq c d j h) src hsrc (slotM d j h) (slotM_exact d j h) (slot_credit d j h)
    (expect_recv P c d j h) _ (rest_recv P c d j h) O k Q) $$ [Hc HO Hat]
  · isplitr; · iapply (invs_elim P S K _ (hS.recv c d j h)); iexact HI
    isplitl [Hc]; · iexact Hc
    isplitl [HO]; · iexact HO
    isplitr
    · iapply (mayWait c (.dma (recvS d j h)) O (j + 2) (by rw [← recvCell_eq c d j h, lv_recv c d j h]) hO); iexact Hl
    iexact Hat
  unfold recvPay
  rw [slotHas_eq _ _ _ h]
  iintro ⟨HO, Hat, HR⟩
  iapply Hk
  isplitl [Hat]; · iexact Hat
  isplitl [HR]; · iexact HR
  iexact HO

include hS in
/-- The wait of a send cell, when nothing is owed any more: the source comes back. -/
theorem drain_run (c : Dev nD) (d : Bool) (j : ℕ) (h : j < 2 * planes d)
    (dst : Memref sig .tc .vmem S64x1024 .bf16) (hdst : dst.view.WordExact) (hN : dst.view.dmaCredit = N) (k : PUnit → PR F) (Q : PUnit → sProp 𝕄) :
    iprop(invs P S K ∗ sentTick c d j ∗ owing c 0)
      ⊢ iprop(((spent (sendCell c d j) ∗ sendPay P c d j ∗ owing c 0) -∗ runs c (k ⟨⟩) Q)
          -∗ runs c (.op (.waitDma2 (sendS d j h) (slotM d j h) dst (slotM_exact d j h) hdst) k) Q) := by
  unfold sentTick
  iintro ⟨#HI, ⟨Hat, Hc⟩, HO⟩ Hk
  iapply (wait_core P K c (sendS d j h) (sendCell c d j) (sendCell_eq c d j h) (slotM d j h) (slotM_exact d j h) dst hdst hN
    (expect_send P c d j h) _ (rest_send P c d j h) 0 k Q) $$ [Hc HO Hat]
  · isplitr; · iapply (invs_elim P S K _ (hS.send c d j h)); iexact HI
    isplitl [Hc]; · iexact Hc
    isplitl [HO]; · iexact HO
    isplitr; · rw [MayWait_zero]; iempintro
    iexact Hat
  iintro ⟨HO, Hat, HR⟩
  iapply Hk
  isplitl [Hat]; · iexact Hat
  isplitl [HR]; · iexact HR
  iexact HO

end Cert.RingProof
-- ==== Proof.Hop.lean ====
/-
# A lane's progress, and one hop

`Lane c d a b` is what device `c` holds of lane `d` when it has received the slots below `a` and sent those below `b`. A hop takes
`Lane c d j (j + 2)` to `Lane c d (j + 1) (j + 3)`.
-/
module

public import proofs.«01_k».proof.Proof.Steps
public import Idealize.SL.BI.BigOpNat

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Prod F) {S : Finset (GSem nD τ sig)} (hS : HasCells S) (K : GSem nD τ sig → ℕ)

/-! ## The state of a lane -/

/-- What is left of lane `d` after `a` slots received and `b` sent. -/
def Lane (c : Dev nD) (d : Bool) (a b : ℕ) : sProp 𝕄 :=
  iprop(bigSep (Finset.Ico a (2 * planes d)) (fun j => recvTick (F := F) c d j)
    ∗ bigSep (Finset.Ico b (2 * planes d)) (fun j => sendTick (F := F) c d j)
    ∗ bigSep (Finset.Ico b (2 * planes d)) (fun j => landTick (F := F) c d j)
    ∗ bigSep (Finset.Ico 0 b) (fun j => sentTick (F := F) c d j)
    ∗ bigSep (Finset.Ico 0 a) (fun j => spent (F := F) (recvCell c d j)))

theorem lane_recv (c : Dev nD) (d : Bool) (a b : ℕ) (h : a < 2 * planes d) :
    (Lane c d a b : sProp 𝕄) ⊢ iprop(recvTick c d a ∗ (spent (recvCell c d a) -∗ Lane c d (a + 1) b)) := by
  unfold Lane
  generalize 2 * planes d = n at h ⊢
  rw [bigSep_Ico_succ_bot h (fun j => recvTick (F := F) c d j), bigSep_Ico_succ_top (Nat.zero_le a)]
  iintro ⟨⟨H0, H1⟩, H2, H3, H4, H5⟩
  isplitl [H0]; · iexact H0
  iintro H6
  isplitl [H1]; · iexact H1
  isplitl [H2]; · iexact H2
  isplitl [H3]; · iexact H3
  isplitl [H4]; · iexact H4
  isplitl [H6]
  · iexact H6
  · iexact H5

theorem lane_send (c : Dev nD) (d : Bool) (a b : ℕ) (h : b < 2 * planes d) :
    (Lane c d a b : sProp 𝕄) ⊢ iprop(sendTick c d b ∗ landTick c d b ∗ (sentTick c d b -∗ Lane c d a (b + 1))) := by
  unfold Lane
  generalize 2 * planes d = n at h ⊢
  rw [bigSep_Ico_succ_bot h (fun j => sendTick (F := F) c d j), bigSep_Ico_succ_bot h (fun j => landTick (F := F) c d j), bigSep_Ico_succ_top (Nat.zero_le b)]
  iintro ⟨H1, ⟨H0, H2⟩, ⟨H00, H3⟩, H4, H5⟩
  isplitl [H0]; · iexact H0
  isplitl [H00]; · iexact H00
  iintro H6
  isplitl [H1]; · iexact H1
  isplitl [H2]; · iexact H2
  isplitl [H3]; · iexact H3
  isplitl [H6 H4]
  · isplitl [H6]
    · iexact H6
    · iexact H4
  · iexact H5

/-! ## One hop -/

/-- What a hop stores is what the device sends to the slot two above. -/
theorem hop_value (c : Dev nD) (d : Bool) (j : ℕ) (X : Half F) :
    shapeCast S64x1024 (hopPay X (up (sent P d j (nb (!d) c)))) shapeCasts_S1x64x1024_S64x1024 = addHalf X (sent P d j (nb (!d) c)) := by
  unfold hopPay
  rw [down_up, down_up]
  rfl

theorem slot_read (c : Dev nD) (d : Bool) (j : ℕ) (h : j < 2 * planes d) (X : Half F) (R : sProp 𝕄) :
    (∀ f, (slotM d j h).view.read (Elt F) f = X → ((slotM d j h).view.loc (c : Thread nD τ) ↦[(slotM d j h).view.set]{fullShare} f) ⊢ R)
      → (slotAt c d j h X : sProp 𝕄) ⊢ R := by
  intro H
  unfold slotAt owns
  iintro ⟨%f, %hf, H⟩
  iapply (H f hf)
  iexact H

theorem slot_any (c : Dev nD) (d : Bool) (j : ℕ) (h : j < 2 * planes d) (X : Half F) : (slotAt c d j h X : sProp 𝕄) ⊢ slotAny c d j := by
  unfold slotAny
  iintro H
  iexists X
  rw [slotHas_eq c d j h]
  iexact H

include hS in
/-- The send of a slot that has been summed up. -/
theorem forward_run (c : Dev nD) (d : Bool) (j : ℕ) (h : j + 2 < 2 * planes d) (hj : j < 2 * planes d) (O : CellTallies nD τ sig Unit)
    (k : PR F) (Q : PUnit → sProp 𝕄) :
    iprop(invs P S K ∗ slotAt c d j hj (sent P d (j + 2) c) ∗ sendTick c d (j + 2) ∗ landTick (F := F) c d (j + 2) ∗ owing c (laneOwes c d (j + 2) + O))
      ⊢ iprop(((sentTick c d (j + 2) ∗ owing c (laneOwes c d (j + 3) + O)) -∗ runs c k Q)
        -∗ runs c (send d (j + 2) h (nb d c) (slotM d j hj) (slotM_exact d j hj) k) Q) := by
  iintro ⟨#HI, Hs, Ht, Hl, HO⟩ Hk
  iapply (slot_read c d j hj (sent P d (j + 2) c)
    iprop(invs P S K -∗ sendTick c d (j + 2) -∗ landTick (F := F) c d (j + 2) -∗ owing c (laneOwes c d (j + 2) + O)
      -∗ ((sentTick c d (j + 2) ∗ owing c (laneOwes c d (j + 3) + O)) -∗ runs c k Q)
        -∗ runs c (send d (j + 2) h (nb d c) (slotM d j hj) (slotM_exact d j hj) k) Q)
    (by
      intro f hf
      iintro Hs #HI Ht Hl HO Hk
      iapply (send_run P hS K c d (j + 2) h O (slotM d j hj) (slotM_exact d j hj) fullShare f hf (by
        unfold sendPay
        rw [dif_neg (by omega), Nat.add_sub_cancel]
        refine .trans ?_ (slot_any c d j hj (sent P d (j + 2) c))
        unfold slotAt owns
        iintro H
        iexists f
        isplitr
        · ipureintro; exact hf
        · iexact H) k Q) $$ [Hs Ht Hl HO]
      · isplitr; · iexact HI
        isplitl [Hs]; · iexact Hs
        isplitl [Ht]; · iexact Ht
        isplitl [Hl]; · iexact Hl
        iexact HO
      iexact Hk)) $$ Hs HI Ht Hl HO Hk

include hS in
/-- Receive, add, send on. -/
theorem hop_run (c : Dev nD) (d : Bool) (j : ℕ) (h : j + 2 < 2 * planes d) (src : Memref sig .tc .vmem S64x1024 .bf16) (hsrc : src.view.WordExact)
    (hv : PInb (wd (row d (j / 2 + 1) c)) (j % 2)) (O : CellTallies nD τ sig Unit) (hO : Above (j + 2) O) (k : PR F) (Q : PUnit → sProp 𝕄) :
    iprop(invs P S K ∗ levAts L lv ∗ Lane c d j (j + 2) ∗ owing c (laneOwes c d (j + 2) + O) ∗ pAt c fullShare.left (P c))
      ⊢ iprop(((Lane c d (j + 1) (j + 3) ∗ owing c (laneOwes c d (j + 3) + O) ∗ pAt c fullShare.left (P c)) -∗ runs c k Q)
        -∗ runs c (hop d j h src hsrc (wd (row d (j / 2 + 1) c)) hv (nb d c) k) Q) := by
  have hj : j < 2 * planes d := Nat.lt_of_le_of_lt (Nat.le_add_right j 2) h
  have hO' : Above (j + 2) (laneOwes c d (j + 2) + O) := above_add (above_lane c d (j + 2) (by omega)) hO
  have hs : addHalf (pHalf (P c) (row d (j / 2 + 1) c) (j % 2) (mod_two_lt j)) (sent P d j (nb (!d) c)) = sent P d (j + 2) c := rfl
  unfold hop
  iintro ⟨#HI, #Hl, HL, HO, HP⟩ Hk
  ihave HL := (lane_recv c d j (j + 2) hj) $$ HL
  icases HL with ⟨Hr, HL⟩
  iapply (recv_run P hS K c d j hj _ hO' src hsrc _ Q) $$ [Hr HO]
  · isplitr; · iexact HI
    isplitr; · iexact Hl
    isplitl [Hr]
    · iexact Hr
    · iexact HO
  iintro ⟨Hd, Hs, HO⟩
  ihave HL := HL $$ Hd
  iapply (load_p c fullShare.left (P c) (pRect (wd (row d (j / 2 + 1) c)) (j % 2) hv) _ _ Q) $$ HP
  iintro HP
  iapply (load_slot c d j hj (sent P d j (nb (!d) c)) _ _ Q) $$ Hs
  iintro Hs
  iapply (load_slot c d j hj (sent P d j (nb (!d) c)) _ _ Q) $$ Hs
  iintro Hs
  iapply (store_slot c d j hj (sent P d j (nb (!d) c)) _ _ _ _ Q) $$ Hs
  rw [hop_value]
  iintro Hs
  ihave HL := (lane_send c d (j + 1) (j + 2) h) $$ HL
  icases HL with ⟨Ht, Hm, HL⟩
  iapply (forward_run P hS K c d j h hj O k Q) $$ [Hs Ht Hm HO]
  · isplitr; · iexact HI
    isplitl [Hs]; · rw [← hs]; iexact Hs
    isplitl [Ht]; · iexact Ht
    isplitl [Hm]; · iexact Hm
    iexact HO
  iintro ⟨Ht, HO⟩
  ihave HL := HL $$ Ht
  iapply Hk
  isplitl [HL]; · iexact HL
  isplitl [HO]
  · iexact HO
  · iexact HP

end Cert.RingProof
-- ==== Proof.Talk.lean ====
/-
# The two rings, from the first sends to the drained semaphores

`talk_run` is the run of `talk` on a device that has the product in its buffer and has been through the handshake: it ends with the
result's buffer at `outOf P c`, the product's and the two landing buffers back, and every cell's round over.
-/
module

public import proofs.«01_k».proof.Proof.Hop

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Prod F) {S : Finset (GSem nD τ sig)} (hS : HasCells S) (K : GSem nD τ sig → ℕ)

/-! ## The position table -/

/-- Device `c` holds the position table, with words `T`. -/
abbrev tblAt (c : Dev nD) (T : S32.Idx → BitVec 32) : sProp 𝕄 := tblM.view.loc (c : Thread nD τ) ↦{fullShare} T
/-- The words are those of the cycle. -/
def IsCycle (T : S32.Idx → BitVec 32) : Prop := ∀ i : S32.Idx, T i = wd (cyc (i 0).val)

theorem table_word (T : S32.Idx → BitVec 32) (hT : IsCycle T) (c : Dev nD) (d : Bool) (s : ℕ) (hs : s < planes d)
    (h : ∀ a, posOff d s (posW c) a + S1.size a ≤ S32.size a) :
    (tblM.access (posRect d s (posW c) h)).read (Elt F) T oneIdx = wd (row d s c) := by
  have e : (tblM.access (posRect d s (posW c) h)).read (Elt F) T oneIdx = T ((posRect d s (posW c) h).idx oneIdx) := rfl
  rw [e, hT]
  have e0 : ((posRect d s (posW c) h).idx oneIdx 0).val = posOff d s (posW c) 0 := rfl
  rw [e0, posOff_eq c d s hs]
  cases d
  · show wd (cyc ((pos c + 48 - s) % 32)) = _; rw [cyc_mod]; rfl
  · show wd (cyc ((pos c + 17 + s) % 32)) = _; rw [cyc_mod]; rfl

/-- Reading a row block's number. -/
theorem readPos_run (T : S32.Idx → BitVec 32) (hT : IsCycle T) (c : Dev nD) (d : Bool) (s : ℕ) (hs : s < planes d) (hw : k0_chk3 (posW c))
    (k : BitVec 32 → PR F) (Q : PUnit → sProp 𝕄) :
    (tblAt c T : sProp 𝕄) ⊢ iprop((tblAt c T -∗ runs c (k (wd (row d s c))) Q) -∗ runs c (readPos d s hs (posW c) hw k) Q) := by
  have h := wp_smemLoadElt (m := tblM) (r := posRect d s (posW c) (posInb hw d s hs)) (x := oneIdx) (hw := View.loads_smem_one rfl numel1_S1)
    (k := k) (S := (Finset.univ : Finset (Idx (tblM.view.loc (c : Thread nD τ))))) (q := fullShare) (f := T) (Q := Q) (defs := defs₀ (F := F)) (Γ := .empty) 𝒱₀ (c : Thread nD τ) none
    Set.univ (fun _ _ => Finset.mem_univ _)
  rw [table_word T hT c d s hs] at h
  exact h

theorem readRow_run (T : S32.Idx → BitVec 32) (hT : IsCycle T) (c : Dev nD) (d : Bool) (s : ℕ) (hs : s < planes d) (hw : k0_chk3 (posW c))
    (k : (v : BitVec 32) → k0_chk6 v → PR F) (Q : PUnit → sProp 𝕄) :
    (tblAt c T : sProp 𝕄) ⊢ iprop((tblAt c T -∗ runs c (k (wd (row d s c)) (chk6 _)) Q) -∗ runs c (readRow d s hs (posW c) hw k) Q) := by
  unfold readRow
  iintro H Hk
  iapply (readPos_run T hT c d s hs hw _ Q) $$ H
  iintro H
  iapply (wp_assume 𝒱₀ (c : Thread nD τ) none Set.univ (chk6 (row d s c)))
  iapply Hk
  iexact H

/-! ## The steps -/

/-- What the steps share, on device `c`. -/
def ctxOf (c : Dev nD) : Ctx where
  t := posW c
  ht := chk3 c
  nb d := nb d c
  v d := wd (row d 0 c)
  h0 d := pInb (row d 0 c) (by decide)
  h1 d := pInb (row d 0 c) (by decide)
  w0 d := pWords (row d 0 c) 0 _
  w1 d := pWords (row d 0 c) 1 _

/-- The state between two hops, beside `R`. -/
def St (T : S32.Idx → BitVec 32) (R : sProp 𝕄) (c : Dev nD) (a b a' b' : ℕ) : sProp 𝕄 :=
  iprop(invs P S K ∗ levAts L lv ∗ Lane c false a b ∗ Lane c true a' b' ∗ owing c (laneOwes c false b + laneOwes c true b')
    ∗ pAt c fullShare.left (P c) ∗ tblAt c T ∗ R)

variable (T : S32.Idx → BitVec 32) (R : sProp (MT nD τ sig Unit (Elt F) ℕ UU ℕ)) (hT : IsCycle T) (c : Dev nD)

include hS in
theorem hop_false (j : ℕ) (h : j + 2 < 2 * planes false) (v : BitVec 32) (e : v = wd (row false (j / 2 + 1) c)) (hv : PInb v (j % 2))
    (a' b' : ℕ) (hb : j < b') (k : PR F) (Q : PUnit → sProp 𝕄) (H : St P (S := S) K T R c (j + 1) (j + 3) a' b' ⊢ runs c k Q) :
    St P (S := S) K T R c j (j + 2) a' b' ⊢ runs c (hopAt (ctxOf c) false j h v hv k) Q := by
  subst e
  unfold St at H ⊢
  iintro ⟨#HI, #Hl, HL, HM, HO, HP, HT⟩
  iapply (hop_run P hS K c false j h _ _ hv (laneOwes c true b') (above_lane c true b' (by omega)) k Q) $$ [HL HO HP]
  · isplitr; · iexact HI
    isplitr; · iexact Hl
    isplitl [HL]; · iexact HL
    isplitl [HO]
    · iexact HO
    · iexact HP
  iintro ⟨HL, HO, HP⟩
  iapply H
  isplitr; · iexact HI
  isplitr; · iexact Hl
  isplitl [HL]; · iexact HL
  isplitl [HM]; · iexact HM
  isplitl [HO]; · iexact HO
  isplitl [HP]
  · iexact HP
  · iexact HT

include hS in
theorem hop_true (j : ℕ) (h : j + 2 < 2 * planes true) (v : BitVec 32) (e : v = wd (row true (j / 2 + 1) c)) (hv : PInb v (j % 2))
    (a b : ℕ) (hb : j < b) (k : PR F) (Q : PUnit → sProp 𝕄) (H : St P (S := S) K T R c a b (j + 1) (j + 3) ⊢ runs c k Q) :
    St P (S := S) K T R c a b j (j + 2) ⊢ runs c (hopAt (ctxOf c) true j h v hv k) Q := by
  subst e
  unfold St at H ⊢
  rw [add_comm (laneOwes c false b)] at H ⊢
  iintro ⟨#HI, #Hl, HM, HL, HO, HP, HT⟩
  iapply (hop_run P hS K c true j h _ _ hv (laneOwes c false b) (above_lane c false b (by omega)) k Q) $$ [HL HO HP]
  · isplitr; · iexact HI
    isplitr; · iexact Hl
    isplitl [HL]; · iexact HL
    isplitl [HO]
    · iexact HO
    · iexact HP
  iintro ⟨HL, HO, HP⟩
  iapply H
  isplitr; · iexact HI
  isplitr; · iexact Hl
  isplitl [HM]; · iexact HM
  isplitl [HL]; · iexact HL
  isplitl [HO]; · iexact HO
  isplitl [HP]
  · iexact HP
  · iexact HT

include hT in
theorem row_run (s : ℕ) (hw : k0_chk3 (posW c)) (d : Bool) (hs : s < planes d) (a b a' b' : ℕ) (k : (v : BitVec 32) → k0_chk6 v → PR F)
    (Q : PUnit → sProp 𝕄) (H : St P (S := S) K T R c a b a' b' ⊢ runs c (k (wd (row d s c)) (chk6 _)) Q) :
    St P (S := S) K T R c a b a' b' ⊢ runs c (readRow d s hs (posW c) hw k) Q := by
  unfold St at H ⊢
  iintro ⟨#HI, #Hl, HL, HM, HO, HP, HT, HR⟩
  iapply (readRow_run T hT c d s hs hw k Q) $$ HT
  iintro HT
  iapply H
  isplitr; · iexact HI
  isplitr; · iexact Hl
  isplitl [HL]; · iexact HL
  isplitl [HM]; · iexact HM
  isplitl [HO]; · iexact HO
  isplitl [HP]; · iexact HP
  isplitl [HT]
  · iexact HT
  · iexact HR

include hS hT in
theorem step_run (s : ℕ) (h : s < 14) (k : PR F) (Q : PUnit → sProp 𝕄)
    (H : St P (S := S) K T R c (2 * (s + 1)) (2 * (s + 1) + 2) (2 * (s + 1)) (2 * (s + 1) + 2) ⊢ runs c k Q) :
    St P (S := S) K T R c (2 * s) (2 * s + 2) (2 * s) (2 * s + 2) ⊢ runs c (step (ctxOf c) s h k) Q := by
  unfold step
  refine row_run P K T R hT c (s + 1) _ false _ _ _ _ _ _ Q ?_
  refine row_run P K T R hT c (s + 1) _ true _ _ _ _ _ _ Q ?_
  have e0 : 2 * s / 2 + 1 = s + 1 := by omega
  have e1 : (2 * s + 1) / 2 + 1 = s + 1 := by omega
  refine hop_false P hS K T R c (2 * s) _ _ (by rw [e0]) _ _ _ (by omega) _ Q ?_
  refine hop_true P hS K T R c (2 * s) _ _ (by rw [e0]) _ _ _ (by omega) _ Q ?_
  refine hop_false P hS K T R c (2 * s + 1) _ _ (by rw [e1]) _ _ _ (by omega) _ Q ?_
  exact hop_true P hS K T R c (2 * s + 1) _ _ (by rw [e1]) _ _ _ (by omega) _ Q H

include hS hT in
theorem steps_run (k : PR F) (Q : PUnit → sProp 𝕄) : (n s : ℕ) → (h : s + n ≤ 14) →
    (St P (S := S) K T R c (2 * (s + n)) (2 * (s + n) + 2) (2 * (s + n)) (2 * (s + n) + 2) ⊢ runs c k Q) →
    St P (S := S) K T R c (2 * s) (2 * s + 2) (2 * s) (2 * s + 2) ⊢ runs c (steps (ctxOf c) k n s h) Q
  | 0, _, _, H => H
  | n + 1, s, h, H => step_run P hS K T R hT c s (by omega) _ Q (steps_run k Q n (s + 1) (by omega) (by
      rw [show s + 1 + n = s + (n + 1) by omega]; exact H))

include hS hT in
theorem lastStep_run (k : PR F) (Q : PUnit → sProp 𝕄) (H : St P (S := S) K T R c 30 32 28 30 ⊢ runs c k Q) :
    St P (S := S) K T R c 28 30 28 30 ⊢ runs c (lastStep (ctxOf c) k) Q := by
  unfold lastStep
  refine row_run P K T R hT c 15 _ false _ _ _ _ _ _ Q ?_
  refine hop_false P hS K T R c 28 _ _ rfl _ _ _ (by omega) _ Q ?_
  exact hop_false P hS K T R c 29 _ _ rfl _ _ _ (by omega) _ Q H

end Cert.RingProof
-- ==== Proof.Finish.lean ====
/-
# The result, the drained semaphores, and the whole exchange

`talk_run` is the run of `talk` on a device that has the product in its buffer and has been through the handshake: it ends with the
result's buffer at `outOf P c`, the product's and the two landing buffers back, and every cell's round over.
-/
module

public import proofs.«01_k».proof.Proof.Talk

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Prod F) {S : Finset (GSem nD τ sig)} (hS : HasCells S) (K : GSem nD τ sig → ℕ)

/-! ## The result -/

/-- Device `c` holds the result's buffer, with values `f`. -/
abbrev outAt (c : Dev nD) (f : S64x2048.Idx → Elt F .f32) : sProp 𝕄 := outM.view.loc (c : Thread nD τ) ↦{fullShare} f

/-- Column half `b` of the result: the own rows, and the sums that come in from the two sides. -/
def outHalf (c : Dev nD) (b : ℕ) (hb : b < 2) : FVec F S64x1024 .f32 :=
  outPay (pHalf (P c) c b hb) (up (sent P false (30 + b) (nb true c))) (up (sent P true (28 + b) (nb false c)))

theorem own_word (c : Dev nD) : Scalar.remsi (Scalar.divsi (Dev.word c) 1#32) 32#32 = wd c := by revert c; decide +kernel

/-- The buffer with one half stored. -/
def outPut (b : ℕ) (hb : b < 2) (w : FVec F S64x1024 .f32) (f : S64x2048.Idx → Elt F .f32) : S64x2048.Idx → Elt F .f32 :=
  (outM.access (outRect hb)).write (Elt F) f w Finset.univ

theorem load_out (c : Dev nD) (f : S64x2048.Idx → Elt F .f32) (r : Rect S64x2048) (hl : outM.view.LoadsAt r.toLoadRect)
    (k : (r.shape.Idx → Elt F .f32) → PR F) (Q : PUnit → sProp 𝕄) :
    (outAt c f : sProp 𝕄) ⊢ iprop((outAt c f -∗ runs c (k ((outM.access r).read (Elt F) f)) Q)
      -∗ runs c (.op (.load outM r.toLoadRect hl) k) Q) :=
  wp_load_rect (m := outM) (r := r) (S := (Finset.univ : Finset (Idx (outM.view.loc (c : Thread nD τ))))) (f := f) (k := k) 𝒱₀ (c : Thread nD τ) none Set.univ (fun _ _ => Finset.mem_univ _)

theorem store_out (c : Dev nD) (f : S64x2048.Idx → Elt F .f32) (b : ℕ) (hb : b < 2) (w : FVec F S64x1024 .f32)
    (hx : (outM.access (outRect hb)).Stores Finset.univ) (hm : (Finset.univ : Finset (outRect hb).shape.Idx) = Finset.univ ∨ ∀ a, (outRect hb).stride a = 1)
    (k : PUnit → PR F) (Q : PUnit → sProp 𝕄) :
    (outAt c f : sProp 𝕄) ⊢ iprop((outAt c (outPut b hb w f) -∗ runs c (k ⟨⟩) Q)
      -∗ runs c (.op (.store outM (outRect hb) w Finset.univ hx hm) k) Q) :=
  wp_store (m := outM) (r := outRect hb) (S := (Finset.univ : Finset (Idx (outM.view.loc (c : Thread nD τ))))) (f := f) 𝒱₀ (c : Thread nD τ) none Set.univ
    (fun _ _ => Finset.mem_univ _)

include hS in
/-- Half `b` of the result. -/
theorem finish_run (c : Dev nD) (b : ℕ) (hb : b < 2) (v : BitVec 32) (e : v = wd c) (hv : PInb v b) (f : S64x2048.Idx → Elt F .f32)
    (m n : ℕ) (k : PR F) (Q : PUnit → sProp 𝕄) :
    iprop(invs P S K ∗ levAts L lv ∗ Lane c false (30 + b) m ∗ Lane c true (28 + b) n ∗ owing c 0 ∗ pAt c fullShare.left (P c) ∗ outAt c f)
      ⊢ iprop(((Lane c false (30 + (b + 1)) m ∗ Lane c true (28 + (b + 1)) n ∗ owing c 0 ∗ pAt c fullShare.left (P c)
          ∗ outAt c (outPut b hb (outHalf P c b hb) f) ∗ slotAny (F := F) c false (30 + b) ∗ slotAny (F := F) c true (28 + b)) -∗ runs c k Q)
        -∗ runs c (finish (ctxOf c) b hb v hv k) Q) := by
  subst e
  have hR : 30 + b < 2 * planes false := by show _ < 2 * 16; omega
  have hL : 28 + b < 2 * planes true := by show _ < 2 * 15; omega
  unfold finish
  iintro ⟨#HI, #Hl, HL, HM, HO, HP, Hf⟩ Hk
  ihave HL := (lane_recv c false (30 + b) m hR) $$ HL
  icases HL with ⟨Hr, HL⟩
  iapply (recv_run P hS K c false (30 + b) hR 0 (above_zero _) _ _ _ Q) $$ [Hr HO]
  · isplitr; · iexact HI
    isplitr; · iexact Hl
    isplitl [Hr]
    · iexact Hr
    · iexact HO
  iintro ⟨Hd, Hs, HO⟩
  ihave HL := HL $$ Hd
  ihave HM := (lane_recv c true (28 + b) n hL) $$ HM
  icases HM with ⟨Hr, HM⟩
  iapply (recv_run P hS K c true (28 + b) hL 0 (above_zero _) _ _ _ Q) $$ [Hr HO]
  · isplitr; · iexact HI
    isplitr; · iexact Hl
    isplitl [Hr]
    · iexact Hr
    · iexact HO
  iintro ⟨Hd, Ht, HO⟩
  ihave HM := HM $$ Hd
  iapply (load_p c fullShare.left (P c) (pRect (wd c) b hv) _ _ Q) $$ HP
  iintro HP
  iapply (load_slot c false (30 + b) hR (sent P false (30 + b) (nb (!false) c)) _ _ Q) $$ Hs
  iintro Hs
  iapply (load_slot c true (28 + b) hL (sent P true (28 + b) (nb (!true) c)) _ _ Q) $$ Ht
  iintro Ht
  iapply (load_out c f (outRect hb) _ _ Q) $$ Hf
  iintro Hf
  iapply (store_out c f b hb _ _ _ _ Q) $$ Hf
  iintro Hf
  iapply Hk
  isplitl [HL]; · iexact HL
  isplitl [HM]; · iexact HM
  isplitl [HO]; · iexact HO
  isplitl [HP]; · iexact HP
  isplitl [Hf]; · iexact Hf
  isplitl [Hs]
  · iapply (slot_any c false (30 + b) hR _); iexact Hs
  · iapply (slot_any c true (28 + b) hL _); iexact Ht

/-! ## The drains -/

theorem src_credit (c : Dev nD) (d : Bool) : (j : ℕ) → (h : j < 2 * planes d) → ((ctxOf c).src d j h).view.dmaCredit = N
  | 0, _ => pSlice_credit (row d 0 c) 0 (by decide)
  | 1, _ => pSlice_credit (row d 0 c) 1 (by decide)
  | j + 2, h => slot_credit d j _

include hS in
/-- Waiting for `n` of a lane's sends, from slot `j` on. -/
theorem drain_all (c : Dev nD) (d : Bool) (k : PR F) (Q : PUnit → sProp 𝕄) : (n j : ℕ) → (h : j + n ≤ 2 * planes d) →
    iprop(invs P S K ∗ bigSep (Finset.Ico j (j + n)) (fun i => sentTick (F := F) c d i) ∗ owing c 0)
      ⊢ iprop(((bigSep (Finset.Ico j (j + n)) (fun i => spent (F := F) (sendCell c d i)) ∗ bigSep (Finset.Ico j (j + n)) (fun i => sendPay P c d i)
          ∗ owing c 0) -∗ runs c k Q) -∗ runs c (drain (ctxOf c) d k n j h) Q)
  | 0, j, h => by
    rw [Nat.add_zero, Finset.Ico_self, bigSep_empty, bigSep_empty, bigSep_empty]
    unfold drain
    iintro ⟨-, -, HO⟩ Hk
    iapply Hk
    isplitr; · iempintro
    isplitr; · iempintro
    iexact HO
  | n + 1, j, h => by
    have hj : j < 2 * planes d := by omega
    have ih := drain_all c d k Q n (j + 1) (by omega)
    have hI : Finset.Ico (j + 1) (j + 1 + n) = Finset.Ico (j + 1) (j + (n + 1)) := by rw [show j + 1 + n = j + (n + 1) by omega]
    rw [hI] at ih
    have hlt : j < j + (n + 1) := by omega
    rw [bigSep_Ico_succ_bot hlt (fun i => sentTick (F := F) c d i), bigSep_Ico_succ_bot hlt (fun i => spent (F := F) (sendCell c d i)),
      bigSep_Ico_succ_bot hlt (fun i => sendPay P c d i)]
    generalize Finset.Ico (j + 1) (j + (n + 1)) = I at ih ⊢
    unfold drain
    iintro ⟨#HI, ⟨H0, H⟩, HO⟩ Hk
    iapply (drain_run P hS K c d j hj _ _ (src_credit c d j hj) _ Q) $$ [H0 HO]
    · isplitr; · iexact HI
      isplitl [H0]
      · iexact H0
      · iexact HO
    iintro ⟨Hd, Hp, HO⟩
    iapply ih $$ [H HO]
    · isplitr; · iexact HI
      isplitl [H]
      · iexact H
      · iexact HO
    iintro ⟨Hds, Hps, HO⟩
    iapply Hk
    isplitl [Hd Hds]
    · isplitl [Hd]
      · iexact Hd
      · iexact Hds
    isplitl [Hp Hps]
    · isplitl [Hp]
      · iexact Hp
      · iexact Hps
    iexact HO

/-! ## What comes back -/

theorem bigSep_shift (A : ℕ → sProp 𝕄) : ∀ m, bigSep (Finset.Ico 2 (m + 2)) (fun j => A (j - 2)) = bigSep (Finset.range m) A
  | 0 => by rw [Nat.zero_add, Finset.Ico_self, Finset.range_zero, bigSep_empty, bigSep_empty]
  | m + 1 => by
    rw [show m + 1 + 2 = (m + 2) + 1 by omega, bigSep_Ico_succ_top (by omega), bigSep_range_succ, bigSep_shift A m, Nat.add_sub_cancel]

/-- The sources of a lane's sends are the two blocks and all slots but the last two. -/
theorem sources (c : Dev nD) (d : Bool) :
    bigSep (Finset.Ico 0 (0 + 2 * planes d)) (fun j => sendPay P c d j)
      ⊢ iprop(pBlk c (pShare d 0) (row d 0 c) 0 (by decide) (P c) ∗ pBlk c (pShare d 1) (row d 0 c) 1 (by decide) (P c)
        ∗ bigSep (Finset.range (2 * planes d - 2)) (fun j => slotAny (F := F) c d j)) := by
  obtain ⟨m, hm⟩ : ∃ m, 2 * planes d = m + 2 := ⟨2 * planes d - 2, by cases d <;> rfl⟩
  rw [Nat.zero_add, hm, bigSep_Ico_succ_bot (by omega), bigSep_Ico_succ_bot (by omega), Nat.add_sub_cancel]
  have e : bigSep (Finset.Ico (0 + 1 + 1) (m + 2)) (fun j => sendPay P c d j) = bigSep (Finset.range m) (fun j => slotAny (F := F) c d j) := by
    rw [← bigSep_shift]
    refine bigSep_congr fun j hj => ?_
    rw [Finset.mem_Ico] at hj
    unfold sendPay
    exact dif_neg (by omega)
  have e0 : sendPay P c d 0 = pBlk c (pShare d 0) (row d 0 c) 0 (by decide) (P c) := dif_pos (by omega)
  have e1 : sendPay P c d (0 + 1) = pBlk c (pShare d 1) (row d 0 c) 1 (by decide) (P c) := dif_pos (by omega)
  rw [e, e0, e1]

theorem comm_back (c : Dev nD) (d : Bool) (m : ℕ) (hm : 2 * planes d = m + 2) :
    iprop(bigSep (Finset.range (2 * planes d - 2)) (fun j => slotAny (F := F) c d j) ∗ slotAny (F := F) c d m ∗ slotAny (F := F) c d (m + 1))
      ⊢ (commAny c d : sProp 𝕄) := by
  refine .trans ?_ (comm_join c d)
  rw [hm, Nat.add_sub_cancel, bigSep_range_succ, bigSep_range_succ]
  generalize bigSep (Finset.range m) (fun j => slotAny (F := F) c d j) = R
  iintro ⟨H1, H2, H3⟩
  isplitl [H3]; · iexact H3
  isplitl [H2]
  · iexact H2
  · iexact H1

/-! ## The first sends -/

theorem first_read (c : Dev nD) (d : Bool) : (b : ℕ) → (hb : b < 2) →
    (pSlice (wd (row d 0 c)) b (pInb (row d 0 c) hb)).view.read (Elt F) (P c) = sent P d b c
  | 0, _ => rfl
  | 1, _ => rfl
  | n + 2, h => absurd h (by omega)

include hS in
/-- The send of a block of the product. -/
theorem first_run (c : Dev nD) (d : Bool) (b : ℕ) (hb : b < 2) (h : b < 2 * planes d) (O : CellTallies nD τ sig Unit)
    (hx : (pSlice (wd (row d 0 c)) b (pInb (row d 0 c) hb)).view.WordExact) (k : PR F) (Q : PUnit → sProp 𝕄) :
    iprop(invs P S K ∗ pBlk c (pShare d b) (row d 0 c) b hb (P c) ∗ Lane c d 0 b ∗ owing c (laneOwes c d b + O))
      ⊢ iprop(((Lane c d 0 (b + 1) ∗ owing c (laneOwes c d (b + 1) + O)) -∗ runs c k Q)
        -∗ runs c (send d b h (nb d c) (pSlice (wd (row d 0 c)) b (pInb (row d 0 c) hb)) hx k) Q) := by
  iintro ⟨#HI, Hp, HL, HO⟩ Hk
  ihave HL := (lane_send c d 0 b h) $$ HL
  icases HL with ⟨Ht, Hm, HL⟩
  iapply (send_run P hS K c d b h O (pSlice (wd (row d 0 c)) b (pInb (row d 0 c) hb)) hx (pShare d b) (P c) (first_read P c d b hb)
    (by unfold sendPay; rw [dif_pos hb]) k Q) $$ [Hp Ht Hm HO]
  · isplitr; · iexact HI
    isplitl [Hp]; · iexact Hp
    isplitl [Ht]; · iexact Ht
    isplitl [Hm]; · iexact Hm
    iexact HO
  iintro ⟨Ht, HO⟩
  ihave HL := HL $$ Ht
  iapply Hk
  isplitl [HL]
  · iexact HL
  · iexact HO

end Cert.RingProof
-- ==== Proof.Exchange.lean ====
/-
# The whole exchange

`talk_run` is the run of `talk` on a device that has the product in its buffer and has been through the handshake: it ends with the
result's buffer at `outOf P c`, the product's and the two landing buffers back, and every cell's round over.
-/
module

public import proofs.«01_k».proof.Proof.Finish

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Prod F) {S : Finset (GSem nD τ sig)} (hS : HasCells S) (K : GSem nD τ sig → ℕ)

/-! ## The product's shares -/

theorem share_split (c : Dev nD) (q : PosShare TreeShare) (X : Prod F) :
    (pAt c q X : sProp 𝕄) ⊢ iprop(pAt c q.left X ∗ pAt c q.right X) := (pointsTo_share (PosShare.mem_left_op_right q)).1
theorem share_join (c : Dev nD) (q : PosShare TreeShare) (X : Prod F) :
    iprop(pAt c q.left X ∗ pAt c q.right X) ⊢ (pAt c q X : sProp 𝕄) := (pointsTo_share (PosShare.mem_left_op_right q)).2

/-- The two shares of a lane's first sends. -/
def laneShare : Bool → PosShare TreeShare | false => fullShare.right.left | true => fullShare.right.right

theorem shares_split (c : Dev nD) (X : Prod F) :
    (pAt c fullShare X : sProp 𝕄) ⊢ iprop(pAt c fullShare.left X ∗ pAt c (laneShare false) X ∗ pAt c (laneShare true) X) :=
  (share_split c fullShare X).trans (sep_mono .rfl (share_split c fullShare.right X))
theorem shares_join (c : Dev nD) (X : Prod F) :
    iprop(pAt c fullShare.left X ∗ pAt c (laneShare false) X ∗ pAt c (laneShare true) X) ⊢ (pAt c fullShare X : sProp 𝕄) :=
  (sep_mono .rfl (share_join c fullShare.right X)).trans (share_join c fullShare X)

/-- A lane's two blocks, borrowed. -/
theorem blocks_borrow (c : Dev nD) (d : Bool) :
    (pAt c (laneShare d) (P c) : sProp 𝕄) ⊢ iprop(pBlk c (pShare d 0) (row d 0 c) 0 (by decide) (P c) ∗ pBlk c (pShare d 1) (row d 0 c) 1 (by decide) (P c)
      ∗ ((pBlk c (pShare d 0) (row d 0 c) 0 (by decide) (P c) ∗ pBlk c (pShare d 1) (row d 0 c) 1 (by decide) (P c)) -∗ pAt c (laneShare d) (P c))) := by
  have e0 : pShare d 0 = (laneShare d).left := by cases d <;> rfl
  have e1 : pShare d 1 = (laneShare d).right := by cases d <;> rfl
  rw [e0, e1]
  iintro H
  ihave H := (share_split c (laneShare d) (P c)) $$ H
  icases H with ⟨H0, H1⟩
  ihave H0 := (p_borrow c (laneShare d).left (row d 0 c) 0 (by decide) (P c)) $$ H0
  icases H0 with ⟨H0, K0⟩
  ihave H1 := (p_borrow c (laneShare d).right (row d 0 c) 1 (by decide) (P c)) $$ H1
  icases H1 with ⟨H1, K1⟩
  isplitl [H0]; · iexact H0
  isplitl [H1]; · iexact H1
  iintro ⟨H0, H1⟩
  ihave H0 := K0 $$ H0
  ihave H1 := K1 $$ H1
  iapply (share_join c (laneShare d) (P c))
  isplitl [H0]
  · iexact H0
  · iexact H1

/-! ## A lane from its first sends to its drains -/

/-- Every cell of the lane has had its round. -/
def laneDone (c : Dev nD) (d : Bool) : sProp 𝕄 :=
  iprop(bigSep (Finset.range (2 * planes d)) (fun j => spent (F := F) (sendCell c d j))
    ∗ bigSep (Finset.range (2 * planes d)) (fun j => spent (F := F) (recvCell c d j)))

theorem lane_end (c : Dev nD) (d : Bool) (n : ℕ) (hn : n = 2 * planes d) :
    (Lane c d n n : sProp 𝕄) ⊢ iprop(bigSep (Finset.Ico 0 (0 + n)) (fun j => sentTick (F := F) c d j)
      ∗ bigSep (Finset.range (2 * planes d)) (fun j => spent (F := F) (recvCell c d j))) := by
  subst hn
  unfold Lane
  rw [Nat.zero_add, Finset.range_eq_Ico]
  generalize 2 * planes d = n
  iintro ⟨-, -, -, H4, H5⟩
  isplitl [H4]
  · iexact H4
  · iexact H5

include hS in
theorem drain_lane (c : Dev nD) (d : Bool) (n : ℕ) (hn : n = 2 * planes d) (h : 0 + n ≤ 2 * planes d) (k : PR F) (Q : PUnit → sProp 𝕄) :
    iprop(invs P S K ∗ Lane c d n n ∗ owing c 0 ∗ slotAny (F := F) c d (n - 2) ∗ slotAny (F := F) c d (n - 2 + 1)
        ∗ ((pBlk c (pShare d 0) (row d 0 c) 0 (by decide) (P c) ∗ pBlk c (pShare d 1) (row d 0 c) 1 (by decide) (P c)) -∗ pAt c (laneShare d) (P c)))
      ⊢ iprop(((laneDone c d ∗ commAny c d ∗ pAt c (laneShare d) (P c) ∗ owing c 0) -∗ runs c k Q)
        -∗ runs c (drain (ctxOf c) d k n 0 h) Q) := by
  subst hn
  have hm : 2 * planes d = (2 * planes d - 2) + 2 := by cases d <;> rfl
  iintro ⟨#HI, HL, HO, Hs, Hs', Hw⟩ Hk
  ihave HL := (lane_end c d _ rfl) $$ HL
  icases HL with ⟨Hst, Hsp⟩
  iapply (drain_all P hS K c d k Q (2 * planes d) 0 h) $$ [Hst HO]
  · isplitr; · iexact HI
    isplitl [Hst]
    · iexact Hst
    · iexact HO
  iintro ⟨Hd, Hp, HO⟩
  ihave Hp := (sources P c d) $$ Hp
  icases Hp with ⟨H0, H1, Hss⟩
  iapply Hk
  isplitl [Hd Hsp]
  · unfold laneDone
    rw [Nat.zero_add, ← Finset.range_eq_Ico]
    isplitl [Hd]
    · iexact Hd
    · iexact Hsp
  isplitl [Hs Hs' Hss]
  · iapply (comm_back c d _ hm)
    isplitl [Hss]; · iexact Hss
    isplitl [Hs]
    · iexact Hs
    · iexact Hs'
  isplitl [Hw H0 H1]
  · iapply Hw
    isplitl [H0]
    · iexact H0
    · iexact H1
  iexact HO

/-! ## The exchange -/

theorem owing_comm (c : Dev nD) (A B : CellTallies nD τ sig Unit) : (owing c (A + B) : sProp 𝕄) ⊢ owing c (B + A) := by rw [add_comm]

/-- The result of device `c`, over what its buffer held. -/
def outOf (c : Dev nD) (f : S64x2048.Idx → Elt F .f32) : S64x2048.Idx → Elt F .f32 :=
  outPut 1 (by decide) (outHalf P c 1 (by decide)) (outPut 0 (by decide) (outHalf P c 0 (by decide)) f)

/-- What the exchange ends with. -/
def Done (T : S32.Idx → BitVec 32) (c : Dev nD) (f : S64x2048.Idx → Elt F .f32) : sProp 𝕄 :=
  iprop(laneDone c false ∗ laneDone c true ∗ commAny c false ∗ commAny c true ∗ pAt c fullShare (P c) ∗ owing c 0 ∗ tblAt c T
    ∗ outAt c (outOf P c f))

variable (T : S32.Idx → BitVec 32) (hT : IsCycle T) (c : Dev nD)

include hS in
theorem firsts_run (k : PR F) (Q : PUnit → sProp 𝕄) :
    iprop(invs P S K ∗ Lane c false 0 0 ∗ Lane c true 0 0 ∗ owing c (laneOwes c false 0 + laneOwes c true 0)
        ∗ pBlk c (pShare false 0) (row false 0 c) 0 (by decide) (P c) ∗ pBlk c (pShare false 1) (row false 0 c) 1 (by decide) (P c)
        ∗ pBlk c (pShare true 0) (row true 0 c) 0 (by decide) (P c) ∗ pBlk c (pShare true 1) (row true 0 c) 1 (by decide) (P c))
      ⊢ iprop(((Lane c false 0 2 ∗ Lane c true 0 2 ∗ owing c (laneOwes c false 2 + laneOwes c true 2)) -∗ runs c k Q)
        -∗ runs c (
          send false 0 (by decide) ((ctxOf c).nb false) (pSlice ((ctxOf c).v false) 0 ((ctxOf c).h0 false)) (pSlice_exact _ _ _ ((ctxOf c).w0 false)) <|
          send true 0 (by decide) ((ctxOf c).nb true) (pSlice ((ctxOf c).v true) 0 ((ctxOf c).h0 true)) (pSlice_exact _ _ _ ((ctxOf c).w0 true)) <|
          send false 1 (by decide) ((ctxOf c).nb false) (pSlice ((ctxOf c).v false) 1 ((ctxOf c).h1 false)) (pSlice_exact _ _ _ ((ctxOf c).w1 false)) <|
          send true 1 (by decide) ((ctxOf c).nb true) (pSlice ((ctxOf c).v true) 1 ((ctxOf c).h1 true)) (pSlice_exact _ _ _ ((ctxOf c).w1 true)) k) Q) := by
  iintro ⟨#HI, HL, HM, HO, B0, B1, C0, C1⟩ Hk
  iapply (first_run P hS K c false 0 (by decide) (by decide) (laneOwes c true 0) _ _ Q) $$ [B0 HL HO]
  · isplitr; · iexact HI
    isplitl [B0]; · iexact B0
    isplitl [HL]
    · iexact HL
    · iexact HO
  iintro ⟨HL, HO⟩
  ihave HO := (owing_comm c _ _) $$ HO
  iapply (first_run P hS K c true 0 (by decide) (by decide) (laneOwes c false (0 + 1)) _ _ Q) $$ [C0 HM HO]
  · isplitr; · iexact HI
    isplitl [C0]; · iexact C0
    isplitl [HM]
    · iexact HM
    · iexact HO
  iintro ⟨HM, HO⟩
  ihave HO := (owing_comm c _ _) $$ HO
  iapply (first_run P hS K c false 1 (by decide) (by decide) (laneOwes c true (0 + 1)) _ _ Q) $$ [B1 HL HO]
  · isplitr; · iexact HI
    isplitl [B1]; · iexact B1
    isplitl [HL]
    · iexact HL
    · iexact HO
  iintro ⟨HL, HO⟩
  ihave HO := (owing_comm c _ _) $$ HO
  iapply (first_run P hS K c true 1 (by decide) (by decide) (laneOwes c false (1 + 1)) _ _ Q) $$ [C1 HM HO]
  · isplitr; · iexact HI
    isplitl [C1]; · iexact C1
    isplitl [HM]
    · iexact HM
    · iexact HO
  iintro ⟨HM, HO⟩
  ihave HO := (owing_comm c _ _) $$ HO
  iapply Hk
  isplitl [HL]; · iexact HL
  isplitl [HM]
  · iexact HM
  · iexact HO

/-- What the steps do not touch. -/
def rest (f : S64x2048.Idx → Elt F .f32) : sProp 𝕄 :=
  iprop(outAt c f
    ∗ ((pBlk c (pShare false 0) (row false 0 c) 0 (by decide) (P c) ∗ pBlk c (pShare false 1) (row false 0 c) 1 (by decide) (P c)) -∗ pAt c (laneShare false) (P c))
    ∗ ((pBlk c (pShare true 0) (row true 0 c) 0 (by decide) (P c) ∗ pBlk c (pShare true 1) (row true 0 c) 1 (by decide) (P c)) -∗ pAt c (laneShare true) (P c)))

include hS in
/-- After the last step: the result and the drains. -/
theorem ends_run (f : S64x2048.Idx → Elt F .f32) (hv : ∀ b, b < 2 → PInb (Scalar.remsi (Scalar.divsi (Dev.word c) 1#32) 32#32) b)
    (hR : 0 + 32 ≤ 2 * planes false) (hL : 0 + 30 ≤ 2 * planes true) :
    St P (S := S) K T (rest P c f) c 30 32 28 30
      ⊢ runs c (finish (ctxOf c) 0 (by decide) _ (hv 0 (by decide)) <| finish (ctxOf c) 1 (by decide) _ (hv 1 (by decide)) <|
          drain (ctxOf c) false (n := 32) (j := 0) (h := hR) <| drain (ctxOf c) true (n := 30) (j := 0) (h := hL) (.ret ⟨⟩))
        (fun _ => Done P T c f) := by
  unfold St rest
  rw [laneOwes_all c false 32 (by decide), laneOwes_all c true 30 (by decide), add_zero]
  iintro ⟨#HI, #Hl, HL, HM, HO, HP, HT, Hf, K0, K1⟩
  iapply (finish_run P hS K c 0 _ _ (own_word c) (hv 0 (by decide)) f 32 30 _ _) $$ [HL HM HO HP Hf]
  · isplitr; · iexact HI
    isplitr; · iexact Hl
    isplitl [HL]; · iexact HL
    isplitl [HM]; · iexact HM
    isplitl [HO]; · iexact HO
    isplitl [HP]
    · iexact HP
    · iexact Hf
  iintro ⟨HL, HM, HO, HP, Hf, Ha, Hb⟩
  iapply (finish_run P hS K c 1 _ _ (own_word c) (hv 1 (by decide)) _ 32 30 _ _) $$ [HL HM HO HP Hf]
  · isplitr; · iexact HI
    isplitr; · iexact Hl
    isplitl [HL]; · iexact HL
    isplitl [HM]; · iexact HM
    isplitl [HO]; · iexact HO
    isplitl [HP]
    · iexact HP
    · iexact Hf
  iintro ⟨HL, HM, HO, HP, Hf, Ha', Hb'⟩
  iapply (drain_lane P hS K c false 32 rfl hR _ _) $$ [HL HO Ha Ha' K0]
  · isplitr; · iexact HI
    isplitl [HL]; · iexact HL
    isplitl [HO]; · iexact HO
    isplitl [Ha]; · iexact Ha
    isplitl [Ha']; · iexact Ha'
    iexact K0
  iintro ⟨HD, HC, P0, HO⟩
  iapply (drain_lane P hS K c true 30 rfl hL _ _) $$ [HM HO Hb Hb' K1]
  · isplitr; · iexact HI
    isplitl [HM]; · iexact HM
    isplitl [HO]; · iexact HO
    isplitl [Hb]; · iexact Hb
    isplitl [Hb']; · iexact Hb'
    iexact K1
  iintro ⟨HD', HC', P1, HO⟩
  unfold runs
  rw [wp_ret]
  imodintro
  unfold Done
  isplitl [HD]; · iexact HD
  isplitl [HD']; · iexact HD'
  isplitl [HC]; · iexact HC
  isplitl [HC']; · iexact HC'
  isplitl [HP P0 P1]
  · iapply (shares_join c (P c))
    isplitl [HP]; · iexact HP
    isplitl [P0]
    · iexact P0
    · iexact P1
  isplitl [HO]; · iexact HO
  isplitl [HT]
  · iexact HT
  · iexact Hf

include hS hT in
/-- The exchange. -/
theorem talk_run (f : S64x2048.Idx → Elt F .f32) :
    iprop(invs P S K ∗ levAts L lv ∗ Lane c false 0 0 ∗ Lane c true 0 0 ∗ owing c (laneOwes c false 0 + laneOwes c true 0)
        ∗ pAt c fullShare (P c) ∗ tblAt c T ∗ outAt c f)
      ⊢ runs c (talk (ctxOf c) c) (fun _ => Done P T c f) := by
  unfold talk
  iintro ⟨#HI, #Hl, HL, HM, HO, HP, HT, Hf⟩
  ihave HP := (shares_split c (P c)) $$ HP
  icases HP with ⟨HP, HP0, HP1⟩
  ihave HP0 := (blocks_borrow P c false) $$ HP0
  icases HP0 with ⟨B0, B1, K0⟩
  ihave HP1 := (blocks_borrow P c true) $$ HP1
  icases HP1 with ⟨C0, C1, K1⟩
  iapply (firsts_run P hS K c _ _) $$ [HL HM HO B0 B1 C0 C1]
  · isplitr; · iexact HI
    isplitl [HL]; · iexact HL
    isplitl [HM]; · iexact HM
    isplitl [HO]; · iexact HO
    isplitl [B0]; · iexact B0
    isplitl [B1]; · iexact B1
    isplitl [C0]
    · iexact C0
    · iexact C1
  iintro ⟨HL, HM, HO⟩
  have hL := lastStep_run P hS K T (rest P c f) hT c _ (fun _ => Done P T c f) (ends_run P hS K T c f (ownInb c) (by decide) (by decide))
  have hs := steps_run P hS K T (rest P c f) hT c _ (fun _ => Done P T c f) 14 0 (by decide) hL
  iapply hs
  unfold St rest
  isplitr; · iexact HI
  isplitr; · iexact Hl
  isplitl [HL]; · iexact HL
  isplitl [HM]; · iexact HM
  isplitl [HO]; · iexact HO
  isplitl [HP]; · iexact HP
  isplitl [HT]; · iexact HT
  isplitl [Hf]; · iexact Hf
  isplitl [K0]
  · iexact K0
  · iexact K1

end Cert.RingProof
-- ==== Proof.Product.lean ====
/-
# The local product and the result as values

The four row chunks leave the local product whatever the buffer held before, and the two column halves leave the result whatever
its buffer held before.
-/
module

public import proofs.«01_k».proof.Proof.Exchange

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunks -/

abbrev aAt (c : Dev nD) (A : S2048x1024.Idx → Elt F .bf16) : sProp 𝕄 := aM.view.loc (c : Thread nD τ) ↦{fullShare} A
abbrev bAt (c : Dev nD) (B : S1024x2048.Idx → Elt F .bf16) : sProp 𝕄 := bM.view.loc (c : Thread nD τ) ↦{fullShare} B

/-- What chunk `q` stores. -/
def chunkOf (A : S2048x1024.Idx → Elt F .bf16) (B : S1024x2048.Idx → Elt F .bf16) (q : ℕ) (h : q < 4) : FVec F S512x2048 .bf16 :=
  chunkPay ((aM.access (chunkRectA h)).read (Elt F) A) ((bM.access wholeRectB).read (Elt F) B)

theorem row_chunk (i : S2048x2048.Idx) : (i 0).val / 512 < 4 := by
  have h : (i 0).val < 2048 := (i 0).isLt
  omega
/-- An index of the product, within its chunk. -/
def inChunk (i : S2048x2048.Idx) : S512x2048.Idx :=
  fun | ⟨0, _⟩ => ⟨(i 0).val % 512, Nat.mod_lt _ (by decide)⟩ | ⟨1, _⟩ => i 1
/-- The local product, chunk by chunk. -/
def prodOf (A : S2048x1024.Idx → Elt F .bf16) (B : S1024x2048.Idx → Elt F .bf16) : Prod F :=
  fun i => chunkOf A B ((i 0).val / 512) (row_chunk i) (inChunk i)

theorem store_chunk (f : Prod F) (w : FVec F S512x2048 .bf16) (q : ℕ) (h : q < 4) :
    (pM.access (chunkRectP h)).write (Elt F) f w Finset.univ = updateSlice f w ![512 * q, 0] ⟨rfl, chunkInbP h⟩ :=
  View.write_whole_slice_unit cc0_scratch0 ![512 * q, 0] S512x2048.size (chunkInbP h) f w

theorem chunk_run (c : Dev nD) (A : S2048x1024.Idx → Elt F .bf16) (B : S1024x2048.Idx → Elt F .bf16) (f : Prod F) (q : ℕ) (h : q < 4)
    (hf : ∀ i : S2048x2048.Idx, (i 0).val < 512 * q → f i = prodOf A B i) (k : PR F) (Q : PUnit → sProp 𝕄) :
    iprop(aAt c A ∗ bAt c B ∗ pAt c fullShare f)
      ⊢ iprop((∀ g : Prod F, ⌜∀ i : S2048x2048.Idx, (i 0).val < 512 * (q + 1) → g i = prodOf A B i⌝ -∗ (aAt c A ∗ bAt c B ∗ pAt c fullShare g) -∗ runs c k Q)
        -∗ runs c (chunk q h k) Q) := by
  unfold chunk
  iintro ⟨HA, HB, HP⟩ Hk
  iapply (wp_load_rect (m := aM) (r := chunkRectA h) (S := (Finset.univ : Finset (Idx (aM.view.loc (c : Thread nD τ))))) (f := A) 𝒱₀ (c : Thread nD τ) none Set.univ
    (fun _ _ => Finset.mem_univ _)) $$ HA
  iintro HA
  iapply (wp_load_rect (m := bM) (r := wholeRectB) (S := (Finset.univ : Finset (Idx (bM.view.loc (c : Thread nD τ))))) (f := B) 𝒱₀ (c : Thread nD τ) none Set.univ
    (fun _ _ => Finset.mem_univ _)) $$ HB
  iintro HB
  iapply (load_p c fullShare f (chunkRectP h) _ _ _) $$ HP
  iintro HP
  iapply (wp_store (m := pM) (r := chunkRectP h) (S := (Finset.univ : Finset (Idx (pLoc c)))) (f := f) 𝒱₀ (c : Thread nD τ) none Set.univ
    (fun _ _ => Finset.mem_univ _)) $$ HP
  iintro HP
  ispecialize Hk $$ %((pM.access (chunkRectP h)).write (Elt F) f (chunkOf A B q h) Finset.univ)
  iapply Hk $$ [] [HA HB HP]
  · ipureintro
    intro i hi
    rw [store_chunk]
    unfold updateSlice
    have h1 : (i 1).val < 2048 := (i 1).isLt
    by_cases hq : (i 0).val < 512 * q
    · rw [dif_neg, hf i hq]
      intro hin
      have := (hin 0).1
      have e : (![512 * q, 0] : Fin 2 → ℕ) 0 = 512 * q := rfl
      erw [e] at this
      omega
    · have hin : ∀ a, (![512 * q, 0] : Fin 2 → ℕ) a ≤ (i a).val ∧ (i a).val < (![512 * q, 0] : Fin 2 → ℕ) a + S512x2048.size a := by
        intro a
        fin_cases a
        · show 512 * q ≤ (i 0).val ∧ (i 0).val < 512 * q + 512; omega
        · show 0 ≤ (i 1).val ∧ (i 1).val < 0 + 2048; omega
      refine (dif_pos hin).trans ?_
      unfold prodOf
      have hd : (i 0).val / 512 = q := by omega
      subst hd
      refine congrArg _ (funext fun a => Fin.ext ?_)
      fin_cases a
      · show (i 0).val - 512 * ((i 0).val / 512) = (i 0).val % 512; omega
      · show (i 1).val - 0 = (i 1).val; omega
  · isplitl [HA]; · iexact HA
    isplitl [HB]
    · iexact HB
    · iexact HP

/-- The four of them. -/
theorem chunks_run (c : Dev nD) (A : S2048x1024.Idx → Elt F .bf16) (B : S1024x2048.Idx → Elt F .bf16) (f : Prod F) (k : PR F) (Q : PUnit → sProp 𝕄) :
    iprop(aAt c A ∗ bAt c B ∗ pAt c fullShare f)
      ⊢ iprop(((aAt c A ∗ bAt c B ∗ pAt c fullShare (prodOf A B)) -∗ runs c k Q)
        -∗ runs c (chunk 0 (by decide) <| chunk 1 (by decide) <| chunk 2 (by decide) <| chunk 3 (by decide) k) Q) := by
  iintro H Hk
  iapply (chunk_run c A B f 0 _ (fun i hi => absurd hi (Nat.not_lt_zero _)) _ Q) $$ H
  iintro %f1 %h1 H
  iapply (chunk_run c A B f1 1 _ h1 _ Q) $$ H
  iintro %f2 %h2 H
  iapply (chunk_run c A B f2 2 _ h2 _ Q) $$ H
  iintro %f3 %h3 H
  iapply (chunk_run c A B f3 3 _ h3 _ Q) $$ H
  iintro %f4 %h4 H
  have e : f4 = prodOf A B := funext fun i => h4 i (i 0).isLt
  subst e
  iapply Hk
  iexact H

/-! ## The result -/

variable (P : Dev nD → Prod F)

theorem col_half (i : S64x2048.Idx) : (i 1).val / 1024 < 2 := by
  have h : (i 1).val < 2048 := (i 1).isLt
  omega
/-- An index of the result, within its half. -/
def inHalf (i : S64x2048.Idx) : S64x1024.Idx :=
  fun | ⟨0, _⟩ => i 0 | ⟨1, _⟩ => ⟨(i 1).val % 1024, Nat.mod_lt _ (by decide)⟩
/-- The result, half by half. -/
def outVal (c : Dev nD) : S64x2048.Idx → Elt F .f32 := fun i => outHalf P c ((i 1).val / 1024) (col_half i) (inHalf i)

theorem outPut_eq (b : ℕ) (hb : b < 2) (w : FVec F S64x1024 .f32) (f : S64x2048.Idx → Elt F .f32) :
    outPut b hb w f = updateSlice f w ![0, 1024 * b] ⟨rfl, outInb hb⟩ :=
  View.write_whole_slice_unit cc0_stg4_0 ![0, 1024 * b] S64x1024.size (outInb hb) f w

theorem outPut_at (b : ℕ) (hb : b < 2) (w : FVec F S64x1024 .f32) (f : S64x2048.Idx → Elt F .f32) (i : S64x2048.Idx) :
    outPut b hb w f i = if (i 1).val / 1024 = b then w (inHalf i) else f i := by
  rw [outPut_eq]
  unfold updateSlice
  have h0 : (i 0).val < 64 := (i 0).isLt
  have h1 : (i 1).val < 2048 := (i 1).isLt
  by_cases h : (i 1).val / 1024 = b
  · have hin : ∀ a, (![0, 1024 * b] : Fin 2 → ℕ) a ≤ (i a).val ∧ (i a).val < (![0, 1024 * b] : Fin 2 → ℕ) a + S64x1024.size a := by
      intro a
      fin_cases a
      · show 0 ≤ (i 0).val ∧ (i 0).val < 0 + 64; omega
      · show 1024 * b ≤ (i 1).val ∧ (i 1).val < 1024 * b + 1024; omega
    rw [if_pos h]
    refine (dif_pos hin).trans ?_
    refine congrArg _ (funext fun a => Fin.ext ?_)
    fin_cases a
    · show (i 0).val - 0 = (i 0).val; omega
    · show (i 1).val - 1024 * b = (i 1).val % 1024; omega
  · rw [dif_neg, if_neg h]
    intro hin
    have := hin 1
    have e : (![0, 1024 * b] : Fin 2 → ℕ) 1 = 1024 * b := rfl
    have e' : S64x1024.size 1 = 1024 := rfl
    erw [e, e'] at this
    omega

theorem outOf_eq (c : Dev nD) (f : S64x2048.Idx → Elt F .f32) : outOf P c f = outVal P c := by
  funext i
  unfold outOf outVal
  have h := col_half i
  rw [outPut_at]
  split
  · next e => simp only [e]
  · next e =>
    rw [outPut_at, if_pos (by omega)]
    have e0 : (i 1).val / 1024 = 0 := by omega
    simp only [e0]

end Cert.RingProof
-- ==== Proof.Body.lean ====
/-
# The whole body

From the state a device enters the kernel in, with its transfer cells just opened, to the result in its buffer and every counter
back in hand at zero.
-/
module

public import proofs.«01_k».proof.Proof.Product
public import Idealize.ShloMosaic.Lib.Rounds.Family

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Prod F) {S : Finset (GSem nD τ sig)} (hS : HasCells S) (K : GSem nD τ sig → ℕ)

/-! ## The handshake -/

/-- What a device holds of a lane once its cells are open. -/
def laneStart (c : Dev nD) (d : Bool) : sProp 𝕄 :=
  iprop(bigSep (Finset.Ico 0 (2 * planes d)) (fun j => recvTick (F := F) c d j)
    ∗ bigSep (Finset.Ico 0 (2 * planes d)) (fun j => sendTick (F := F) c d j)
    ∗ bigSep (Finset.range (2 * planes d)) (fun j => reached ER (recvCell c d j) 0))
/-- What it holds of the handshake. -/
def barStart (c : Dev nD) : sProp 𝕄 :=
  iprop(atPos ER (barCell c) 0 ∅ 0 ∗ cred (tallyAt (barCell c) () 2)
    ∗ dutyTok ER (barCell (nb true c)) 0 false ∗ reached ER (barCell (nb true c)) 0
    ∗ dutyTok ER (barCell (nb false c)) 0 true ∗ reached ER (barCell (nb false c)) 0)

theorem lane_intro (c : Dev nD) (d : Bool) :
    iprop(bigSep (Finset.Ico 0 (2 * planes d)) (fun j => recvTick (F := F) c d j)
        ∗ bigSep (Finset.Ico 0 (2 * planes d)) (fun j => sendTick (F := F) c d j) ∗ barPay (F := F) c d)
      ⊢ (Lane c d 0 0 : sProp 𝕄) := by
  unfold Lane barPay
  rw [← Finset.range_eq_Ico, Finset.Ico_self, bigSep_empty, bigSep_empty]
  have e : bigSep (Finset.range (2 * planes d)) (fun j => landTick (F := F) c d j)
      = iprop(bigSep (Finset.range (2 * planes d)) (fun j => slotAny (F := F) (nb d c) d j)
        ∗ bigSep (Finset.range (2 * planes d)) (fun j => reached ER (recvCell (nb d c) d j) 0)) := bigSep_sep' _ _ _
  rw [e]
  generalize bigSep (Finset.range (2 * planes d)) (fun j => recvTick (F := F) c d j) = X1
  generalize bigSep (Finset.range (2 * planes d)) (fun j => sendTick (F := F) c d j) = X2
  generalize bigSep (Finset.range (2 * planes d)) (fun j => slotAny (F := F) (nb d c) d j) = X3
  generalize bigSep (Finset.range (2 * planes d)) (fun j => reached ER (recvCell (nb d c) d j) 0) = X4
  iintro ⟨H1, H2, H3, H4⟩
  isplitl [H1]; · iexact H1
  isplitl [H2]; · iexact H2
  isplitl [H3 H4]
  · isplitl [H3]
    · iexact H3
    · iexact H4
  isplitr; · iempintro
  iempintro

/-- What a device hands its neighbour on lane `d`'s other side. -/
theorem pay_intro (c : Dev nD) (d : Bool) :
    iprop(commAny c d ∗ bigSep (Finset.range (2 * planes d)) (fun j => reached ER (recvCell c d j) 0))
      ⊢ (barPay (nb (!d) c) d : sProp 𝕄) := by
  unfold barPay
  rw [nb_nb d c]
  exact sep_mono (comm_split c d) .rfl

include hS in
theorem signal_run (c : Dev nD) (d : Bool) (O : CellTallies nD τ sig Unit) (k : PUnit → PR F) (Q : PUnit → sProp 𝕄) :
    iprop(invs P S K ∗ dutyTok ER (barCell (nb (!d) c)) 0 d ∗ reached ER (barCell (nb (!d) c)) 0 ∗ commAny (F := F) c d
        ∗ bigSep (Finset.range (2 * planes d)) (fun j => reached ER (recvCell c d j) 0)
        ∗ owing c (O + tallyAt (barCell (nb (!d) c)) () 1))
      ⊢ iprop((owing c O -∗ runs c (k ⟨⟩) Q) -∗ runs c (.op (.semSignal (Dev.tc (nb (!d) c)) barS (1#32 : BitVec 32).toInt) k) Q) := by
  rw [show (1#32 : BitVec 32).toInt = ((1 : ℕ) : ℤ) from by decide]
  unfold owing
  iintro ⟨#HI, Ht, Hr, Hc, HR, ⟨%W, HO⟩⟩ Hk
  iapply (Rounds.wp_signal 𝒱₀ ER (ringRd P) (c : Thread nD τ) none (dst := (nb (!d) c : Thread nD τ)) (sem := barS) (r := 0) (d := d)
      (κ := K (barCell (nb (!d) c))) (by rw [duties_bar]; exact Finset.mem_univ _) (amount_bar P (nb (!d) c) d) () O rfl) $$ [HO Ht Hr Hc HR]
  · isplitr; · iapply (invs_elim P S K _ (hS.bar (nb (!d) c))); iexact HI
    isplitl [HO]; · iexact HO
    isplitl [Ht]; · iexact Ht
    isplitl [Hc HR]
    · rw [payload_bar]
      iapply (pay_intro c d)
      isplitl [Hc]
      · iexact Hc
      · iexact HR
    · iexact Hr
  iintro HO
  iapply Hk
  iexists W
  iexact HO

include hS in
theorem barrier_run (c : Dev nD) (O : CellTallies nD τ sig Unit) (hO : Above 1 O) (k : PUnit → PR F) (Q : PUnit → sProp 𝕄) :
    iprop(invs P S K ∗ levAts L lv ∗ atPos ER (barCell c) 0 ∅ 0 ∗ cred (tallyAt (barCell c) () 2) ∗ owing c O)
      ⊢ iprop(((owing c O ∗ spent (barCell c) ∗ barPay c false ∗ barPay c true) -∗ runs c (k ⟨⟩) Q)
        -∗ runs c (.op (.semWait barS (2#32 : BitVec 32).toInt) k) Q) := by
  rw [show (2#32 : BitVec 32).toInt = ((2 : ℕ) : ℤ) from by decide, ← rest_bar P c]
  unfold owing spent
  iintro ⟨#HI, #Hl, Hat, Hc, ⟨%W, HO⟩⟩ Hk
  iapply (Rounds.wp_wait_rest_token 𝒱₀ ER (ringRd P) (c : Thread nD τ) none (κ := K (barCell c))
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iapply (invs_elim P S K _ (hS.bar c)); iexact HI
    isplitl [Hc]; · iexact Hc
    isplitl [HO]; · iexact HO
    isplitr; · iapply (mayWait c (.reg barS) O 1 (by rw [lv_bar]) hO); iexact Hl
    iexact Hat
  iintro ⟨HO, Hat, -, HR⟩
  iapply Hk
  isplitl [HO]; · iexists _; iexact HO
  isplitl [Hat]; · iexact Hat
  iexact HR

include hS in
/-- The handshake. -/
theorem hand_run (c : Dev nD) (x y : Dev nD) (hx : x = nb true c) (hy : y = nb false c) (k : PR F) (Q : PUnit → sProp 𝕄) :
    iprop(invs P S K ∗ levAts L lv ∗ laneStart (F := F) c false ∗ laneStart (F := F) c true ∗ barStart (F := F) c
        ∗ commAny (F := F) c false ∗ commAny (F := F) c true ∗ owing c (O₀ c))
      ⊢ iprop(((Lane c false 0 0 ∗ Lane c true 0 0 ∗ spent (barCell c) ∗ owing c (laneOwes c false 0 + laneOwes c true 0)) -∗ runs c k Q)
        -∗ runs c (.op (.semSignal (Dev.tc x) barS (1#32 : BitVec 32).toInt) fun _ =>
            .op (.semSignal (Dev.tc y) barS (1#32 : BitVec 32).toInt) fun _ =>
            .op (.semWait barS (2#32 : BitVec 32).toInt) fun _ => k) Q) := by
  subst hx hy
  unfold laneStart barStart O₀
  iintro ⟨#HI, #Hl, ⟨HR0, HS0, Hr0⟩, ⟨HR1, HS1, Hr1⟩, ⟨Hat, Hc, Ht0, Hb0, Ht1, Hb1⟩, HC0, HC1, HO⟩ Hk
  iapply (signal_run P hS K c false _ _ Q) $$ [Ht0 Hb0 HC0 Hr0 HO]
  · isplitr; · iexact HI
    isplitl [Ht0]; · iexact Ht0
    isplitl [Hb0]; · iexact Hb0
    isplitl [HC0]; · iexact HC0
    isplitl [Hr0]
    · iexact Hr0
    · iexact HO
  iintro HO
  iapply (signal_run P hS K c true _ _ Q) $$ [Ht1 Hb1 HC1 Hr1 HO]
  · isplitr; · iexact HI
    isplitl [Ht1]; · iexact Ht1
    isplitl [Hb1]; · iexact Hb1
    isplitl [HC1]; · iexact HC1
    isplitl [Hr1]
    · iexact Hr1
    · iexact HO
  iintro HO
  iapply (barrier_run P hS K c _ (above_add (above_lane c false 0 (by decide)) (above_lane c true 0 (by decide))) _ Q) $$ [Hat Hc HO]
  · isplitr; · iexact HI
    isplitr; · iexact Hl
    isplitl [Hat]; · iexact Hat
    isplitl [Hc]
    · iexact Hc
    · iexact HO
  iintro ⟨HO, Hat, HP0, HP1⟩
  iapply Hk
  isplitl [HR0 HS0 HP0]
  · iapply (lane_intro c false)
    isplitl [HR0]; · iexact HR0
    isplitl [HS0]
    · iexact HS0
    · iexact HP0
  isplitl [HR1 HS1 HP1]
  · iapply (lane_intro c true)
    isplitl [HR1]; · iexact HR1
    isplitl [HS1]
    · iexact HS1
    · iexact HP1
  isplitl [Hat]
  · iexact Hat
  · iexact HO

/-! ## The words a device reads -/

/-- The three words the device is given. -/
abbrev metaAt (c : Dev nD) (M : S3.Idx → BitVec 32) : sProp 𝕄 := metaM.view.loc (c : Thread nD τ) ↦{fullShare} M
/-- They are its position and its two neighbours. -/
def IsMeta (c : Dev nD) (M : S3.Idx → BitVec 32) : Prop :=
  ∀ i : S3.Idx, M i = if (i 0).val = 0 then posW c else if (i 0).val = 1 then wd (nb false c) else wd (nb true c)

theorem readMeta_run (c : Dev nD) (M : S3.Idx → BitVec 32) (i : ℕ) (h : ∀ a, (![i] : Fin 1 → ℕ) a + S1.size a ≤ S3.size a) (w : BitVec 32)
    (hw : ∀ x : S3.Idx, (x 0).val = i → M x = w) (k : BitVec 32 → PR F) (Q : PUnit → sProp 𝕄) :
    (metaAt c M : sProp 𝕄) ⊢ iprop((metaAt c M -∗ runs c (k w) Q) -∗ runs c (readMeta i h k) Q) := by
  have h' := wp_smemLoadElt (m := metaM) (r := Rect.unit (s := S3) ![i] S1.size h) (x := oneIdx) (hw := View.loads_smem_one rfl numel1_S1)
    (k := k) (S := (Finset.univ : Finset (Idx (metaM.view.loc (c : Thread nD τ))))) (q := fullShare) (f := M) (Q := Q) (defs := defs₀ (F := F)) (Γ := .empty) 𝒱₀ (c : Thread nD τ) none
    Set.univ (fun _ _ => Finset.mem_univ _)
  have e : (metaM.access (Rect.unit (s := S3) ![i] S1.size h)).read (Elt F) M oneIdx = w := hw ((Rect.unit (s := S3) ![i] S1.size h).idx oneIdx) rfl
  rw [e] at h'
  exact h'

/-! ## The end -/

/-- The counters of a lane's cells, back at zero. -/
def laneZero (c : Dev nD) (d : Bool) : sProp 𝕄 :=
  iprop(bigSep (Finset.range (2 * planes d)) (fun j => semVal (sendCell c d j) 0) ∗ bigSep (Finset.range (2 * planes d)) (fun j => semVal (recvCell c d j) 0))

theorem cells_shut (A : Finset ℕ) (g : ℕ → GSem nD τ sig) (hg : ∀ j ∈ A, g j ∈ S) :
    iprop(invs P S K ∗ bigSep A (fun j => spent (F := F) (g j))) ⊢ (|={Set.univ}=> bigSep A (fun j => semVal (g j) 0) : sProp 𝕄) := by
  refine .trans ?_ (Rounds.cells_close (E := ER) (Rd := ringRd P) A g (fun j => K (g j)) (fun _ _ => Set.mem_univ _) (fun _ _ => id) (fun _ => 1)
    (fun j _ => duties_later P (g j)))
  rw [bigSep_sep']
  refine sep_mono (bigSep_intro_persistent fun j hj => ?_) .rfl
  exact invs_elim P S K _ (hg j hj)

include hS in
theorem lane_shut (c : Dev nD) (d : Bool) : iprop(invs P S K ∗ laneDone (F := F) c d) ⊢ (|={Set.univ}=> laneZero c d : sProp 𝕄) := by
  unfold laneDone laneZero
  have h1 := cells_shut P K (S := S) (Finset.range (2 * planes d)) (sendCell c d) (fun j hj => hS.send c d j (Finset.mem_range.mp hj))
  have h2 := cells_shut P K (S := S) (Finset.range (2 * planes d)) (recvCell c d) (fun j hj => hS.recv c d j (Finset.mem_range.mp hj))
  iintro ⟨#HI, H1, H2⟩
  imod h1 $$ [H1] with H1
  · isplitr; · iexact HI
    iexact H1
  imod h2 $$ [H2] with H2
  · isplitr; · iexact HI
    iexact H2
  imodintro
  isplitl [H1]
  · iexact H1
  · iexact H2

include hS in
theorem bar_shut (c : Dev nD) : iprop(invs P S K ∗ spent (F := F) (barCell c)) ⊢ (|={Set.univ}=> semVal (barCell c) 0 : sProp 𝕄) :=
  (sep_mono (invs_elim P S K _ (hS.bar c)) .rfl).trans (Rounds.cell_close ER (ringRd P) (Set.mem_univ _) id (duties_later P (barCell c)))

/-! ## The body -/

variable (T : S32.Idx → BitVec 32) (hT : IsCycle T) (c : Dev nD) (M : S3.Idx → BitVec 32) (hM : IsMeta c M)
  (A : S2048x1024.Idx → Elt F .bf16) (B : S1024x2048.Idx → Elt F .bf16) (hP : P c = prodOf A B)

/-- What the body starts from, -/
def Before (S : Finset (GSem nD τ sig)) (f : S64x2048.Idx → Elt F .f32) : sProp 𝕄 :=
  iprop(invs P S K ∗ levAts L lv ∗ laneStart (F := F) c false ∗ laneStart (F := F) c true ∗ barStart (F := F) c
    ∗ commAny (F := F) c false ∗ commAny (F := F) c true ∗ owing c (O₀ c) ∗ (∃ p : Prod F, pAt c fullShare p)
    ∗ aAt c A ∗ bAt c B ∗ tblAt c T ∗ metaAt c M ∗ outAt c f)
/-- and what it ends with. -/
def After : sProp 𝕄 :=
  iprop(laneZero (F := F) c false ∗ laneZero (F := F) c true ∗ semVal (barCell c) 0
    ∗ commAny (F := F) c false ∗ commAny (F := F) c true ∗ owing c 0 ∗ (∃ p : Prod F, pAt c fullShare p)
    ∗ aAt c A ∗ bAt c B ∗ tblAt c T ∗ metaAt c M ∗ outAt c (outVal P c))

theorem ctx_eq (c : Dev nD) (h3 h2 h1 h4 h5) :
    mkCtx (posW c) h3 (wd (nb false c)) h2 (wd (nb true c)) h1 (wd (row false 0 c)) h4 (wd (row true 0 c)) h5 = ctxOf c := by
  have e : mkCtx (posW c) h3 (wd (nb false c)) h2 (wd (nb true c)) h1 (wd (row false 0 c)) h4 (wd (row true 0 c)) h5
      = { ctxOf c with nb := fun | false => devOf (wd (nb false c)) (k0_dev2_lt _ h2) | true => devOf (wd (nb true c)) (k0_dev1_lt _ h1)
                       v := fun | false => wd (row false 0 c) | true => wd (row true 0 c)
                       h0 := fun | false => pInb _ (by decide) | true => pInb _ (by decide)
                       h1 := fun | false => pInb _ (by decide) | true => pInb _ (by decide)
                       w0 := fun | false => pWords _ 0 _ | true => pWords _ 0 _
                       w1 := fun | false => pWords _ 1 _ | true => pWords _ 1 _ } := rfl
  rw [e]
  unfold ctxOf
  have hn : (fun | false => devOf (wd (nb false c)) (k0_dev2_lt _ h2) | true => devOf (wd (nb true c)) (k0_dev1_lt _ h1) : Bool → Dev nD) = fun d => nb d c := by
    funext d; cases d <;> exact devOf_wd _ _
  have hv : (fun | false => wd (row false 0 c) | true => wd (row true 0 c) : Bool → BitVec 32) = fun d => wd (row d 0 c) := by
    funext d; cases d <;> rfl
  simp only [Ctx.mk.injEq]
  exact ⟨trivial, hn, hv⟩

theorem runs_close (c : Dev nD) (p : PR F) (Q Q' : PUnit → sProp 𝕄) (R : sProp 𝕄) (h : ∀ a, iprop(Q a ∗ R) ⊢ |={Set.univ}=> Q' a) :
    iprop(runs c p Q ∗ R) ⊢ runs c p Q' := by
  refine (wp_frame_r _ _ _).trans ((wp_mono _ _ _ h).trans ?_)
  exact wp_fupd _ _ _ _ _

include hS in
theorem done_end (f : S64x2048.Idx → Elt F .f32) :
    iprop(Done P T c f ∗ invs P S K ∗ spent (F := F) (barCell c) ∗ aAt c A ∗ bAt c B ∗ metaAt c M) ⊢ (|={Set.univ}=> After P T c M A B : sProp 𝕄) := by
  unfold Done After
  rw [outOf_eq P c f]
  iintro ⟨⟨HL0, HL1, HC0, HC1, HP, HO, HT, Hf⟩, #HI, HB, HA, HBm, HM⟩
  imod (lane_shut P hS K c false) $$ [HL0] with HL0
  · isplitr; · iexact HI
    iexact HL0
  imod (lane_shut P hS K c true) $$ [HL1] with HL1
  · isplitr; · iexact HI
    iexact HL1
  imod (bar_shut P hS K c) $$ [HB] with HB
  · isplitr; · iexact HI
    iexact HB
  imodintro
  isplitl [HL0]; · iexact HL0
  isplitl [HL1]; · iexact HL1
  isplitl [HB]; · iexact HB
  isplitl [HC0]; · iexact HC0
  isplitl [HC1]; · iexact HC1
  isplitl [HO]; · iexact HO
  isplitl [HP]; · iexists (P c); iexact HP
  isplitl [HA]; · iexact HA
  isplitl [HBm]; · iexact HBm
  isplitl [HT]; · iexact HT
  isplitl [HM]
  · iexact HM
  · iexact Hf

include hS hT in
/-- The exchange and what follows it. -/
theorem end_run (f : S64x2048.Idx → Elt F .f32) (x : Ctx) (hx : x = ctxOf c) :
    iprop((invs P S K ∗ levAts L lv ∗ Lane c false 0 0 ∗ Lane c true 0 0 ∗ owing c (laneOwes c false 0 + laneOwes c true 0)
        ∗ pAt c fullShare (P c) ∗ tblAt c T ∗ outAt c f) ∗ invs P S K ∗ spent (F := F) (barCell c) ∗ aAt c A ∗ bAt c B ∗ metaAt c M)
      ⊢ runs c (talk x c) (fun _ => After P T c M A B) := by
  subst hx
  refine (sep_mono (talk_run P hS K T hT c f) .rfl).trans ?_
  exact runs_close c _ _ _ _ fun _ => done_end P hS K T c M A B f

include hS hT hM hP in
theorem body_run (f : S64x2048.Idx → Elt F .f32) :
    Before P K T c M A B S f ⊢ runs c ringBody (fun _ => After P T c M A B) := by
  unfold Before ringBody
  rw [runs, wp_deviceId]
  iintro ⟨#HI, #Hl, HL0, HL1, HB, HC0, HC1, HO, ⟨%p, HP⟩, HA, HBm, HT, HM, Hf⟩
  iapply (readMeta_run c M 0 _ (posW c) (fun x hx => by rw [hM x, if_pos hx]) _ _) $$ HM
  iintro HM
  iapply (wp_assume 𝒱₀ (c : Thread nD τ) none Set.univ (chk3 c))
  iapply (readMeta_run c M 1 _ (wd (nb false c)) (fun x hx => by rw [hM x, if_neg (by omega), if_pos hx]) _ _) $$ HM
  iintro HM
  iapply (wp_assume 𝒱₀ (c : Thread nD τ) none Set.univ (chk2 (nb false c)))
  iapply (readMeta_run c M 2 _ (wd (nb true c)) (fun x hx => by rw [hM x, if_neg (by omega), if_neg (by omega)]) _ _) $$ HM
  iintro HM
  iapply (wp_assume 𝒱₀ (c : Thread nD τ) none Set.univ (chk1 (nb true c)))
  iapply (hand_run P hS K c _ _ (devOf_wd _ _) (devOf_wd _ _) _ _) $$ [HL0 HL1 HB HC0 HC1 HO]
  · isplitr; · iexact HI
    isplitr; · iexact Hl
    isplitl [HL0]; · iexact HL0
    isplitl [HL1]; · iexact HL1
    isplitl [HB]; · iexact HB
    isplitl [HC0]; · iexact HC0
    isplitl [HC1]
    · iexact HC1
    · iexact HO
  iintro ⟨HL0, HL1, HB, HO⟩
  iapply (chunks_run c A B p _ _) $$ [HA HBm HP]
  · isplitl [HA]; · iexact HA
    isplitl [HBm]
    · iexact HBm
    · iexact HP
  iintro ⟨HA, HBm, HP⟩
  iapply (readPos_run T hT c false 0 _ _ _ _) $$ HT
  iintro HT
  iapply (wp_assume 𝒱₀ (c : Thread nD τ) none Set.univ (chk4 (row false 0 c)))
  iapply (readPos_run T hT c true 0 _ _ _ _) $$ HT
  iintro HT
  iapply (wp_assume 𝒱₀ (c : Thread nD τ) none Set.univ (chk5 (row true 0 c)))
  rw [← hP]
  iapply (end_run P hS K T hT c M A B f _ (ctx_eq c _ _ _ _ _))
  isplitl [HL0 HL1 HO HP HT Hf]
  · isplitr; · iexact HI
    isplitr; · iexact Hl
    isplitl [HL0]; · iexact HL0
    isplitl [HL1]; · iexact HL1
    isplitl [HO]; · iexact HO
    isplitl [HP]; · iexact HP
    isplitl [HT]
    · iexact HT
    · iexact Hf
  isplitr; · iexact HI
  isplitl [HB]; · iexact HB
  isplitl [HA]; · iexact HA
  isplitl [HBm]
  · iexact HBm
  · iexact HM

end Cert.RingProof
-- ==== Proof.Deal.lean ====
/-
# Dealing out the launch

Families over the cells, device by device; a device's transfer counters; the opening of its transfer cells; which device holds which
token, and what is due to it.
-/
module

public import proofs.«01_k».proof.Proof.Body
public import proofs.«01_k».proof.Proof.Gen.KernelIdeal.Launch

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Prod F) {S : Finset (GSem nD τ sig)} (hS : HasCells S) (K : GSem nD τ sig → ℕ)

/-! ## Sets of cells -/

theorem semN_inj {a b : ℕ} (ha : a < 129) (hb : b < 129) (h : semN a = semN b) : a = b := by
  have h' : a % 129 = b % 129 := congrArg (fun s : SemLoc sig => match s with | .reg _ => 0 | .dma q => q.val) h
  rwa [Nat.mod_eq_of_lt ha, Nat.mod_eq_of_lt hb] at h'

theorem send_injOn (c : Dev nD) (d : Bool) : Set.InjOn (sendCell c d) (Finset.range (2 * planes d) : Finset ℕ) := fun i hi j hj h => by
  have := semN_inj (sendLt d (Finset.mem_range.mp hi)) (sendLt d (Finset.mem_range.mp hj)) (congrArg Prod.snd h)
  omega
theorem recv_injOn (c : Dev nD) (d : Bool) : Set.InjOn (recvCell c d) (Finset.range (2 * planes d) : Finset ℕ) := fun i hi j hj h => by
  have := semN_inj (recvLt d (Finset.mem_range.mp hi)) (recvLt d (Finset.mem_range.mp hj)) (congrArg Prod.snd h)
  omega

/-- A member of a lane's cells has the device and the lane. -/
theorem lane_role {c : Dev nD} {d : Bool} {g : GSem nD τ sig} (h : g ∈ laneCells c d) : g.1 = (c : Thread nD τ) ∧ ∃ b j, roleOf g.2 = some (b, d, j) := by
  unfold laneCells at h
  rcases Finset.mem_union.mp h with h | h
  · obtain ⟨j, hj, rfl⟩ := Finset.mem_image.mp h
    exact ⟨rfl, false, j, roleOf_send d j (Finset.mem_range.mp hj)⟩
  · obtain ⟨j, hj, rfl⟩ := Finset.mem_image.mp h
    exact ⟨rfl, true, j, roleOf_recv d j (Finset.mem_range.mp hj)⟩

theorem ends_disjoint (c : Dev nD) (d : Bool) :
    Disjoint ((Finset.range (2 * planes d)).image (sendCell c d)) ((Finset.range (2 * planes d)).image (recvCell c d)) := by
  rw [Finset.disjoint_left]
  intro g h h'
  obtain ⟨i, hi, rfl⟩ := Finset.mem_image.mp h
  obtain ⟨j, hj, e⟩ := Finset.mem_image.mp h'
  have e' := congrArg (fun g : GSem nD τ sig => roleOf g.2) e
  dsimp only at e'
  rw [roleOf_send d i (Finset.mem_range.mp hi), roleOf_recv d j (Finset.mem_range.mp hj)] at e'
  cases e'

theorem lanes_disjoint (c : Dev nD) : Disjoint (laneCells c false) (laneCells c true) := by
  rw [Finset.disjoint_left]
  intro g h h'
  obtain ⟨-, b, j, e⟩ := lane_role h
  obtain ⟨-, b', j', e'⟩ := lane_role h'
  rw [e] at e'
  cases e'

theorem talk_role {g : GSem nD τ sig} (h : g ∈ talkCells) : roleOf g.2 ≠ none := by
  unfold talkCells at h
  obtain ⟨c, -, h⟩ := Finset.mem_biUnion.mp h
  rcases Finset.mem_union.mp h with h | h <;>
  · obtain ⟨-, b, j, e⟩ := lane_role h
    rw [e]; exact Option.some_ne_none _

theorem cells_disjoint : Disjoint barCells talkCells := by
  rw [Finset.disjoint_left]
  intro g h h'
  unfold barCells at h
  obtain ⟨c, -, rfl⟩ := Finset.mem_image.mp h
  exact talk_role h' roleOf_bar

/-- A family over a lane's cells, send cells first. -/
def laneSep (c : Dev nD) (d : Bool) (Φ : GSem nD τ sig → sProp (MT nD τ sig Unit (Elt F) ℕ UU ℕ)) : sProp 𝕄 :=
  iprop(bigSep (Finset.range (2 * planes d)) (fun j => Φ (sendCell c d j)) ∗ bigSep (Finset.range (2 * planes d)) (fun j => Φ (recvCell c d j)))

theorem bigSep_join {I : Type} [DecidableEq I] {s t : Finset I} (h : Disjoint s t) (Φ : I → sProp 𝕄) :
    bigSep (s ∪ t) Φ = iprop(bigSep s Φ ∗ bigSep t Φ) := BI.bigSep_union h

theorem lane_sep (c : Dev nD) (d : Bool) (Φ : GSem nD τ sig → sProp 𝕄) : bigSep (laneCells c d) Φ = laneSep c d Φ := by
  unfold laneCells laneSep
  rw [bigSep_join (ends_disjoint c d), bigSep_image_of_injOn (send_injOn c d), bigSep_image_of_injOn (recv_injOn c d)]

/-- A family over every transfer cell, device by device. -/
theorem talk_sep (Φ : GSem nD τ sig → sProp 𝕄) :
    bigSep talkCells Φ = bigSep Finset.univ (fun c : Dev nD => iprop(laneSep c false Φ ∗ laneSep c true Φ)) := by
  unfold talkCells
  rw [BI.bigSep_biUnion_eq]
  · exact bigSep_congr fun c _ => by rw [bigSep_join (lanes_disjoint c), lane_sep, lane_sep]
  · intro c _ c' _ hne
    rw [Finset.disjoint_left]
    intro g h h'
    have key : ∀ x : Dev nD, g ∈ laneCells x false ∪ laneCells x true → g.1 = (x : Thread nD τ) := fun x hx => by
      rcases Finset.mem_union.mp hx with hx | hx <;> exact (lane_role hx).1
    have e := (key c h).symm.trans (key c' h')
    exact hne (congrArg (fun t : Thread nD τ => t.1) e)

theorem bar_injOn : Set.InjOn (fun c : Dev nD => barCell c) (Finset.univ : Finset (Dev nD)) := fun c _ c' _ h =>
  congrArg (fun g : GSem nD τ sig => g.1.1) h
theorem bar_sep (Φ : GSem nD τ sig → sProp 𝕄) : bigSep barCells Φ = bigSep Finset.univ (fun c : Dev nD => Φ (barCell c)) := by
  unfold barCells
  exact bigSep_image_of_injOn bar_injOn Φ

/-! ## The counters of a device's transfer cells -/

/-- The transfer semaphores of the kernel, in order. -/
abbrev osem (k : Fin 124) : SemLoc sig := semN (5 + k.val)

theorem own_facts : Pipeline.OwnSemFacts spec0 osem where
  isScoped := by decide +kernel
  inj i j h := Fin.ext (by have := semN_inj (by omega) (by omega) h; omega)
  disj := by decide +kernel

theorem range_split (a b : ℕ) (Φ : ℕ → sProp 𝕄) :
    bigSep (Finset.range (a + b)) Φ = iprop(bigSep (Finset.range a) Φ ∗ bigSep (Finset.range b) (fun j => Φ (a + j))) := by
  rw [show Finset.range (a + b) = Finset.range a ∪ (Finset.range b).image (a + ·) by
      ext x
      simp only [Finset.mem_range, Finset.mem_union, Finset.mem_image]
      constructor
      · intro h
        by_cases hx : x < a
        · exact .inl hx
        · exact .inr ⟨x - a, by omega, by omega⟩
      · rintro (h | ⟨y, h, rfl⟩) <;> omega,
    bigSep_join, bigSep_image_of_injOn]
  · exact fun i _ j _ h => Nat.add_left_cancel h
  · rw [Finset.disjoint_left]
    intro x h h'
    obtain ⟨y, -, rfl⟩ := Finset.mem_image.mp h'
    have := Finset.mem_range.mp h
    omega

theorem own_sems (c : Dev nD) : (Pipeline.ownSems0 osem c : sProp 𝕄) = iprop(laneZero c false ∗ laneZero c true) := by
  unfold Pipeline.ownSems0 laneZero
  rw [Ring.bigSep_fin_eq_range 124 _ (fun k => (semVal ((c.tc : Thread nD τ), semN (5 + k)) 0 : sProp 𝕄)) (fun _ _ => rfl),
    show (124 : ℕ) = 32 + (32 + (30 + 30)) from rfl, range_split, range_split, range_split]
  simp only [← Nat.add_assoc]
  exact BI.Entails.antisymm BI.sep_assoc' BI.sep_assoc

/-! ## Opening the transfer cells -/

/-- What a device holds of a lane from the launch: the right to open each cell, what is due to it, and the tokens of what it pays. -/
def laneDormant (c : Dev nD) (d : Bool) : sProp 𝕄 :=
  iprop(laneSep c d (fun g => openTok ER g)
    ∗ bigSep (Finset.range (2 * planes d)) (fun j => cred (tallyAt (recvCell c d j) () N))
    ∗ bigSep (Finset.range (2 * planes d)) (fun j => dutyTok ER (sendCell c d j) 0 false)
    ∗ bigSep (Finset.range (2 * planes d)) (fun j => dutyTok ER (recvCell (nb d c) d j) 0 false))

theorem cells_wake (A : Finset ℕ) (g : ℕ → GSem nD τ sig) (hg : ∀ j ∈ A, g j ∈ S) :
    iprop(invs P S K ∗ bigSep A (fun j => openTok ER (g j)) ∗ bigSep A (fun j => semVal (g j) 0))
      ⊢ (|={Set.univ}=> iprop(bigSep A (fun j => atPos ER (g j) 0 ∅ 0) ∗ bigSep A (fun j => reached ER (g j) 0)) : sProp 𝕄) := by
  rw [← bigSep_sep' A (fun j => atPos ER (g j) 0 ∅ 0)]
  refine BI.Entails.trans ?_ (Rounds.cells_open ER (ringRd P) A g (fun j => K (g j)) (fun _ _ => Set.mem_univ _))
  rw [bigSep_sep']
  refine BI.Entails.trans BI.sep_assoc' (sep_mono (sep_mono (bigSep_intro_persistent fun j hj => ?_) .rfl) .rfl)
  exact invs_elim P S K _ (hg j hj)

theorem lane_join (c : Dev nD) (d : Bool) :
    iprop((bigSep (Finset.range (2 * planes d)) (fun j => atPos ER (recvCell c d j) 0 ∅ 0)
        ∗ bigSep (Finset.range (2 * planes d)) (fun j => cred (tallyAt (recvCell c d j) () N)))
      ∗ (bigSep (Finset.range (2 * planes d)) (fun j => dutyTok ER (sendCell c d j) 0 false)
        ∗ bigSep (Finset.range (2 * planes d)) (fun j => reached ER (sendCell c d j) 0)
        ∗ bigSep (Finset.range (2 * planes d)) (fun j => atPos ER (sendCell c d j) 0 ∅ 0)
        ∗ bigSep (Finset.range (2 * planes d)) (fun j => dutyTok ER (recvCell (nb d c) d j) 0 false))
      ∗ bigSep (Finset.range (2 * planes d)) (fun j => reached ER (recvCell c d j) 0))
      ⊢ (laneStart c d : sProp 𝕄) := by
  unfold laneStart recvTick sendTick
  rw [← Finset.range_eq_Ico]
  simp only [bigSep_sep']
  exact .rfl

include hS in
theorem lane_wake (c : Dev nD) (d : Bool) :
    iprop(invs P S K ∗ laneDormant c d ∗ laneZero c d) ⊢ (|={Set.univ}=> laneStart c d : sProp 𝕄) := by
  refine .trans ?_ (BI.fupd_mono (lane_join c d))
  unfold laneDormant laneZero laneSep
  have h1 := cells_wake P K (S := S) (Finset.range (2 * planes d)) (sendCell c d) (fun j hj => hS.send c d j (Finset.mem_range.mp hj))
  have h2 := cells_wake P K (S := S) (Finset.range (2 * planes d)) (recvCell c d) (fun j hj => hS.recv c d j (Finset.mem_range.mp hj))
  iintro ⟨#HI, ⟨⟨HoS, HoR⟩, Hc, HtS, HtR⟩, HzS, HzR⟩
  imod h1 $$ [HoS HzS] with ⟨HaS, HrS⟩
  · isplitr; · iexact HI
    isplitl [HoS]
    · iexact HoS
    · iexact HzS
  imod h2 $$ [HoR HzR] with ⟨HaR, HrR⟩
  · isplitr; · iexact HI
    isplitl [HoR]
    · iexact HoR
    · iexact HzR
  imodintro
  isplitl [HaR Hc]
  · isplitl [HaR]
    · iexact HaR
    · iexact Hc
  isplitr [HrR]
  · isplitl [HtS]; · iexact HtS
    isplitl [HrS]; · iexact HrS
    isplitl [HaS]
    · iexact HaS
    · iexact HtR
  · iexact HrR

/-! ## The tokens of the launch -/

def talkToks : Finset (GSem nD τ sig × ℕ × Bool) :=
  barCells.image (fun g => (g, 0, false)) ∪ (barCells.image (fun g => (g, 0, true)) ∪ talkCells.image (fun g => (g, 0, false)))

theorem tok_injOn (b : Bool) (s : Finset (GSem nD τ sig)) : Set.InjOn (fun g : GSem nD τ sig => (g, (0 : ℕ), b)) (s : Set (GSem nD τ sig)) :=
  fun _ _ _ _ h => congrArg Prod.fst h

theorem toks_sep : bigSep talkToks (fun x => (dutyTok ER x.1 x.2.1 x.2.2 : sProp 𝕄))
    = iprop(bigSep barCells (fun g => dutyTok ER g 0 false) ∗ bigSep barCells (fun g => dutyTok ER g 0 true)
      ∗ bigSep talkCells (fun g => dutyTok ER g 0 false)) := by
  unfold talkToks
  rw [bigSep_join, bigSep_join, bigSep_image_of_injOn (tok_injOn _ _), bigSep_image_of_injOn (tok_injOn _ _), bigSep_image_of_injOn (tok_injOn _ _)]
  · rw [Finset.disjoint_left]
    intro x h h'
    obtain ⟨g, -, rfl⟩ := Finset.mem_image.mp h
    obtain ⟨g', -, e⟩ := Finset.mem_image.mp h'
    cases congrArg (fun x : GSem nD τ sig × ℕ × Bool => x.2.2) e
  · rw [Finset.disjoint_left]
    intro x h h'
    obtain ⟨g, hg, rfl⟩ := Finset.mem_image.mp h
    rcases Finset.mem_union.mp h' with h' | h'
    · obtain ⟨g', -, e⟩ := Finset.mem_image.mp h'
      cases congrArg (fun x : GSem nD τ sig × ℕ × Bool => x.2.2) e
    · obtain ⟨g', hg', e⟩ := Finset.mem_image.mp h'
      have e' : g' = g := congrArg Prod.fst e
      exact Finset.disjoint_left.mp cells_disjoint hg (e' ▸ hg')

/-- The tokens a device holds: of what it pays to its neighbours' barriers, to its own send cells and to the next device's receive cells. -/
def toksOf (c : Dev nD) : sProp 𝕄 :=
  iprop(dutyTok ER (barCell (nb true c)) 0 false ∗ dutyTok ER (barCell (nb false c)) 0 true
    ∗ (bigSep (Finset.range (2 * planes false)) (fun j => dutyTok ER (sendCell c false j) 0 false)
      ∗ bigSep (Finset.range (2 * planes false)) (fun j => dutyTok ER (recvCell (nb false c) false j) 0 false))
    ∗ (bigSep (Finset.range (2 * planes true)) (fun j => dutyTok ER (sendCell c true j) 0 false)
      ∗ bigSep (Finset.range (2 * planes true)) (fun j => dutyTok ER (recvCell (nb true c) true j) 0 false)))

theorem toks_deal : bigSep talkToks (fun x => (dutyTok ER x.1 x.2.1 x.2.2 : sProp 𝕄)) = bigSep Finset.univ (fun c : Dev nD => toksOf c) := by
  rw [toks_sep, bar_sep, bar_sep, talk_sep]
  unfold laneSep toksOf
  simp only [bigSep_sep']
  rw [bigSep_univ_equiv (around true) (fun c : Dev nD => (dutyTok ER (barCell c) 0 false : sProp 𝕄)),
    bigSep_univ_equiv (around false) (fun c : Dev nD => (dutyTok ER (barCell c) 0 true : sProp 𝕄)),
    bigSep_univ_equiv (around false) (fun c : Dev nD => (bigSep (Finset.range (2 * planes false)) (fun j => dutyTok ER (recvCell c false j) 0 false) : sProp 𝕄)),
    bigSep_univ_equiv (around true) (fun c : Dev nD => (bigSep (Finset.range (2 * planes true)) (fun j => dutyTok ER (recvCell c true j) 0 false) : sProp 𝕄))]
  rfl

/-! ## What is due to a device at the launch -/

theorem nb_eq_iff (d : Bool) (x c : Dev nD) : c = nb d x ↔ x = nb (!d) c :=
  ⟨fun h => by rw [h, nb_nb'], fun h => by rw [h, nb_nb]⟩

theorem lane_owes_at (x : Dev nD) (e : Bool) (c : Dev nD) (d : Bool) (j : ℕ) (h : j < 2 * planes d) :
    laneOwes x e 0 (recvCell c d j) () = if x = nb (!d) c ∧ e = d then N else 0 := by
  unfold laneOwes
  rw [Finset.sum_apply, Finsupp.finsetSum_apply]
  by_cases hx : x = nb (!d) c ∧ e = d
  · obtain ⟨rfl, rfl⟩ := hx
    rw [if_pos ⟨rfl, rfl⟩, nb_nb, Finset.sum_eq_single j]
    · rw [tallyAt_apply, if_pos ⟨rfl, rfl⟩]
    · intro i hi hne
      rw [tallyAt_apply, if_neg]
      rintro ⟨he, -⟩
      exact hne (recv_injOn c e (by simpa using hi) (by simpa using h) he.symm)
    · intro hn
      exact absurd (Finset.mem_Ico.mpr ⟨Nat.zero_le _, h⟩) hn
  · rw [if_neg hx]
    refine Finset.sum_eq_zero fun i hi => ?_
    rw [tallyAt_apply, if_neg]
    rintro ⟨he, -⟩
    have h1 : c = nb e x := congrArg (fun g : GSem nD τ sig => g.1.1) he
    have h2 := congrArg (fun g : GSem nD τ sig => roleOf g.2) he
    dsimp only at h2
    rw [roleOf_recv d j h, roleOf_recv e i (Finset.mem_Ico.mp hi).2] at h2
    have h3 : d = e := congrArg (fun o : Option (Bool × Bool × ℕ) => match o with | some (_, b, _) => b | none => d) h2
    subst h3
    exact hx ⟨(nb_eq_iff d x c).mp h1, rfl⟩
theorem lane_owes_bar (x : Dev nD) (e : Bool) (c : Dev nD) : laneOwes x e 0 (barCell c) () = 0 := by
  unfold laneOwes
  rw [Finset.sum_apply, Finsupp.finsetSum_apply]
  refine Finset.sum_eq_zero fun i hi => ?_
  rw [tallyAt_apply, if_neg]
  rintro ⟨he, -⟩
  exact semN_ne_bar _ (congrArg Prod.snd he).symm

theorem bar_owes_at (x : Dev nD) (e : Bool) (c : Dev nD) : (tallyAt (barCell (nb e x)) () 1 : CellTallies nD τ sig Unit) (barCell c) () = if x = nb (!e) c then 1 else 0 := by
  rw [tallyAt_apply]
  by_cases h : x = nb (!e) c
  · rw [if_pos h, if_pos ⟨by rw [← (nb_eq_iff e x c).mpr h], rfl⟩]
  · rw [if_neg h, if_neg]
    rintro ⟨he, -⟩
    exact h ((nb_eq_iff e x c).mp (congrArg (fun g : GSem nD τ sig => g.1.1) he))
theorem bar_owes_recv (x : Dev nD) (c : Dev nD) (d : Bool) (j : ℕ) : (tallyAt (barCell x) () 1 : CellTallies nD τ sig Unit) (recvCell c d j) () = 0 := by
  rw [tallyAt_apply, if_neg]
  rintro ⟨he, -⟩
  exact semN_ne_bar _ (congrArg Prod.snd he)

theorem due_bar (c : Dev nD) : ∑ x : Dev nD, O₀ x (barCell c) () = 2 := by
  have e : ∀ x : Dev nD, O₀ x (barCell c) () = (if x = nb (!false) c then 1 else 0) + (if x = nb (!true) c then 1 else 0) := fun x => by
    unfold O₀
    simp only [Pi.add_apply, Finsupp.add_apply]
    rw [lane_owes_bar, lane_owes_bar, bar_owes_at, bar_owes_at, Nat.zero_add]
  simp only [e]
  rw [Finset.sum_add_distrib, Finset.sum_ite_eq', Finset.sum_ite_eq', if_pos (Finset.mem_univ _), if_pos (Finset.mem_univ _)]
theorem due_recv (c : Dev nD) (d : Bool) (j : ℕ) (h : j < 2 * planes d) : ∑ x : Dev nD, O₀ x (recvCell c d j) () = N := by
  have e : ∀ x : Dev nD, O₀ x (recvCell c d j) () = if x = nb (!d) c then N else 0 := fun x => by
    unfold O₀
    simp only [Pi.add_apply, Finsupp.add_apply]
    rw [lane_owes_at x false c d j h, lane_owes_at x true c d j h, bar_owes_recv, bar_owes_recv, Nat.add_zero]
    by_cases hx : x = nb (!d) c
    · cases d
      · rw [if_pos ⟨hx, rfl⟩, if_neg (fun h => by cases h.2), if_pos hx, Nat.add_zero]
      · rw [if_neg (fun h => by cases h.2), if_pos ⟨hx, rfl⟩, if_pos hx, Nat.zero_add]
    · rw [if_neg (fun h => hx h.1), if_neg (fun h => hx h.1), if_neg hx]
  simp only [e]
  rw [Finset.sum_ite_eq', if_pos (Finset.mem_univ _)]

theorem launch_at (g : GSem nD τ sig) (n : ℕ) (h : ∑ x : Dev nD, O₀ x g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- A device's own part of the launch credit. -/
def credsOf (c : Dev nD) : sProp 𝕄 :=
  iprop(cred (tallyAt (barCell c) () 2)
    ∗ bigSep (Finset.range (2 * planes false)) (fun j => cred (tallyAt (recvCell c false j) () N))
    ∗ bigSep (Finset.range (2 * planes true)) (fun j => cred (tallyAt (recvCell c true j) () N)))

theorem sems_pick (Φ : SemLoc sig → sProp 𝕄) :
    bigSep Finset.univ Φ ⊢ iprop(Φ (.reg barS) ∗ bigSep (Finset.range (2 * planes false)) (fun j => Φ (semN (recvBase false + j)))
      ∗ bigSep (Finset.range (2 * planes true)) (fun j => Φ (semN (recvBase true + j)))) := by
  rw [bigSep_univ_at _ (SemLoc.reg barS)]
  refine sep_mono_right ?_
  have inj : ∀ d, Set.InjOn (fun j => semN (recvBase d + j)) (Finset.range (2 * planes d) : Finset ℕ) := fun d i hi j hj h => by
    have := semN_inj (recvLt d (Finset.mem_range.mp hi)) (recvLt d (Finset.mem_range.mp hj)) h
    omega
  rw [← bigSep_image_of_injOn (inj false), ← bigSep_image_of_injOn (inj true), ← bigSep_join]
  · refine bigSep_subset fun s hs => Finset.mem_erase.mpr ⟨?_, Finset.mem_univ _⟩
    rcases Finset.mem_union.mp hs with hs | hs <;>
    · obtain ⟨j, -, rfl⟩ := Finset.mem_image.mp hs
      exact semN_ne_bar _
  · rw [Finset.disjoint_left]
    intro s h h'
    obtain ⟨i, hi, rfl⟩ := Finset.mem_image.mp h
    obtain ⟨j, hj, e⟩ := Finset.mem_image.mp h'
    have e' := congrArg roleOf e
    rw [roleOf_recv _ _ (Finset.mem_range.mp hi), roleOf_recv _ _ (Finset.mem_range.mp hj)] at e'
    cases e'

theorem creds_split (c : Dev nD) : (Pipeline.launchCred O₀ c : sProp 𝕄) ⊢ credsOf c := by
  unfold Pipeline.launchCred credsOf
  refine (sems_pick _).trans (sep_mono (Entails.of_eq (congrArg cred (launch_at _ _ (due_bar c)))) (sep_mono ?_ ?_))
  · exact Entails.of_eq (bigSep_congr fun j hj => congrArg cred (launch_at _ _ (due_recv c false j (Finset.mem_range.mp hj))))
  · exact Entails.of_eq (bigSep_congr fun j hj => congrArg cred (launch_at _ _ (due_recv c true j (Finset.mem_range.mp hj))))

end Cert.RingProof
-- ==== Proof.Host.lean ====
/-
# What the host hands the kernel

The cycle table as the host writes it, and the three words it works out for each device: the device's place on the cycle and its two
neighbours there.
-/
module

public import proofs.«01_k».proof.Proof.Talk
public import proofs.«01_k».proof.Proof.Body
public import proofs.«01_k».proof.Proof.Gen.KernelIdeal.Regions
public import Idealize.ShloMosaic.Lib.Claim

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open StableHlo

/-! ## Words -/

/-- A table read at a signed word, the place clamped into the table. -/
def atW (tab : S32.Idx → BitVec 32) (w : BitVec 32) : BitVec 32 :=
  tab fun a => ⟨min (max w.toInt 0).toNat 31, by revert a; intro a; obtain rfl : a = 0 := Subsingleton.elim _ _; show _ < 32; omega⟩

/-- A word below zero counted from the table's end. -/
def wrapW (w : BitVec 32) : BitVec 32 := Scalar.select (IntOp.cmpi .slt w 0#32) (IntOp.addi w 32#32) w

/-- The number remainders are taken by: never zero. -/
def modW : BitVec 32 := Scalar.select (IntOp.cmpi .eq 32#32 0#32) 1#32 32#32

/-- The remainder the host takes by 32, its sign the divisor's. -/
def remW (x : BitVec 32) : BitVec 32 :=
  Scalar.select
    (IntOp.andi (IntOp.cmpi .ne (IntOp.cmpi .slt (IntOp.remsi .host x modW) 0#32) (IntOp.cmpi .slt modW 0#32))
      (IntOp.cmpi .ne (IntOp.remsi .host x modW) 0#32))
    (IntOp.addi (IntOp.remsi .host x modW) modW) (IntOp.remsi .host x modW)

/-- The word a device looks its place up at. -/
def selfW (c : Dev nD) : BitVec 32 := IntOp.remui .host (IntOp.divui .host (Dev.word c) 1#32) 32#32

/-- The table of the cycle and the table of places. -/
abbrev cycT : S32.Idx → BitVec 32 := fun i => lit0 (S32.rowMajor i)
abbrev posT : S32.Idx → BitVec 32 := fun i => lit1 (S32.rowMajor i)

theorem cycT_cycle : IsCycle cycT := by
  have h : ∀ k : Fin 32, lit0 k = wd (cyc k.val) := by decide +kernel
  intro i
  have e : S32.rowMajor i = (i 0) := Fin.ext (Shape.rowMajor_val_one i)
  show lit0 (S32.rowMajor i) = _
  rw [e]; exact h _

theorem place_word : ∀ c : Dev nD, atW posT (wrapW (selfW c)) = posW c := by decide +kernel
theorem next_word : ∀ c : Dev nD, atW cycT (wrapW (remW (IntOp.addi (posW c) 1#32))) = wd (nb false c) := by decide +kernel
theorem prev_word : ∀ c : Dev nD, atW cycT (wrapW (remW (IntOp.subi (IntOp.addi (posW c) 32#32) 1#32))) = wd (nb true c) := by
  decide +kernel

/-- One entry sliced out of a table is the table at that word. -/
theorem slice_word (tab : S32.Idx → BitVec 32) (st : Fin S32.rank → ℤ) (w : BitVec 32) (h : st 0 = w.toInt) (hs) (i : S_.Idx) :
    shapeCast S_ (Host.dynamicSlice S1 tab st sliceFits_S32_S1) hs i = atW tab w := by
  unfold atW
  refine congrArg tab ?_
  funext a
  obtain rfl : a = 0 := Subsingleton.elim _ _
  refine Fin.ext ?_
  show (min (max (st 0) 0) ((32 - 1 : ℕ) : ℤ)).toNat + _ = _
  rw [h]
  have hz : ∀ z : Fin 1, z.val = 0 := fun z => by omega
  rw [show ((Shape.reshapeEquiv hs) i (Fin.cast rfl 0)).val = 0 from hz _]
  show (min (max w.toInt 0) ((32 - 1 : ℕ) : ℤ)).toNat + 0 = min (max w.toInt 0).toNat 31
  omega

/-- Three words side by side. -/
theorem three_words (x y z : BitVec 32) (h) (i : S3.Idx) :
    concatenate S3 0 [⟨S1, fun _ => x⟩, ⟨S1, fun _ => y⟩, ⟨S1, fun _ => z⟩] h i =
      if (i 0).val = 0 then x else if (i 0).val = 1 then y else z := by
  obtain ⟨k, rfl⟩ : ∃ k : Fin 3, i = fun a => ⟨k.val, by obtain rfl : a = 0 := Subsingleton.elim _ _; exact k.isLt⟩ :=
    ⟨i 0, funext fun a => by obtain rfl : a = 0 := Subsingleton.elim _ _; rfl⟩
  fin_cases k <;> rfl

/-! ## The stretches -/

theorem first_cyc (c : Dev nD) (V : Valuation τ sig (Elt F)) : (StableHlo.after (hostOps0 c) V main_c : S32.Idx → BitVec 32) = cycT := by
  unfold_abbrev_sides
  after_results_simp
  rfl

theorem first_sel (c : Dev nD) (V : Valuation τ sig (Elt F)) :
    (StableHlo.after ((hostOps0 c).take 13) V main_v7 : S_.Idx → BitVec 32) = fun _ => wrapW (selfW c) := by
  simp only [List.take_succ_cons, List.take_zero]
  after_results_simp
  rfl

theorem first_place (c : Dev nD) (V : Valuation τ sig (Elt F)) :
    (StableHlo.after (hostOps0 c) V main_v9 : S_.Idx → BitVec 32) = fun _ => posW c := by
  unfold_abbrev_sides
  after_results_simp
  funext i
  refine (slice_word posT _ (wrapW (selfW c)) ?_ _ i).trans (place_word c)
  exact congrArg BitVec.toInt (congrFun (first_sel c V) _)

theorem first_next (c : Dev nD) (V : Valuation τ sig (Elt F)) :
    (StableHlo.after (hostOps0 c) V main_v10 : S_.Idx → BitVec 32) = fun _ => IntOp.addi (posW c) 1#32 := by
  have e : (StableHlo.after (hostOps0 c) V main_v10 : S_.Idx → BitVec 32) =
      addi (StableHlo.after (hostOps0 c) V main_v9 : S_.Idx → BitVec 32) (fun _ => 1#32) := by
    unfold_abbrev_sides
    after_results_simp
    rfl
  rw [e, first_place]; rfl

theorem first_mod (c : Dev nD) (V : Valuation τ sig (Elt F)) :
    (StableHlo.after (hostOps0 c) V main_c_6 : S_.Idx → BitVec 32) = fun _ => 32#32 := by
  unfold_abbrev_sides
  after_results_simp
  rfl

theorem rem_next (V : Valuation τ sig (Elt F)) (x : BitVec 32) (h : V main_v10 = fun _ => x) (h' : V main_c_6 = fun _ => 32#32) :
    (StableHlo.after hostOps0_1 V main_v11 : S_.Idx → BitVec 32) = fun _ => remW x := by
  unfold_abbrev_sides
  after_results_simp
  simp only [h, h']
  rfl

theorem rem_prev (V : Valuation τ sig (Elt F)) (x : BitVec 32) (h : V main_v18 = fun _ => x) (h' : V main_c_11 = fun _ => 32#32) :
    (StableHlo.after hostOps0_3 V main_v19 : S_.Idx → BitVec 32) = fun _ => remW x := by
  unfold_abbrev_sides
  after_results_simp
  simp only [h, h']
  rfl

theorem second_sel (V : Valuation τ sig (Elt F)) (x : BitVec 32) (h : V main_v11 = fun _ => x) :
    (StableHlo.after (hostOps0_2.take 5) V main_v14 : S_.Idx → BitVec 32) = fun _ => wrapW x := by
  simp only [List.take_succ_cons, List.take_zero]
  after_results_simp
  simp only [h]
  rfl

theorem second_next (V : Valuation τ sig (Elt F)) (x : BitVec 32) (h : V main_v11 = fun _ => x) (hc : V main_c = cycT) :
    (StableHlo.after hostOps0_2 V main_v16 : S_.Idx → BitVec 32) = fun _ => atW cycT (wrapW x) := by
  unfold_abbrev_sides
  after_results_simp
  simp only [hc]
  funext i
  refine slice_word cycT _ (wrapW x) ?_ _ i
  exact congrArg BitVec.toInt (congrFun (second_sel V x h) _)

theorem second_prev (V : Valuation τ sig (Elt F)) (x : BitVec 32) (h : V main_v9 = fun _ => x) :
    (StableHlo.after hostOps0_2 V main_v18 : S_.Idx → BitVec 32) = fun _ => IntOp.subi (IntOp.addi x 32#32) 1#32 := by
  unfold_abbrev_sides
  after_results_simp
  simp only [h]
  rfl

theorem second_mod (V : Valuation τ sig (Elt F)) :
    (StableHlo.after hostOps0_2 V main_c_11 : S_.Idx → BitVec 32) = fun _ => 32#32 := by
  unfold_abbrev_sides
  after_results_simp
  rfl

theorem third_sel (V : Valuation τ sig (Elt F)) (x : BitVec 32) (h : V main_v19 = fun _ => x) :
    (StableHlo.after (hostOps0_4.take 5) V main_v22 : S_.Idx → BitVec 32) = fun _ => wrapW x := by
  simp only [List.take_succ_cons, List.take_zero]
  after_results_simp
  simp only [h]
  rfl

theorem third_place (V : Valuation τ sig (Elt F)) (x : BitVec 32) (h : V main_v9 = fun _ => x) :
    (StableHlo.after (hostOps0_4.take 10) V main_v25 : S1.Idx → BitVec 32) = fun _ => x := by
  simp only [List.take_succ_cons, List.take_zero]
  after_results_simp
  simp only [h]
  rfl

theorem third_next (V : Valuation τ sig (Elt F)) (x : BitVec 32) (h : V main_v16 = fun _ => x) :
    (StableHlo.after (hostOps0_4.take 10) V main_v26 : S1.Idx → BitVec 32) = fun _ => x := by
  simp only [List.take_succ_cons, List.take_zero]
  after_results_simp
  simp only [h]
  rfl

theorem third_prev (V : Valuation τ sig (Elt F)) (x : BitVec 32) (h : V main_v19 = fun _ => x) (hc : V main_c = cycT) :
    (StableHlo.after (hostOps0_4.take 10) V main_v27 : S1.Idx → BitVec 32) = fun _ => atW cycT (wrapW x) := by
  simp only [List.take_succ_cons, List.take_zero]
  after_results_simp
  simp only [hc]
  funext i
  refine slice_word cycT _ (wrapW x) ?_ _ _
  exact congrArg BitVec.toInt (congrFun (third_sel V x h) _)

theorem third_meta (V : Valuation τ sig (Elt F)) (x y z : BitVec 32) (hx : V main_v9 = fun _ => x) (hy : V main_v16 = fun _ => y)
    (hz : V main_v19 = fun _ => z) (hc : V main_c = cycT) (i : S3.Idx) :
    (StableHlo.after hostOps0_4 V main_v28 : S3.Idx → BitVec 32) i =
      if (i 0).val = 0 then x else if (i 0).val = 1 then y else atW cycT (wrapW z) := by
  have e : (StableHlo.after hostOps0_4 V main_v28 : S3.Idx → BitVec 32) =
      concatenate S3 0 [⟨S1, (StableHlo.after (hostOps0_4.take 10) V main_v25 : S1.Idx → BitVec 32)⟩,
        ⟨S1, (StableHlo.after (hostOps0_4.take 10) V main_v26 : S1.Idx → BitVec 32)⟩,
        ⟨S1, (StableHlo.after (hostOps0_4.take 10) V main_v27 : S1.Idx → BitVec 32)⟩] concatenates_S1_S1_S1_S3_d0 := by
    exact nary_result ![main_v25, main_v26, main_v27] main_v28 (fun u => concatenate S3 0 [⟨S1, u 0⟩, ⟨S1, u 1⟩, ⟨S1, u 2⟩] concatenates_S1_S1_S1_S3_d0) (by decide) (by decide)
      (StableHlo.after (hostOps0_4.take 10) V)
  rw [e, third_place V x hx, third_next V y hy, third_prev V z hz hc]
  exact three_words _ _ _ _ i

/-! ## What the kernel finds -/

variable (m : (ℓ : Loc nD τ sig) → Buf (Elt F) ℓ)

theorem table_cycle (c : Dev nD) : IsCycle (V5 m c main_c : S32.Idx → BitVec 32) := by
  rw [V5_of m c main_c (by decide), V4_of m c main_c (by decide), V3_of m c main_c (by decide), V2_of m c main_c (by decide)]
  intro i
  exact (congrFun (first_cyc c (V0 m c)) i).trans (cycT_cycle i)

theorem meta_words (c : Dev nD) : IsMeta c (V5 m c main_v28 : S3.Idx → BitVec 32) := by
  have p1 : V1 m c main_v9 = fun _ => posW c := first_place c (V0 m c)
  have c1 : V1 m c main_c = cycT := first_cyc c (V0 m c)
  have r2 := rem_next (V1 m c) _ (first_next c (V0 m c)) (first_mod c (V0 m c))
  have p2 : V2 m c main_v9 = fun _ => posW c := (V2_of m c main_v9 (by decide)).trans p1
  have c2 : V2 m c main_c = cycT := (V2_of m c main_c (by decide)).trans c1
  have n3 := second_next (V2 m c) _ r2 c2
  have c3 : V3 m c main_c = cycT := (V3_of m c main_c (by decide)).trans c2
  have p3 : V3 m c main_v9 = fun _ => posW c := (V3_of m c main_v9 (by decide)).trans p2
  have r4 := rem_prev (V3 m c) _ (second_prev (V2 m c) _ p2) (second_mod (V2 m c))
  have n4 := (V4_of m c main_v16 (by decide)).trans n3
  have c4 : V4 m c main_c = cycT := (V4_of m c main_c (by decide)).trans c3
  have p4 : V4 m c main_v9 = fun _ => posW c := (V4_of m c main_v9 (by decide)).trans p3
  intro i
  refine (third_meta (V4 m c) _ _ _ p4 n4 r4 c4 i).trans ?_
  rw [next_word, prev_word]

end Cert.RingProof
-- ==== Proof.Region.lean ====
/-
# The kernel's region

What the windows hold, what the kernel is entered with and left with, and the record of its region: entered from the buffers the host
leaves and the device's share of the protocol, left with the result written and every counter back at zero.
-/
module

public import proofs.«01_k».proof.Proof.Deal
public import proofs.«01_k».proof.Proof.Host
public import proofs.«01_k».proof.Proof.Gen.KernelIdeal.Points

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

/-! ## What the protocol keeps for a device -/

section Share

variable (P : Dev nD → Prod F) (S : Finset (GSem nD τ sig))

/-- From the launch, -/
def Tk (c : Dev nD) : sProp 𝕄 :=
  iprop(∃ K : GSem nD τ sig → ℕ, invs P S K ∗ laneDormant (F := F) c false ∗ laneDormant (F := F) c true ∗ barStart (F := F) c)
/-- with its own cells opened, -/
def Xk (c : Dev nD) : sProp 𝕄 :=
  iprop(∃ K : GSem nD τ sig → ℕ, invs P S K ∗ levAts L lv ∗ laneStart (F := F) c false ∗ laneStart (F := F) c true ∗ barStart (F := F) c)
/-- and at the end. -/
def Yk (c : Dev nD) : sProp 𝕄 := semVal (barCell c) 0

theorem region_open (hS : HasCells S) (c : Dev nD) :
    iprop(Tk P S c ∗ Pipeline.ownSems0 osem c ∗ levAts L lv) ⊢ (|={Set.univ}=> Xk P S c : sProp 𝕄) := by
  rw [own_sems]
  unfold Tk Xk
  iintro ⟨⟨%K, #HI, HD0, HD1, HB⟩, ⟨HZ0, HZ1⟩, #Hlev⟩
  imod (lane_wake P hS K c false) $$ [HD0 HZ0] with HL0
  · isplitr; · iexact HI
    isplitl [HD0] <;> iassumption
  imod (lane_wake P hS K c true) $$ [HD1 HZ1] with HL1
  · isplitr; · iexact HI
    isplitl [HD1] <;> iassumption
  imodintro
  iexists K
  isplitr; · iexact HI
  isplitr; · iexact Hlev
  isplitl [HL0]; · iexact HL0
  isplitl [HL1] <;> iassumption

end Share

/-! ## The scratch buffers -/

/-- The three scratch buffers, at contents not chosen. -/
def scratch (c : Dev nD) : sProp 𝕄 := iprop((∃ p : Prod F, pAt c fullShare p) ∗ commAny (F := F) c false ∗ commAny (F := F) c true)

theorem scratch_eq (c : Dev nD) :
    (Pipeline.scopedRest (Ix := Unit) (Name := ℕ) (U := UU) (Lvl := ℕ) (Val := Elt F) spec0 c : sProp 𝕄) = scratch c := by
  rw [scopedRest0_eq]
  have h1 : (commAny c false : sProp 𝕄) = iprop(∃ f : Buf (Elt F) ((c : Thread nD τ).loc cc0_scratch1), ((c : Thread nD τ).loc cc0_scratch1) ↦{fullShare} f) :=
    congrArg (fun Φ => (BIBase.exists Φ : sProp 𝕄)) (funext fun X => owns_whole (c : Thread nD τ) cc0_scratch1 fullShare X)
  have h2 : (commAny c true : sProp 𝕄) = iprop(∃ f : Buf (Elt F) ((c : Thread nD τ).loc cc0_scratch2), ((c : Thread nD τ).loc cc0_scratch2) ↦{fullShare} f) :=
    congrArg (fun Φ => (BIBase.exists Φ : sProp 𝕄)) (funext fun X => owns_whole (c : Thread nD τ) cc0_scratch2 fullShare X)
  unfold scratch
  rw [h1, h2]; rfl

/-! ## The body between its scratch buffers and its share -/

section Body

variable (P : Dev nD → Prod F) {S : Finset (GSem nD τ sig)} (hS : HasCells S) (T : S32.Idx → BitVec 32) (hT : IsCycle T) (c : Dev nD)
variable (M : S3.Idx → BitVec 32) (hM : IsMeta c M) (A : S2048x1024.Idx → Elt F .bf16) (B : S1024x2048.Idx → Elt F .bf16)
variable (hP : P c = prodOf A B)

/-- Entered with its share, its scratch buffers and its operands, -/
def Enter (S : Finset (GSem nD τ sig)) : sProp 𝕄 :=
  iprop(Xk P S c ∗ scratch (F := F) c ∗ (∃ r, prngReg c r) ∗ owing (F := F) c (O₀ c) ∗ aAt c A ∗ bAt c B ∗ tblAt (F := F) c T ∗ metaAt (F := F) c M ∗ ∃ f, outAt (F := F) c f)
/-- left with the result. -/
def Leave : sProp 𝕄 :=
  iprop(Yk (F := F) c ∗ (laneZero (F := F) c false ∗ laneZero (F := F) c true) ∗ scratch (F := F) c ∗ (∃ r, prngReg c r) ∗ owing (F := F) c 0
    ∗ aAt c A ∗ bAt c B ∗ tblAt (F := F) c T ∗ metaAt (F := F) c M ∗ outAt (F := F) c (outVal P c))

theorem after_leave : iprop(After P T c M A B ∗ ∃ r, prngReg c r) ⊢ (|={Set.univ}=> Leave P T c M A B : sProp 𝕄) := by
  unfold After Leave scratch Yk
  iintro ⟨⟨HZ0, HZ1, Hb, HC0, HC1, HO, HP, HA, HB, HT, HM, Hf⟩, Hr⟩
  imodintro
  isplitl [Hb]; · iexact Hb
  isplitl [HZ0 HZ1]; · isplitl [HZ0] <;> iassumption
  isplitl [HP HC0 HC1]
  · isplitl [HP]; · iexact HP
    isplitl [HC0] <;> iassumption
  isplitl [Hr]; · iexact Hr
  isplitl [HO]; · iexact HO
  isplitl [HA]; · iexact HA
  isplitl [HB]; · iexact HB
  isplitl [HT]; · iexact HT
  isplitl [HM] <;> iassumption

include hS hT hM hP in
theorem body_between : Enter P T c M A B S ⊢ runs c ringBody (fun _ => Leave P T c M A B) := by
  unfold Enter Xk scratch
  iintro ⟨⟨%K, #HI, #Hlev, HL0, HL1, HB⟩, ⟨HP, HC0, HC1⟩, Hr, HO, HA, HBm, HT, HM, ⟨%f, Hf⟩⟩
  iapply (runs_close c _ (fun _ => After P T c M A B) _ iprop(∃ r, prngReg c r) (fun _ => after_leave P T c M A B))
  isplitr [Hr]
  · iapply (body_run P hS K T hT c M hM A B hP f)
    unfold Before
    isplitr; · iexact HI
    isplitr; · iexact Hlev
    isplitl [HL0]; · iexact HL0
    isplitl [HL1]; · iexact HL1
    isplitl [HB]; · iexact HB
    isplitl [HC0]; · iexact HC0
    isplitl [HC1]; · iexact HC1
    isplitl [HO]; · iexact HO
    isplitl [HP]; · iexact HP
    isplitl [HA]; · iexact HA
    isplitl [HBm]; · iexact HBm
    isplitl [HT]; · iexact HT
    isplitl [HM] <;> iassumption
  iexact Hr

end Body

variable (m : (ℓ : Loc nD τ sig) → Buf (Elt F) ℓ)

/-! ## Contents -/

/-- A device's product of what it was launched with. -/
def partialOf (c : Dev nD) : Prod F := prodOf (F := F) (V5 m c main_arg0) (V5 m c main_arg1)
/-- What the kernel leaves in each array it writes. -/
def outs : Outs (F := F) := fun _ r c =>
  if h : r = main_v29 then h ▸ (outVal (partialOf m) c : Buf (Elt F) ((c : Thread nD τ).loc main_v29)) else m ((c : Thread nD τ).loc r)

theorem V6_result (c : Dev nD) : V6 m (outs m) c main_v29 = outVal (partialOf m) c := by
  unfold V6; rw [Function.update_self]; unfold outs; rw [dif_pos rfl]

/-- Every cell of the run. -/
def allCells : Finset (GSem nD τ sig) := barCells ∪ talkCells
theorem has_all : HasCells allCells := hasCells

/-! ## The windows -/

/-- The record of the windows and of what the body is entered with and left with. -/
def dat (c : Dev nD) : Dat τ (Elt F) Unit ℕ UU ℕ cfg0 c where
  A w := V5 m c (Proc.devRef .tc (Pipeline.arrRef spec0 w))
  after w _ := match w with
    | ⟨0, _⟩ => (V5 m c main_arg0 : S2048x1024.Idx → Elt F .bf16)
    | ⟨1, _⟩ => (V5 m c main_arg1 : S1024x2048.Idx → Elt F .bf16)
    | ⟨2, _⟩ => (V5 m c main_c : S32.Idx → BitVec 32)
    | ⟨3, _⟩ => (V5 m c main_v28 : S3.Idx → BitVec 32)
    | ⟨4, _⟩ => outVal (partialOf m) c
  Φ t := if t.val = 0 then iprop(Xk (partialOf m) allCells c ∗ scratch (F := F) c ∗ ∃ r, prngReg c r)
    else iprop(Yk (F := F) c ∗ (laneZero (F := F) c false ∗ laneZero (F := F) c true) ∗ scratch (F := F) c ∗ ∃ r, prngReg c r)
  q _ := fullShare
  owed t := if t.val = 0 then O₀ c else 0

def pdats (_ : Fin 1) (c : Dev nD) : Dat τ (Elt F) Unit ℕ UU ℕ cfg0 c := dat m c

theorem Φ_first (c : Dev nD) : (dat m c).Φ t0_0.castSucc = iprop(Xk (partialOf m) allCells c ∗ scratch (F := F) c ∗ ∃ r, prngReg c r) := rfl
theorem Φ_last (c : Dev nD) : (dat m c).Φ t0_0.succ
    = iprop(Yk (F := F) c ∗ (laneZero (F := F) c false ∗ laneZero (F := F) c true) ∗ scratch (F := F) c ∗ ∃ r, prngReg c r) := rfl

/-- A whole operand read through its window is the operand. -/
theorem blk_0 (f : S2048x1024.Idx → Elt F .bf16) : ((cfg0.win 0).blk t0_0).view.read (Elt F) f = f :=
  Memref.read_access_unit_zero (Elt F) main_arg0 (funext fun a => Nat.zero_mul _) _ f
theorem blk_1 (f : S1024x2048.Idx → Elt F .bf16) : ((cfg0.win 1).blk t0_0).view.read (Elt F) f = f :=
  Memref.read_access_unit_zero (Elt F) main_arg1 (funext fun a => Nat.zero_mul _) _ f
theorem blk_2 (f : S32.Idx → BitVec 32) : ((cfg0.win 2).blk t0_0).view.read (Elt F) f = f :=
  Memref.read_access_unit_zero (Elt F) main_c (funext fun a => Nat.zero_mul _) _ f
theorem blk_3 (f : S3.Idx → BitVec 32) : ((cfg0.win 3).blk t0_0).view.read (Elt F) f = f :=
  Memref.read_access_unit_zero (Elt F) main_v28 (funext fun a => Nat.zero_mul _) _ f
theorem blk_4 (f w : S64x2048.Idx → Elt F .f32) : ((cfg0.win 4).blk t0_0).view.write (Elt F) f w Finset.univ = w :=
  Memref.write_access_unit_zero_univ (Elt F) main_v29 (funext fun a => Nat.zero_mul _) _ f w

theorem before_0 (c : Dev nD) (d) : (dat (F := F) m c).before 0 t0_0 d = (V5 m c main_arg0 : S2048x1024.Idx → Elt F .bf16) := by
  unfold Dat.before; rw [if_pos (fetch0_0 t0_0)]; exact blk_0 (F := F) (V5 m c main_arg0)
theorem before_1 (c : Dev nD) (d) : (dat (F := F) m c).before 1 t0_0 d = (V5 m c main_arg1 : S1024x2048.Idx → Elt F .bf16) := by
  unfold Dat.before; rw [if_pos (fetch0_1 t0_0)]; exact blk_1 (F := F) (V5 m c main_arg1)
theorem before_2 (c : Dev nD) (d) : (dat (F := F) m c).before 2 t0_0 d = (V5 m c main_c : S32.Idx → BitVec 32) := by
  unfold Dat.before; rw [if_pos (fetch0_2 t0_0)]; exact blk_2 (F := F) (V5 m c main_c)
theorem before_3 (c : Dev nD) (d) : (dat (F := F) m c).before 3 t0_0 d = (V5 m c main_v28 : S3.Idx → BitVec 32) := by
  unfold Dat.before; rw [if_pos (fetch0_3 t0_0)]; exact blk_3 (F := F) (V5 m c main_v28)

theorem owed_first (c : Dev nD) : (dat m c).owed t0_0.castSucc = O₀ c := rfl
theorem owed_zero (c : Dev nD) : (dat m c).owed 0 = O₀ c := by
  show (if ((0 : Fin (cfg0.N + 1)).val = 0) then O₀ c else 0) = O₀ c; exact if_pos rfl
theorem owed_last (c : Dev nD) : (dat m c).owed (Fin.last cfg0.N) = 0 := by
  show (if (Fin.last cfg0.N).val = 0 then O₀ c else 0) = 0
  rw [Fin.val_last, if_neg (by rw [show cfg0.N = 1 from N_0]; decide)]

theorem owes_out (c : Dev nD) : ((dat m c).owesAt () t0_0.castSucc : sProp 𝕄) ⊢ owing (F := F) c (O₀ c) := by
  unfold Dat.owesAt Pipeline.owesWithin owing; rw [owed_first]
  iintro ⟨%W, -, HO⟩; iexists W; iexact HO
theorem owes_back (c : Dev nD) : (owing c 0 : sProp 𝕄) ⊢ (dat m c).owesAt () t0_0.succ := by
  unfold Dat.owesAt Pipeline.owesWithin Dat.bound owing
  iintro ⟨%W, HO⟩; iexists W; isplitr; · ipureintro; exact fun _ _ => Or.inl trivial
  iexact HO

/-! ## The body's obligation -/

theorem enter_shuffle (X C R O A B T M G : sProp 𝕄) : iprop((X ∗ C ∗ R) ∗ O ∗ A ∗ B ∗ T ∗ M ∗ G) ⊢ iprop(X ∗ C ∗ R ∗ O ∗ A ∗ B ∗ T ∗ M ∗ G) := by
  iintro ⟨⟨HX, HC, HR⟩, H⟩
  isplitl [HX]; · iexact HX
  isplitl [HC]; · iexact HC
  isplitl [HR] <;> iassumption
theorem leave_shuffle (Y Z C R O W : sProp 𝕄) : iprop(Y ∗ Z ∗ C ∗ R ∗ O ∗ W) ⊢ iprop((Y ∗ Z ∗ C ∗ R) ∗ O ∗ W) := by
  iintro ⟨HY, HZ, HC, HR, H⟩
  isplitr [H]
  · isplitl [HY]; · iexact HY
    isplitl [HZ]; · iexact HZ
    isplitl [HC] <;> iassumption
  iexact H
theorem exists_drop {D : Type} (W : sProp 𝕄) : iprop(∃ _ : D, W) ⊢ W := by iintro ⟨%d, H⟩; iexact H
theorem exists_keep {D : Type} {Y : Type} (f : D → Y) (W : Y → sProp 𝕄) : iprop(∃ d : D, W (f d)) ⊢ iprop(∃ y, W y) := by
  iintro ⟨%d, H⟩; iexists (f d); iexact H

theorem stage_0 (c : Dev nD) (X : S2048x1024.Idx → Elt F .bf16) :
    (owns (c : Thread nD τ) ((cfg0.win 0).stage (cfg0.slots t0_0 0)) fullShare X : sProp 𝕄) = aAt c X := owns_whole (Val := Elt F) (c : Thread nD τ) cc0_stg0_0 fullShare X
theorem stage_1 (c : Dev nD) (X : S1024x2048.Idx → Elt F .bf16) :
    (owns (c : Thread nD τ) ((cfg0.win 1).stage (cfg0.slots t0_0 1)) fullShare X : sProp 𝕄) = bAt c X := owns_whole (Val := Elt F) (c : Thread nD τ) cc0_stg1_0 fullShare X
theorem stage_2 (c : Dev nD) (X : S32.Idx → BitVec 32) :
    (owns (c : Thread nD τ) ((cfg0.win 2).stage (cfg0.slots t0_0 2)) fullShare X : sProp 𝕄) = tblAt (F := F) c X := owns_whole (Val := Elt F) (c : Thread nD τ) cc0_stg2_0 fullShare X
theorem stage_3 (c : Dev nD) (X : S3.Idx → BitVec 32) :
    (owns (c : Thread nD τ) ((cfg0.win 3).stage (cfg0.slots t0_0 3)) fullShare X : sProp 𝕄) = metaAt (F := F) c X := owns_whole (Val := Elt F) (c : Thread nD τ) cc0_stg3_0 fullShare X
theorem stage_4 (c : Dev nD) (X : S64x2048.Idx → Elt F .f32) :
    (owns (c : Thread nD τ) ((cfg0.win 4).stage (cfg0.slots t0_0 4)) fullShare X : sProp 𝕄) = outAt c X := owns_whole (Val := Elt F) (c : Thread nD τ) cc0_stg4_0 fullShare X

theorem in_0 (c : Dev nD) : iprop(∃ d, owns (c : Thread nD τ) ((cfg0.win 0).stage (cfg0.slots t0_0 0)) fullShare ((dat m c).before 0 t0_0 d))
    ⊢ (aAt (F := F) c (V5 m c main_arg0) : sProp 𝕄) := by
  simp only [before_0, stage_0 (F := F)]; exact exists_drop _
theorem in_1 (c : Dev nD) : iprop(∃ d, owns (c : Thread nD τ) ((cfg0.win 1).stage (cfg0.slots t0_0 1)) fullShare ((dat m c).before 1 t0_0 d))
    ⊢ (bAt (F := F) c (V5 m c main_arg1) : sProp 𝕄) := by
  simp only [before_1, stage_1 (F := F)]; exact exists_drop _
theorem in_2 (c : Dev nD) : iprop(∃ d, owns (c : Thread nD τ) ((cfg0.win 2).stage (cfg0.slots t0_0 2)) fullShare ((dat m c).before 2 t0_0 d))
    ⊢ (tblAt (F := F) c (V5 m c main_c) : sProp 𝕄) := by
  simp only [before_2, stage_2 (F := F)]; exact exists_drop _
theorem in_3 (c : Dev nD) : iprop(∃ d, owns (c : Thread nD τ) ((cfg0.win 3).stage (cfg0.slots t0_0 3)) fullShare ((dat m c).before 3 t0_0 d))
    ⊢ (metaAt (F := F) c (V5 m c main_v28) : sProp 𝕄) := by
  simp only [before_3, stage_3 (F := F)]; exact exists_drop _
theorem in_4 (c : Dev nD) : iprop(∃ d, owns (c : Thread nD τ) ((cfg0.win 4).stage (cfg0.slots t0_0 4)) fullShare ((dat m c).before 4 t0_0 d))
    ⊢ iprop(∃ f, (outAt (F := F) c f : sProp 𝕄)) := by
  simp only [stage_4 (F := F)]; exact exists_keep _ _

theorem body_enter (c : Dev nD) :
    iprop((dat m c).Φ t0_0.castSucc ∗ (dat m c).owesAt () t0_0.castSucc
      ∗ (∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d))
      ∗ (∃ d, owns (c : Thread nD τ) ((cfg0.win 2).stage (cfg0.slots t0_0 2)) fullShare ((dat m c).before 2 t0_0 d))
      ∗ (∃ d, owns (c : Thread nD τ) ((cfg0.win 3).stage (cfg0.slots t0_0 3)) fullShare ((dat m c).before 3 t0_0 d))
      ∗ (∃ d, owns (c : Thread nD τ) ((cfg0.win 4).stage (cfg0.slots t0_0 4)) fullShare ((dat m c).before 4 t0_0 d)))
      ⊢ Enter (partialOf m) (V5 m c main_c) c (V5 m c main_v28) (V5 m c main_arg0) (V5 m c main_arg1) allCells := by
  rw [Φ_first]
  unfold Enter
  exact (BIClass.sep_mono .rfl <| BIClass.sep_mono (owes_out m c) <| BIClass.sep_mono (in_0 m c) <| BIClass.sep_mono (in_1 m c) <| BIClass.sep_mono (in_2 m c) <|
    BIClass.sep_mono (in_3 m c) (in_4 m c)).trans (enter_shuffle _ _ _ _ _ _ _ _ _)

theorem body_leave (c : Dev nD) :
    Leave (partialOf m) (V5 m c main_c) c (V5 m c main_v28) (V5 m c main_arg0) (V5 m c main_arg1)
      ⊢ iprop((dat m c).Φ t0_0.succ ∗ (dat m c).owesAt () t0_0.succ
      ∗ owns (c : Thread nD τ) ((cfg0.win 0).stage (cfg0.slots t0_0 0)) fullShare ((dat m c).after 0 t0_0)
      ∗ owns (c : Thread nD τ) ((cfg0.win 1).stage (cfg0.slots t0_0 1)) fullShare ((dat m c).after 1 t0_0)
      ∗ owns (c : Thread nD τ) ((cfg0.win 2).stage (cfg0.slots t0_0 2)) fullShare ((dat m c).after 2 t0_0)
      ∗ owns (c : Thread nD τ) ((cfg0.win 3).stage (cfg0.slots t0_0 3)) fullShare ((dat m c).after 3 t0_0)
      ∗ owns (c : Thread nD τ) ((cfg0.win 4).stage (cfg0.slots t0_0 4)) fullShare ((dat m c).after 4 t0_0)) := by
  rw [Φ_last, stage_0, stage_1, stage_2, stage_3, stage_4]
  unfold Leave
  exact (leave_shuffle _ _ _ _ _ _).trans (BIClass.sep_mono .rfl (BIClass.sep_mono (owes_back m c) .rfl))

theorem body_loop (c : Dev nD) : BodyObligation (dat m c) defs₀ 𝒱₀ () Set.univ := fun t => by
  obtain rfl := fin_N0 t
  rw [bigSep_W0, bigSep_W0]
  have hb : defs₀ (F := F) .tc cfg0.body (cfg0.bodyArgs t0_0 (cfg0.slots t0_0)) = ringBody := body_eq
  rw [hb]
  have h := (body_enter m c).trans ((body_between (partialOf m) has_all (V5 m c main_c) (table_cycle m c) c (V5 m c main_v28) (meta_words m c)
    (V5 m c main_arg0) (V5 m c main_arg1) rfl).trans (wp_mono _ _ _ fun _ => body_leave m c))
  refine BI.Entails.trans ?_ (BI.Entails.trans h ?_)
  · dsimp only; exact BI.Entails.refl _
  · clear hb h; generalize ringBody (F := F) = p; dsimp only; exact BI.Entails.refl _

end Cert.RingProof
-- ==== Proof.Record.lean ====
/-
# The region's record

The record of the kernel's region between the host's last buffers and the end: what it is entered with and what it leaves.
-/
module

public import proofs.«01_k».proof.Proof.Region
public import proofs.«01_k».proof.Proof.Gen.KernelIdeal.Regions
public import Idealize.ShloMosaic.Lib.Pipeline.RegionTalk

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-! ## The levels -/

theorem above_O₀ (c : Dev nD) : Above 0 (O₀ c) := by
  unfold O₀
  refine above_add (above_add (above_add ?_ ?_) ?_) ?_
  · exact above_lane c false 0 (by decide)
  · exact above_lane c true 0 (by decide)
  · exact above_tally (nb false c) (.reg barS) 1 (by rw [lv_bar]; decide)
  · exact above_tally (nb true c) (.reg barS) 1 (by rw [lv_bar]; decide)

theorem owed_above (c : Dev nD) (t : Fin (cfg0.N + 1)) : Above 0 ((dat m c).owed t) := by
  show Above 0 (if t.val = 0 then O₀ c else 0)
  split
  · exact above_O₀ c
  · exact above_zero 0

/-- No staging semaphore is one the kernel transfers with. -/
theorem stage_role : ∀ (w : Fin cfg0.W) (s : Fin (cfg0.win w).nbuf), roleOf (.dma ((cfg0.win w).sem s)) = none := by
  intro w
  fin_cases w <;> exact fun _ => rfl

theorem stage_level (c : Dev nD) (w : Fin cfg0.W) (s : Fin (cfg0.win w).nbuf) :
    lv ((c : Thread nD τ), .dma ((cfg0.win w).sem s)) () ≤ 0 := by
  unfold lv
  rw [if_neg (fun h => by cases h), stage_role w s]

/-! ## The invariant's two ends -/

theorem held_none (c : Dev nD) (W : Valuation τ sig (Elt F)) : (StableHlo.held (c : Thread nD τ) ∅ W : sProp 𝕄) = iprop(emp) := by
  unfold StableHlo.held; exact BI.bigSep_empty

theorem first_shuffle (s p X : sProp 𝕄) : iprop(s ∗ p ∗ emp ∗ X) ⊢ iprop(X ∗ s ∗ p) := by
  iintro ⟨Hs, Hp, -, HX⟩
  isplitl [HX]; · iexact HX
  isplitl [Hs] <;> iassumption
theorem last_shuffle (Y Z s p : sProp 𝕄) : iprop(Y ∗ Z ∗ s ∗ p) ⊢ iprop(s ∗ p ∗ emp ∗ Z ∗ Y) := by
  iintro ⟨HY, HZ, Hs, Hp⟩
  isplitl [Hs]; · iexact Hs
  isplitl [Hp]; · iexact Hp
  isplitr; · iempintro
  isplitl [HZ] <;> iassumption

theorem Φ_zero (c : Dev nD) : (dat m c).Φ 0 = iprop(Xk (partialOf m) allCells c ∗ scratch (F := F) c ∗ ∃ r, prngReg c r) := rfl
theorem Φ_end (c : Dev nD) : (dat m c).Φ (Fin.last cfg0.N)
    = iprop(Yk (F := F) c ∗ (laneZero (F := F) c false ∗ laneZero (F := F) c true) ∗ scratch (F := F) c ∗ ∃ r, prngReg c r) := rfl

theorem region_in (c : Dev nD) : iprop(Pipeline.scopedRest spec0 c ∗ (∃ r, prngReg c r) ∗ StableHlo.held (c.tc : Thread nD τ) ∅ (V5 m c) ∗ Xk (partialOf m) allCells c)
    ⊢ (dat m c).Φ 0 := by
  rw [Φ_zero, scratch_eq, held_none]; exact first_shuffle _ _ _

theorem region_out (c : Dev nD) : (dat m c).Φ (Fin.last cfg0.N)
    ⊢ iprop(Pipeline.scopedRest spec0 c ∗ (∃ r, prngReg c r) ∗ StableHlo.held (c.tc : Thread nD τ) ∅ (V6 m (outs m) c) ∗ Pipeline.ownSems0 osem c ∗ Yk (F := F) c) := by
  rw [Φ_end, scratch_eq, held_none, own_sems]; exact last_shuffle _ _ _ _

/-! ## The arrays -/

theorem arr_unscoped : ∀ w, (Pipeline.arrRef spec0 w).isScoped = false := by decide
theorem arrs_sub : Pipeline.arrRefs (τ := τ) spec0 ⊆ Pipeline.ucRefs τ sig := Pipeline.arrRefs_sub_ucRefs spec0 arr_unscoped

theorem result_arr : Proc.devRef (τ := τ) (sig := sig) .tc main_v29 ∈ Pipeline.arrRefs (τ := τ) spec0 :=
  Finset.mem_map_of_mem _ (Finset.mem_image.mpr ⟨4, Finset.mem_univ _, rfl⟩)

theorem rest_same (c : Dev nD) : ∀ b ∈ (Pipeline.ucRefs τ sig \ Pipeline.arrRefs (τ := τ) spec0) \ ∅, V6 m (outs m) c b = V5 m c b := fun b hb => by
  have hne : b ≠ Proc.devRef .tc main_v29 := fun e => by
    subst e
    exact (Finset.mem_sdiff.mp (Finset.mem_sdiff.mp hb).1).2 result_arr
  exact Function.update_of_ne hne _ _

theorem arr_end_in (c : Dev nD) (w : Fin cfg0.W) (hw : (cfg0.win w).isOut = false)
    (hr : Pipeline.arrRef spec0 w ∉ ([main_v29] : List (Ref sig .tc))) :
    (dat m c).arrAt w cfg0.N = V6 m (outs m) c (Proc.devRef .tc (Pipeline.arrRef spec0 w)) :=
  ((dat m c).arrAt_in w hw _).trans (V6_of m (outs m) c _ hr).symm

theorem arr_end_out (c : Dev nD) : (dat m c).arrAt 4 cfg0.N = V6 m (outs m) c (Proc.devRef .tc (Pipeline.arrRef spec0 4)) := by
  have h := (dat m c).arrAt_succ 4 t0_0
  rw [if_pos (flush0_4 t0_0)] at h
  exact (h.trans (blk_4 _ _)).trans (V6_result m c).symm

theorem arr_end (c : Dev nD) (w : Fin cfg0.W) : (dat m c).arrAt w cfg0.N = V6 m (outs m) c (Proc.devRef .tc (Pipeline.arrRef spec0 w)) := by
  fin_cases w
  · exact arr_end_in m c 0 rfl (by decide)
  · exact arr_end_in m c 1 rfl (by decide)
  · exact arr_end_in m c 2 rfl (by decide)
  · exact arr_end_in m c 3 rfl (by decide)
  · exact arr_end_out m c

set_option backward.isDefEq.respectTransparency.types false in
/-- The region. -/
def region : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ (Pipeline.ucRefs τ sig \ Pipeline.arrRefs (τ := τ) spec0) (Finset.empty_subset _) kit rfl (fun c => (body_loop m c).loose)
    (fun _ => 0) O₀ (fun c => (owed_zero m c).trans (zero_add _).symm) (owed_last m) (fun _ => rfl)
    (fun _ w => by unfold Dat.share; split <;> rfl)
    (V5 m) (V6 m (outs m)) (rest_same m)
    (Tk (partialOf m) allCells) Yk (Xk (partialOf m) allCells) Yk (region_open (partialOf m) allCells has_all) (region_in m) (region_out m)
    (fun c => by iintro H; imodintro; iexact H)
    (fun _ => 0)
    ⟨fun c _ _ => by rw [L_tc]; exact Finset.mem_singleton_self _, fun c w s => stage_level c w s, fun c t g i h => owed_above m c t g i h⟩
    (fun _ => iprop(emp))
    (fun _ _ => rfl) (arr_end m)

/-- What rides along the host's stretches. -/
def ride (c : Dev nD) : sProp 𝕄 := iprop((∃ r, prngReg c r) ∗ Tk (partialOf m) allCells c ∗ ∃ W, owes (c : Thread nD τ) (O₀ c) W)
/-- What is left beside the buffers. -/
def restEnd (c : Dev nD) : sProp 𝕄 := iprop(Yk (F := F) c ∗ ∃ W, owes (c : Thread nD τ) (0 : CellTallies nD τ sig Unit) W)

theorem pre_shuffle (a b p t o : sProp 𝕄) : iprop((a ∗ b) ∗ p ∗ t ∗ o) ⊢ iprop(a ∗ p ∗ (b ∗ emp) ∗ t ∗ o) := by
  iintro ⟨⟨Ha, Hb⟩, Hp, Ht, Ho⟩
  isplitl [Ha]; · iexact Ha
  isplitl [Hp]; · iexact Hp
  isplitl [Hb]
  · isplitl [Hb]; · iexact Hb
    iempintro
  isplitl [Ht] <;> iassumption
theorem post_shuffle (a b p t o : sProp 𝕄) : iprop(a ∗ p ∗ (b ∗ emp) ∗ t ∗ o) ⊢ iprop((a ∗ b) ∗ t ∗ o) := by
  iintro ⟨Ha, -, ⟨Hb, -⟩, Ht, Ho⟩
  isplitl [Ha Hb]; · isplitl [Ha] <;> iassumption
  isplitl [Ht] <;> iassumption

theorem region_pre (c : Dev nD) : iprop(StableHlo.held (c : Thread nD τ) (Pipeline.ucRefs τ sig) (V5 m c) ∗ ride m c) ⊢ (region m).pre c := by
  show _ ⊢ iprop(StableHlo.held (c.tc : Thread nD τ) (Pipeline.arrRefs (τ := τ) spec0) (V5 m c) ∗ (∃ r, prngReg c r)
    ∗ (StableHlo.held (c.tc : Thread nD τ) (Pipeline.ucRefs τ sig \ Pipeline.arrRefs (τ := τ) spec0) (V5 m c) ∗ emp)
    ∗ Tk (partialOf m) allCells c ∗ ∃ Wd, owes (c : Thread nD τ) (0 + O₀ c) Wd)
  rw [zero_add, StableHlo.held_sub_split (c.tc : Thread nD τ) arrs_sub (V5 m c)]
  unfold ride
  exact pre_shuffle _ _ _ _ _

theorem region_post (c : Dev nD) : (region m).post c ⊢ iprop(StableHlo.held (c : Thread nD τ) (Pipeline.ucRefs τ sig) (V6 m (outs m) c) ∗ restEnd (F := F) c) := by
  show iprop(StableHlo.held (c.tc : Thread nD τ) (Pipeline.arrRefs (τ := τ) spec0) (V6 m (outs m) c) ∗ (∃ r, prngReg c r)
    ∗ (StableHlo.held (c.tc : Thread nD τ) (Pipeline.ucRefs τ sig \ Pipeline.arrRefs (τ := τ) spec0) (V6 m (outs m) c) ∗ emp)
    ∗ Yk (F := F) c ∗ ∃ Wd, owes (c : Thread nD τ) (0 : CellTallies nD τ sig Unit) Wd) ⊢ _
  rw [StableHlo.held_sub_split (c.tc : Thread nD τ) arrs_sub (V6 m (outs m) c)]
  unfold restEnd
  exact post_shuffle _ _ _ _ _

end Cert.RingProof
-- ==== Proof.Launch.lean ====
/-
# The run

The launch deals every device its part of the protocol; the program then runs to its end on all devices, and the end is read off.
-/
module

public import proofs.«01_k».proof.Proof.Record

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Dealing -/

section Dealing

variable (P : Dev nD → Prod F) (S B : Finset (GSem nD τ sig)) (hB : ∀ c, barCell c ∈ B)

/-- What any device may consult: every invariant, and that every barrier's round is reached. -/
def records (K : GSem nD τ sig → ℕ) : sProp 𝕄 := iprop(invs P S K ∗ bigSep B fun g => reached ER g 0)

instance records_persistent (K : GSem nD τ sig → ℕ) : BI.Persistent (records P S B K) := by unfold records; infer_instance

include hB in
theorem reached_bar (c : Dev nD) : (bigSep B fun g => (reached ER g 0 : sProp 𝕄)) ⊢ reached ER (barCell c) 0 := bigSep_elim (hB c)

/-- What is one device's alone. -/
def shareOf (c : Dev nD) : sProp 𝕄 :=
  iprop(atPos ER (barCell c) 0 ∅ 0 ∗ (laneSep c false (fun g => openTok ER g) ∗ laneSep c true (fun g => openTok ER g)) ∗ toksOf (F := F) c)

include hB in
theorem share_start (K : GSem nD τ sig → ℕ) (c : Dev nD) : iprop(records P S B K ∗ (shareOf (F := F) c ∗ credsOf (F := F) c)) ⊢ Tk P S c := by
  unfold records shareOf credsOf toksOf Tk laneDormant barStart
  iintro ⟨⟨#HI, #HR⟩, ⟨Hat, ⟨Ho0, Ho1⟩, Htr, Htf, ⟨Hs0, Hr0⟩, ⟨Hs1, Hr1⟩⟩, Hcb, Hc0, Hc1⟩
  iexists K
  isplitr; · iexact HI
  isplitl [Ho0 Hc0 Hs0 Hr0]
  · isplitl [Ho0]; · iexact Ho0
    isplitl [Hc0]; · iexact Hc0
    isplitl [Hs0] <;> iassumption
  isplitl [Ho1 Hc1 Hs1 Hr1]
  · isplitl [Ho1]; · iexact Ho1
    isplitl [Hc1]; · iexact Hc1
    isplitl [Hs1] <;> iassumption
  isplitl [Hat]; · iexact Hat
  isplitl [Hcb]; · iexact Hcb
  isplitl [Htr]; · iexact Htr
  isplitr; · iapply (reached_bar B hB (nb true c)); iexact HR
  isplitl [Htf]; · iexact Htf
  iapply (reached_bar B hB (nb false c)); iexact HR

end Dealing

theorem split_pair {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)
theorem join_pair {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm

/-- Everything on device 0. -/
def onFirst (X : sProp (MT nD τ sig Unit (Elt F) ℕ UU ℕ)) (c : Dev nD) : sProp 𝕄 := if c = 0 then X else iprop(emp)
theorem onFirst_all (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The protocol's element of the launch, and the whole of it. -/
def ringElem : UB := launchOf barCells talkCells talkToks
def launchElem : UU := (initOf (Pipeline.cells (Pipeline.pin (pcfgs (F := F)) adm) cellOf_inj) (Pipeline.launchToks (Pipeline.pin (pcfgs (F := F)) adm) cellOf_inj), ringElem)
def handed (c : Dev nD) : sProp 𝕄 := onFirst (BI.own (ER ringElem)) c

theorem handed_all : (bigSep Finset.univ (handed (F := F)) : sProp 𝕄) ⊢ BI.own (ER ringElem) := Entails.of_eq (onFirst_all _)

/-- Every cell set up: the barriers from their counters, the transfer cells to be opened later. -/
theorem fund (P : Dev nD → Prod F) (B T S : Finset (GSem nD τ sig)) (hS : B ∪ T = S) (hd : Disjoint B T) (Tok : Finset (GSem nD τ sig × ℕ × Bool)) :
    iprop(bigSep B (fun g => (semVal g 0 : sProp 𝕄)) ∗ BI.own (ER (launchOf B T Tok)))
      ⊢ |={Set.univ}=> iprop(∃ K : GSem nD τ sig → ℕ, invs P S K ∗ bigSep B (fun g => reached ER g 0) ∗ bigSep B (fun g => atPos ER g 0 ∅ 0)
        ∗ bigSep T (fun g => openTok ER g) ∗ bigSep Tok (fun x => dutyTok ER x.1 x.2.1 x.2.2)) := by
  subst hS
  iintro H
  imod (Rounds.fund_launch ER (ringRd P) hd (fun g _ h => h) Tok) $$ H with ⟨%K, -, Hinv, H⟩
  imodintro
  iexists K
  unfold invs
  isplitl [Hinv]; · iexact Hinv
  iexact H

variable (m : (ℓ : Loc nD τ sig) → Buf (Elt F) ℓ) (ρ : Dev nD → PrngReg)

theorem bar_counter (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's launch holdings that are not the protocol's. -/
def carried (c : Dev nD) : sProp 𝕄 := iprop((∃ r, prngReg c r) ∗ owing (F := F) c (O₀ c))

theorem core_split (c : Dev nD) :
    iprop(unscopedSems0 c ∗ owes (c : Thread nD τ) (O₀ c) ∅ ∗ Pipeline.launchCred O₀ c ∗ prngReg c (ρ c) ∗ handed (F := F) c)
      ⊢ (iprop((credsOf (F := F) c ∗ carried (F := F) c) ∗ (semVal (barCell c) 0 ∗ handed (F := F) c)) : sProp 𝕄) := by
  rw [bar_counter]
  unfold carried owing
  iintro ⟨Hv, HO, Hcr, Hp, HG⟩
  isplitr [Hv HG]
  · isplitl [Hcr]; · iapply (creds_split (F := F) c); iexact Hcr
    isplitl [Hp]; · iexists (ρ c); iexact Hp
    iexists ∅; iexact HO
  isplitl [Hv] <;> iassumption

theorem core_split_all :
    (bigSep Finset.univ fun c : Dev nD => iprop(unscopedSems0 c ∗ owes (c : Thread nD τ) (O₀ c) ∅ ∗ Pipeline.launchCred O₀ c ∗ prngReg c (ρ c) ∗ handed (F := F) c))
      ⊢ (bigSep Finset.univ fun c : Dev nD => iprop((credsOf (F := F) c ∗ carried (F := F) c) ∗ (semVal (barCell c) 0 ∗ handed (F := F) c)) : sProp 𝕄) :=
  bigSep_mono fun c _ => core_split ρ c

/-- What rides along, for a product and a set of cells. -/
def rideOf (P : Dev nD → Prod F) (S : Finset (GSem nD τ sig)) (c : Dev nD) : sProp 𝕄 :=
  iprop((∃ r, prngReg c r) ∗ Tk P S c ∗ ∃ W, owes (c : Thread nD τ) (O₀ c) W)

section Deal

variable (P : Dev nD → Prod F) (B T S : Finset (GSem nD τ sig)) (Tok : Finset (GSem nD τ sig × ℕ × Bool))
variable (hB : ∀ c, barCell c ∈ B) (hS : B ∪ T = S) (hd : Disjoint B T)

include hB in
/-- A device's share with what it carries is what rides along. -/
theorem share_ride (K : GSem nD τ sig → ℕ) (c : Dev nD) :
    iprop(records P S B K ∗ (shareOf (F := F) c ∗ (credsOf (F := F) c ∗ carried (F := F) c))) ⊢ rideOf P S c := by
  unfold rideOf carried owing
  iintro ⟨#HR, Hs, Hc, Hp, HO⟩
  isplitl [Hp]; · iexact Hp
  isplitr [HO]
  · iapply (share_start P S B hB K c)
    isplitr; · iexact HR
    isplitl [Hs] <;> iassumption
  iexact HO

include hB hS hd in
theorem deal_all
    (hbar : ∀ Φ : GSem nD τ sig → sProp 𝕄, bigSep B Φ = bigSep Finset.univ (fun c : Dev nD => Φ (barCell c)))
    (htalk : ∀ Φ : GSem nD τ sig → sProp 𝕄, bigSep T Φ = bigSep Finset.univ (fun c : Dev nD => iprop(laneSep c false Φ ∗ laneSep c true Φ)))
    (htok : bigSep Tok (fun x => (dutyTok ER x.1 x.2.1 x.2.2 : sProp 𝕄)) = bigSep Finset.univ (fun c : Dev nD => toksOf c)) :
    iprop(bigSep Finset.univ (fun c : Dev nD => iprop(credsOf (F := F) c ∗ carried (F := F) c)) ∗ bigSep Finset.univ (fun c : Dev nD => semVal (barCell c) 0)
        ∗ BI.own (ER (launchOf B T Tok)))
      ⊢ (|={Set.univ}=> bigSep Finset.univ (rideOf P S) : sProp 𝕄) := by
  iintro ⟨HB, Hv, Hu⟩
  imod (fund P B T S hS hd Tok) $$ [Hv Hu] with ⟨%K, #Hinv, #Hr, Hat, Hopen, Htok⟩
  · isplitl [Hv]
    · iapply (Entails.of_eq (hbar fun g => semVal g 0).symm); iexact Hv
    · iexact Hu
  imodintro
  iapply (bigSep_with_persistent (R := records P S B K) (Φ := fun c => iprop(shareOf (F := F) c ∗ (credsOf (F := F) c ∗ carried (F := F) c)))
    fun c _ => share_ride P B S hB K c)
  isplitr
  · unfold records
    isplitr; · iexact Hinv
    iexact Hr
  iapply join_pair
  isplitr [HB]
  · unfold shareOf
    iapply join_pair; isplitl [Hat]; · iapply (Entails.of_eq (hbar fun g => atPos ER g 0 ∅ 0)); iexact Hat
    iapply join_pair; isplitl [Hopen]; · iapply (Entails.of_eq (htalk fun g => openTok ER g)); iexact Hopen
    iapply (Entails.of_eq htok); iexact Htok
  · iexact HB

end Deal

theorem ring_deal (P : Dev nD → Prod F) :
    iprop(bigSep Finset.univ (fun c : Dev nD => iprop(credsOf (F := F) c ∗ carried (F := F) c)) ∗ bigSep Finset.univ (fun c : Dev nD => semVal (barCell c) 0)
        ∗ BI.own (ER ringElem))
      ⊢ (|={Set.univ}=> bigSep Finset.univ (rideOf P allCells) : sProp 𝕄) :=
  deal_all P barCells talkCells allCells talkToks bar_mem rfl cells_disjoint bar_sep talk_sep toks_deal

/-- What the launch hands the devices, gathered by kind. -/
theorem launch_gather :
    iprop((bigSep Finset.univ fun c : Dev nD => iprop(unscopedSems0 c ∗ owes (c : Thread nD τ) (O₀ c) ∅ ∗ Pipeline.launchCred O₀ c ∗ prngReg c (ρ c) ∗ handed (F := F) c))
        ∗ levAts L lv)
      ⊢ iprop(bigSep Finset.univ (fun c : Dev nD => iprop(credsOf (F := F) c ∗ carried (F := F) c)) ∗ bigSep Finset.univ (fun c : Dev nD => semVal (barCell c) 0)
        ∗ BI.own (ER ringElem)) := by
  iintro ⟨H, -⟩
  ihave H' := (core_split_all (F := F) ρ) $$ H
  ihave H2 := split_pair $$ H'; icases H2 with ⟨HB, H3⟩
  ihave H4 := split_pair $$ H3; icases H4 with ⟨Hv, HG⟩
  ihave Hu := (handed_all (F := F)) $$ HG
  isplitl [HB]; · iexact HB
  isplitl [Hv] <;> iassumption

/-- Every device gets what rides along from what the launch hands out. -/
theorem launch_deal :
    iprop((bigSep Finset.univ fun c : Dev nD => iprop(unscopedSems0 c ∗ owes (c : Thread nD τ) (O₀ c) ∅ ∗ Pipeline.launchCred O₀ c ∗ prngReg c (ρ c) ∗ handed (F := F) c))
        ∗ levAts L lv)
      ⊢ (|={Set.univ}=> bigSep Finset.univ (ride m) : sProp 𝕄) :=
  BI.Entails.trans (launch_gather ρ) (ring_deal (partialOf m))

/-- The launch: the buffers as they are, and what rides along. -/
theorem launch_init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ handed (F := F) c)) ∗ levAts L lv)
      ⊢ (|={Set.univ}=> bigSep Finset.univ (fun c : Dev nD => iprop(StableHlo.held (c : Thread nD τ) (Pipeline.ucRefs τ sig) (V0 m c) ∗ ride m c)) : sProp 𝕄) := by
  have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ handed (F := F) c))
      ⊢ (iprop((bigSep Finset.univ fun c : Dev nD => StableHlo.held (c : Thread nD τ) (Pipeline.ucRefs τ sig) (V0 m c))
          ∗ bigSep Finset.univ fun c : Dev nD => iprop(unscopedSems0 c ∗ owes (c.tc : Thread nD τ) (O₀ c) ∅ ∗ Pipeline.launchCred O₀ c ∗ prngReg c (ρ c) ∗ handed (F := F) c))
          : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (launch_deal m ρ) $$ [Hr Hla] with HE
  · isplitl [Hr] <;> iassumption
  imodintro
  rw [bigSep_sep']
  isplitl [Hh]; · iexact Hh
  iexact HE

theorem launch_elem : (ownU (launchElem (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ (handed (F := F))) := by
  have hall : bigSep Finset.univ (handed (F := F)) = BI.own (ER ringElem) := onFirst_all _
  rw [hall]
  unfold launchElem
  iintro Hu
  ihave H := (ownU_pair _ _) $$ Hu
  icases H with ⟨HP, HX⟩
  imodintro
  isplitl [HP]; · iexact HP
  iexact HX

/-! ## The end -/

theorem unscoped_eq : ∀ sm : SemLoc sig, sm.isScoped .tc = false → sm = .reg barS := by decide

/-- What a device's end says of its memory and its barrier. -/
def EndsAt (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v29) = outVal (partialOf m) c) ∧ s.sem (barCell c) = 0

theorem unscoped_mem (r : Ref sig .tc) (h : ¬ r.isScoped = true) : Proc.devRef (τ := τ) .tc r ∈ Pipeline.ucRefs τ sig :=
  Finset.mem_filter.mpr ⟨StableHlo.devRef_mem_tcRefs r, h⟩

theorem end_read (c : Dev nD) (s : Phys nD τ sig (Elt F)) :
    iprop((StableHlo.held (c : Thread nD τ) (Pipeline.ucRefs τ sig) (V6 m (outs m) c) ∗ Yk (F := F) c) ∗ SI s)
      ⊢ (|={Set.univ}=> iprop(⌜EndsAt m c s.mem⌝ ∗ SI s) : sProp 𝕄) := by
  unfold StableHlo.held Yk
  iintro ⟨⟨Hh, Hb⟩, HSI⟩
  icombine HSI Hb gives %hb
  ihave Hr := (pointsTo_read_all (Pipeline.ucRefs τ sig) (fun b => ((c : Thread nD τ).1, b)) (V6 m (outs m) c) s) $$ [Hh HSI]
  · isplitl [Hh] <;> iassumption
  icases Hr with ⟨%h, HSI⟩
  imodintro
  isplitr
  · ipureintro
    exact ⟨⟨(h _ (unscoped_mem main_arg0 (by decide))).trans (V6_main_arg0 m (outs m) c),
      (h _ (unscoped_mem main_arg1 (by decide))).trans (V6_main_arg1 m (outs m) c),
      (h _ (unscoped_mem main_v29 (by decide))).trans (V6_result m c)⟩, by simpa using hb⟩
  iexact HSI

set_option backward.isDefEq.respectTransparency.types false in
/-- From any memory with every counter at zero the program runs to its end on every device; each argument is as it was, each result is
the device's rows of the sum, and every counter is back at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v29) = outVal (partialOf m) c) ∧ r.2.sem = fun _ => 0) :=
  Pipeline.θ_run_regions_kit_dev_sems (pcfgs (F := F)) adm (pdats m) () cellOf_inj EP defs₀ 𝒱₀ L lv m ρ main
    (segs m 𝒱₀ L lv (fun _ => ride m) () (pdats m) (region m))
    (fun c Q => by
      rewrite [main_chain c, Pipeline.Seg.run_eq_chain,
        show (segs m 𝒱₀ L lv (fun _ => ride m) () (pdats m) (region m) c).map Pipeline.Seg.prog = [StableHlo.seq (hostOps0 c), StableHlo.seq hostOps0_1,
          StableHlo.seq hostOps0_2, StableHlo.seq hostOps0_3, StableHlo.seq hostOps0_4, Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    O₀ L_of_ne (handed (F := F)) launchElem launch_elem
    (fun c => iprop(StableHlo.held (c : Thread nD τ) (Pipeline.ucRefs τ sig) (V0 m c) ∗ ride m c))
    (fun c => iprop(StableHlo.held (c : Thread nD τ) (Pipeline.ucRefs τ sig) (V6 m (outs m) c) ∗ Yk (F := F) c))
    (fun c => ⟨.rfl, .rfl, .rfl, .rfl, .rfl, region_pre m c, (region_post m c).trans (by unfold restEnd; exact BI.sep_assoc')⟩)
    (launch_init m ρ) (EndsAt m) (end_read m)
    (fun s h hs => ⟨fun c => (h c).1, sem_eq_zero hs fun c sm hsm => by
      obtain rfl := unscoped_eq sm hsm
      exact (h c).2⟩)

end Cert.RingProof
-- ==== Proof.Frames.lean ====
/-
# The kernel's frame

One run, at any float values, gives the frame of the kernel as printed and of its idealization: the two have the same text.
-/
module

public import proofs.«01_k».proof.Defs
public import proofs.«01_k».proof.Proof.Gen.Kernel
public import proofs.«01_k».proof.Proof.Launch

@[expose] public section

noncomputable section

namespace Cert.RingProof

open Idealize.ShloMosaic Idealize.SL.Sem

/-- The frame, said of the idealization's text at any float values. -/
def Framed (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem framed (F : FTy → Type) [FloatOps F] : Framed F := fun m ρ _ =>
  (θ_run Cert.KernelIdeal.defs _ _).mono (fun _ h => ⟨fun c => ⟨(h.1 c).1, (h.1 c).2.1⟩, h.2⟩) (run_main (F := F) m ρ)

theorem frame_ideal : Cert.quiescent_KernelIdeal := framed Ideal

/-- The kernel as printed and its idealization are one text. -/
theorem same_frame : Framed Bits = Cert.quiescent_Kernel := by sl_kernel_rfl

theorem frame_kernel : Cert.quiescent_Kernel := same_frame ▸ framed Bits

end Cert.RingProof
-- ==== Proof.Ring.lean ====
/-
# What travels round the ring, as sums

Over the extended reals the casts do nothing, so what a device sends is the sum of the local products of the devices it has come
through, and what a device ends with is the sum over all of them.
-/
module

public import proofs.«01_k».proof.Proof.Product
public import Idealize.ShloMosaic.PureOps.Ideal
public import Idealize.ShloMosaic.PureOps.Ideal.Laws
public import Idealize.ShloMosaic.Lib.ValueIdx
public import Idealize.ShloMosaic.Lib.Pipeline.ValueKit.Geometry

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (P : Dev nD → Prod Ideal)

/-- The index of the local product at row `i 0` of device `r`'s rows and column `i 1` of column half `b`. -/
def pIdx (r : Dev nD) (b : ℕ) (hb : b < 2) (i : S64x1024.Idx) : S2048x2048.Idx := fun
  | ⟨0, _⟩ => ⟨64 * r.val + (i 0).val, by
      have h0 : (i 0).val < 64 := (i 0).isLt
      have hr : r.val < 32 := r.isLt
      show _ < 2048; omega⟩
  | ⟨1, _⟩ => ⟨1024 * b + (i 1).val, by
      have h1 : (i 1).val < 1024 := (i 1).isLt
      show _ < 2048; omega⟩

theorem pIdx_congr (r : Dev nD) {b b' : ℕ} (e : b = b') (hb : b < 2) (hb' : b' < 2) (i : S64x1024.Idx) : pIdx r b hb i = pIdx r b' hb' i := by
  subst e; rfl

theorem pHalf_at (X : Prod Ideal) (r : Dev nD) (b : ℕ) (hb : b < 2) (i : S64x1024.Idx) : pHalf X r b hb i = X (pIdx r b hb i) := by
  show X ((pRect (wd r) b (pInb r hb)).emb i) = _
  refine congrArg X (funext fun a => Fin.ext ?_)
  match a with
  | ⟨0, _⟩ =>
    refine (ValueKit.rect_emb_unit_val _ _ _ _ _).trans ?_
    show (Scalar.muli (wd r) 64#32).toNat + (i 0).val = 64 * r.val + (i 0).val
    rw [wd_mul]
  | ⟨1, _⟩ => exact ValueKit.rect_emb_unit_val _ _ _ _ _

theorem addHalf_at (x y : Half Ideal) (i : S64x1024.Idx) : addHalf x y i = x i + y i := rfl

/-- The device `k` hops before `c` on lane `d`. -/
def back (d : Bool) (k : ℕ) (c : Dev nD) : Dev nD := match d with | false => cyc (pos c + 31 * k) | true => cyc (pos c + k)

theorem back_zero (d : Bool) (c : Dev nD) : back d 0 c = c := by cases d <;> exact cyc_pos c
theorem back_succ (d : Bool) (k : ℕ) (c : Dev nD) : back d k (nb (!d) c) = back d (k + 1) c := by
  cases d
  · exact cyc_congr (by show (pos (nb true c) + 31 * k) % 32 = _; rw [pos_nb_true]; omega)
  · exact cyc_congr (by show (pos (nb false c) + k) % 32 = _; rw [pos_nb_false]; omega)
/-- A row block keeps its name as it travels. -/
theorem row_succ (d : Bool) (s : ℕ) (hs : s < 48) (c : Dev nD) : row d s (nb (!d) c) = row d (s + 1) c := by
  cases d
  · exact cyc_congr (by show (pos (nb true c) + 48 - s) % 32 = (pos c + 48 - (s + 1)) % 32; rw [pos_nb_true]; have := pos_lt c; omega)
  · exact cyc_congr (by show (pos (nb false c) + 17 + s) % 32 = (pos c + 17 + (s + 1)) % 32; rw [pos_nb_false]; omega)

/-- What is sent in step `s` is the sum of `s + 1` devices' products. -/
theorem sent_at (d : Bool) (b : ℕ) (hb : b < 2) (s : ℕ) (hs : s < 48) (c : Dev nD) (i : S64x1024.Idx) :
    sent P d (2 * s + b) c i = ∑ k ∈ Finset.range (s + 1), P (back d k c) (pIdx (row d s c) b hb i) := by
  induction s generalizing c with
  | zero =>
    rw [Finset.sum_range_one, back_zero, ← pHalf_at (P c)]
    obtain rfl | rfl : b = 0 ∨ b = 1 := by omega
    · rfl
    · rfl
  | succ s ih =>
    have e : 2 * (s + 1) + b = (2 * s + b) + 2 := by omega
    rw [e]
    show addHalf (pHalf (P c) (row d ((2 * s + b) / 2 + 1) c) ((2 * s + b) % 2) (mod_two_lt _)) (sent P d (2 * s + b) (nb (!d) c)) i = _
    rw [addHalf_at, ih (by omega), pHalf_at, row_succ d s (by omega), Finset.sum_range_succ' _ (s + 1), back_zero, add_comm]
    simp only [back_succ]
    have e1 : (2 * s + b) / 2 = s := by omega
    have e2 : (2 * s + b) % 2 = b := by omega
    rw [e1, pIdx_congr (row d (s + 1) c) e2 _ hb]

/-- A sum over the devices, from any of them on round the ring. -/
theorem sum_ring {M : Type} [AddCommMonoid M] (f : Dev nD → M) (c : Dev nD) : ∑ e, f e = ∑ n ∈ Finset.range 32, f (cyc (pos c + n)) := by
  refine (Finset.sum_bij' (fun n _ => cyc (pos c + n)) (fun e _ => (pos e + 32 - pos c) % 32) (fun _ _ => Finset.mem_univ _)
    (fun e _ => Finset.mem_range.mpr (Nat.mod_lt _ (by decide))) (fun n hn => ?_) (fun e _ => ?_) (fun _ _ => rfl)).symm
  · have := pos_lt c
    have := Finset.mem_range.mp hn
    show (pos (cyc (pos c + n)) + 32 - pos c) % 32 = n
    rw [pos_cyc]; omega
  · have := pos_lt c
    have := pos_lt e
    refine (cyc_congr ?_).trans (cyc_pos e)
    omega

/-- The device's own product, those that come one way and those that come the other are all of them. -/
theorem ring_total {M : Type} [AddCommMonoid M] (f : Dev nD → M) (c : Dev nD) :
    f c + (∑ k ∈ Finset.range 16, f (back false k (nb true c))) + ∑ k ∈ Finset.range 15, f (back true k (nb false c)) = ∑ e, f e := by
  rw [sum_ring f c, show (32 : ℕ) = (1 + 15) + 16 from rfl, Finset.sum_range_add, Finset.sum_range_add, Finset.sum_range_one,
    ← Finset.sum_range_reflect (fun k => f (cyc (pos c + (1 + 15 + k)))) 16]
  have e0 : f (cyc (pos c + 0)) = f c := congrArg f (cyc_pos c)
  have e1 : ∑ k ∈ Finset.range 16, f (back false k (nb true c)) = ∑ k ∈ Finset.range 16, f (cyc (pos c + (1 + 15 + (16 - 1 - k)))) :=
    Finset.sum_congr rfl fun k hk => congrArg f (by
      have := Finset.mem_range.mp hk
      refine cyc_congr ?_
      rw [pos_nb_true]; omega)
  have e2 : ∑ k ∈ Finset.range 15, f (back true k (nb false c)) = ∑ k ∈ Finset.range 15, f (cyc (pos c + (1 + k))) :=
    Finset.sum_congr rfl fun k _ => congrArg f (cyc_congr (by rw [pos_nb_false]; omega))
  rw [e0, e1, e2, add_right_comm]

/-- What device `c` ends with is the sum of every device's product over its rows. -/
theorem outHalf_at (c : Dev nD) (b : ℕ) (hb : b < 2) (i : S64x1024.Idx) : outHalf P c b hb i = ∑ e, P e (pIdx c b hb i) := by
  unfold outHalf outPay
  rw [down_up, down_up]
  show pHalf (P c) c b hb i + sent P false (2 * 15 + b) (nb true c) i + sent P true (2 * 14 + b) (nb false c) i = _
  have r0 : row false 15 (nb true c) = c := (cyc_congr (by rw [pos_nb_true]; omega)).trans (cyc_pos c)
  have r1 : row true 14 (nb false c) = c := (cyc_congr (by rw [pos_nb_false]; omega)).trans (cyc_pos c)
  rw [sent_at P false b hb 15 (by decide), sent_at P true b hb 14 (by decide), r0, r1, pHalf_at]
  exact ring_total (fun e => P e (pIdx c b hb i)) c

end Cert.RingProof
-- ==== Proof.Value.lean ====
/-
# The kernel's result is the product

A device's local product is the part of the contraction over its own columns of the left array and rows of the right one; the sum of
those parts over the devices is the whole contraction.
-/
module

public import proofs.«01_k».proof.Proof.Ring
public import proofs.«01_k».proof.Proof.Launch
public import proofs.«01_k».proof.Proof.Reference

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The local product -/

abbrev dotD : DotDims S512x1024 S1024x2048 S512x2048 := dot_S512x1024_S1024x2048_S512x2048_1_0_0_1_n_n

theorem dot_lhs0 (i : S512x2048.Idx) (q : dotD.contr.Idx) : (dotD.lhsIdx i q 0).val = (i 0).val := by
  unfold DotDims.lhsIdx
  rw [dif_neg (show ¬(0 : Fin S512x1024.rank) ∈ dotD.lhsBatch by decide), dif_pos (show (0 : Fin S512x1024.rank) ∈ dotD.lhsNonContracting by decide)]
  rfl
theorem dot_lhs1 (i : S512x2048.Idx) (q : dotD.contr.Idx) : (dotD.lhsIdx i q 1).val = (q ⟨0, by decide⟩).val := dotD.lhsIdx_val_of_single rfl i q
theorem dot_rhs0 (i : S512x2048.Idx) (q : dotD.contr.Idx) : (dotD.rhsIdx i q 0).val = (q ⟨0, by decide⟩).val := dotD.rhsIdx_val_of_single rfl i q
theorem dot_rhs1 (i : S512x2048.Idx) (q : dotD.contr.Idx) : (dotD.rhsIdx i q 1).val = (i 1).val := by
  unfold DotDims.rhsIdx
  rw [dif_neg (show ¬(1 : Fin S1024x2048.rank) ∈ dotD.rhsBatch by decide), dif_pos (show (1 : Fin S1024x2048.rank) ∈ dotD.rhsNonContracting by decide)]
  rfl

/-- Where the left array is read for the product's row and the contraction's place. -/
def aIdx (i : S2048x2048.Idx) (k : Fin 1024) : S2048x1024.Idx := fun | ⟨0, _⟩ => i 0 | ⟨1, _⟩ => k
/-- Where the right one is. -/
def bIdx (i : S2048x2048.Idx) (k : Fin 1024) : S1024x2048.Idx := fun | ⟨0, _⟩ => k | ⟨1, _⟩ => i 1

/-- A chunk's product at an index. -/
theorem chunkPay_at (x : FVec Ideal S512x1024 .bf16) (y : FVec Ideal S1024x2048 .bf16) (i : S512x2048.Idx) :
    chunkPay x y i = ∑ k : Fin 1024, x (ValueIdx.ix2 (i 0) k) * y (ValueIdx.ix2 k (i 1)) := by
  unfold chunkPay
  rw [shapeCast_self, shapeCast_self, shapeCast_self]
  show FloatOps.matmul dotD none x y (constant S512x2048 .f32 0x00000000#32) i = _
  rw [Ideal.matmul_constant_zero_apply, ← Equiv.sum_comp (ValueIdx.contrEquiv1 dotD 1024 rfl rfl).symm]
  refine Finset.sum_congr rfl fun k _ => ?_
  have hk := ValueIdx.contrEquiv1_symm_val dotD 1024 rfl rfl k
  congr 2
  · funext a
    match a with
    | ⟨0, _⟩ => exact Fin.ext (dot_lhs0 _ _)
    | ⟨1, _⟩ => exact Fin.ext ((dot_lhs1 _ _).trans hk)
  · funext a
    match a with
    | ⟨0, _⟩ => exact Fin.ext ((dot_rhs0 _ _).trans hk)
    | ⟨1, _⟩ => exact Fin.ext (dot_rhs1 _ _)

theorem rowsA_at (A : S2048x1024.Idx → Elt Ideal .bf16) (i : S2048x2048.Idx) (k : Fin 1024) :
    (aM.access (chunkRectA (row_chunk i))).read (Elt Ideal) A (ValueIdx.ix2 (inChunk i 0) k) = A (aIdx i k) := by
  show A ((chunkRectA (row_chunk i)).emb (ValueIdx.ix2 (inChunk i 0) k)) = _
  refine congrArg A (funext fun a => Fin.ext ?_)
  match a with
  | ⟨0, _⟩ =>
    refine (ValueKit.rect_emb_unit_val _ _ _ _ _).trans ?_
    show 512 * ((i 0).val / 512) + (i 0).val % 512 = (i 0).val
    omega
  | ⟨1, _⟩ => exact (ValueKit.rect_emb_unit_val _ _ _ _ _).trans (Nat.zero_add _)

theorem wholeB_at (B : S1024x2048.Idx → Elt Ideal .bf16) (i : S2048x2048.Idx) (k : Fin 1024) :
    (bM.access wholeRectB).read (Elt Ideal) B (ValueIdx.ix2 k (inChunk i 1)) = B (bIdx i k) := by
  show B (wholeRectB.emb (ValueIdx.ix2 k (inChunk i 1))) = _
  refine congrArg B (funext fun a => Fin.ext ?_)
  match a with
  | ⟨0, _⟩ => exact (ValueKit.rect_emb_unit_val _ _ _ _ _).trans (Nat.zero_add _)
  | ⟨1, _⟩ => exact (ValueKit.rect_emb_unit_val _ _ _ _ _).trans (Nat.zero_add _)

/-- The local product at an index. -/
theorem prodOf_at (A : S2048x1024.Idx → Elt Ideal .bf16) (B : S1024x2048.Idx → Elt Ideal .bf16) (i : S2048x2048.Idx) :
    prodOf A B i = ∑ k : Fin 1024, (show EReal from A (aIdx i k)) * (show EReal from B (bIdx i k)) := by
  unfold prodOf chunkOf
  rw [chunkPay_at]
  exact Finset.sum_congr rfl fun k _ => congrArg₂ (fun x y : EReal => x * y) (rowsA_at A i k) (wholeB_at B i k)

/-! ## The whole of it -/

variable (m : (ℓ : Loc nD τ sig) → Buf (Elt Ideal) ℓ)

theorem entry_arg0 (c : Dev nD) : V5 m c main_arg0 = m ((c : Thread nD τ).loc main_arg0) :=
  (V6_of m (outs m) c main_arg0 (by decide)).symm.trans (V6_main_arg0 m (outs m) c)
theorem entry_arg1 (c : Dev nD) : V5 m c main_arg1 = m ((c : Thread nD τ).loc main_arg1) :=
  (V6_of m (outs m) c main_arg1 (by decide)).symm.trans (V6_main_arg1 m (outs m) c)

/-- The result at an index, as the double sum over devices and their places of the contraction. -/
theorem outVal_at (c : Dev nD) (i : S64x2048.Idx) :
    outVal (partialOf m) c i = ∑ e : Dev nD, ∑ k : Fin 1024,
      (show EReal from (m ((e : Thread nD τ).loc main_arg0) : S2048x1024.Idx → Elt Ideal .bf16) (aIdx (pIdx c ((i 1).val / 1024) (col_half i) (inHalf i)) k))
        * (show EReal from (m ((e : Thread nD τ).loc main_arg1) : S1024x2048.Idx → Elt Ideal .bf16) (bIdx (pIdx c ((i 1).val / 1024) (col_half i) (inHalf i)) k)) := by
  unfold outVal
  rw [outHalf_at]
  refine Finset.sum_congr rfl fun e _ => ?_
  unfold partialOf
  rw [prodOf_at, entry_arg0, entry_arg1]

theorem kernel_value (A : (⟨2, ![2048, 32768]⟩ : Shape).Idx → Elt Ideal .bf16) (B : (⟨2, ![32768, 2048]⟩ : Shape).Idx → Elt Ideal .bf16)
    (hA : ∀ c : Dev nD, m ((c : Thread nD τ).loc main_arg0) = Layout.block ⟨2, ![2048, 1024]⟩ ⟨2, ![2048, 32768]⟩ 1 32 c A)
    (hB : ∀ c : Dev nD, m ((c : Thread nD τ).loc main_arg1) = Layout.block ⟨2, ![1024, 2048]⟩ ⟨2, ![32768, 2048]⟩ 0 32 c B) (c : Dev nD) :
    outVal (partialOf m) c = Layout.block ⟨2, ![64, 2048]⟩ ⟨2, ![2048, 2048]⟩ 0 32 c (Cert.ReferenceIdeal.Read.val_main_v2 (F := Ideal) A B) := by
  funext i
  rw [Layout.block_apply, Cert.ReferenceIdeal.Read.val_main_v2_apply, outVal_at,
    ← Equiv.sum_comp (finProdFinEquiv : Fin 32 × Fin 1024 ≃ Fin 32768), Fintype.sum_prod_type]
  refine Finset.sum_congr rfl fun e _ => Finset.sum_congr rfl fun k _ => ?_
  rw [hA e, hB e]
  show (A _ : EReal) * B _ = A _ * B _
  congr 2
  · funext a
    match a with
    | ⟨0, _⟩ => exact Fin.ext (by show 64 * c.val + (i 0).val = c.val * 64 + (i 0).val; omega)
    | ⟨1, _⟩ => exact Fin.ext (by show e.val * 1024 + k.val = k.val + 1024 * e.val; omega)
  · funext a
    match a with
    | ⟨0, _⟩ => exact Fin.ext (by show e.val * 1024 + k.val = k.val + 1024 * e.val; omega)
    | ⟨1, _⟩ => exact Fin.ext (by show 1024 * ((i 1).val / 1024) + (i 1).val % 1024 = (i 1).val; omega)

end Cert.RingProof
-- ==== Proof.Algebraic.lean ====
/-
# The kernel and the reference agree

Both run; the reference's array is the product, and each device's result is its rows of it.
-/
module

public import proofs.«01_k».proof.Proof.Value

@[expose] public section

noncomputable section

namespace Cert.RingProof

open Idealize.ShloMosaic Idealize.SL.Sem

theorem agree : Cert.algebraic_KernelIdeal_ReferenceIdeal := fun m ρ m' ρ' _ h =>
  ⟨Cert.ReferenceIdeal.Read.val_main_v2 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ r c => ⟨(r.1 c).2.2.trans (kernel_value m _ _ (fun e => (h e).1) (fun e => (h e).2) c), (r.1 c).1, (r.1 c).2.1⟩) (run_main (F := Ideal) m ρ),
    (θ_run Cert.ReferenceIdeal.defs _ _).mono
      (fun _ r => ⟨(r 0).1.trans (Cert.ReferenceIdeal.Read.val_main_v2_eq _ _), (r 0).2⟩) (Cert.ReferenceIdeal.Value.run m' ρ')⟩

end Cert.RingProof
-- ==== Proof.lean ====
/-
# The claims

The three frames, the idealization and the value of the ring reduce-scatter matrix product, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Reference
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  RingProof.frame_kernel, RingProof.frame_ideal, RingProof.frame_reference, trivial, RingProof.agree⟩

end Cert.Proof

end
